-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  bcast_S_S1024x16384 : S_.BroadcastsInDim S1024x16384 (![] : Fin 0 → Fin S1024x16384.rank)
  bcast_S_S1x2048x8x128 : S_.BroadcastsInDim S1x2048x8x128 (![] : Fin 0 → Fin S1x2048x8x128.rank)

variable [Facts]

def fn {F : FTy → Type} [FloatOps F] (main_arg0 : FVec F S1x2048x1024 .bf16) (main_arg1 : FVec F S1024x16384 .bf16) (main_arg2 : FVec F S1x2048x8x128 .bf16) (main_arg3 : FVec F S1x2048x8x128 .bf16) (main_arg4 : FVec F S16384x1024 .bf16) : IVec S1x2048x1024 1 × IVec S1024x16384 1 × IVec S1x2048x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x16384 .bf16 := Host.absf main_arg1
  let main_cst_0 : FVec F S_ .bf16 := constant S_ .bf16 0x7F80#16
  let main_v4 : FVec F S1024x16384 .bf16 := broadcastInDim S1024x16384 ![] bcast_S_S1024x16384 main_cst_0
  let main_v5 : IVec S1024x16384 1 := cmpf .olt main_v3 main_v4
  let main_v6 : FVec F S1x2048x8x128 .bf16 := Host.absf main_arg2
  let main_cst_1 : FVec F S_ .bf16 := constant S_ .bf16 0x7F80#16
  let main_v7 : FVec F S1x2048x8x128 .bf16 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  bcast_S_S1024x16384 : S_.BroadcastsInDim S1024x16384 (![] : Fin 0 → Fin S1024x16384.rank)
  bcast_S_S1x2048x128x128 : S_.BroadcastsInDim S1x2048x128x128 (![] : Fin 0 → Fin S1x2048x128x128.rank)

variable [Facts]

def fn {F : FTy → Type} [FloatOps F] (main_arg0 : FVec F S1x2048x1024 .bf16) (main_arg1 : FVec F S1024x16384 .bf16) (main_arg2 : FVec F S1x2048x128x128 .bf16) (main_arg3 : FVec F S1x2048x128x128 .bf16) (main_arg4 : FVec F S16384x1024 .bf16) : IVec S1x2048x1024 1 × IVec S1024x16384 1 × IVec S1x2048x128x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x16384 .bf16 := Host.absf main_arg1
  let main_cst_0 : FVec F S_ .bf16 := constant S_ .bf16 0x7F80#16
  let main_v4 : FVec F S1024x16384 .bf16 := broadcastInDim S1024x16384 ![] bcast_S_S1024x16384 main_cst_0
  let main_v5 : IVec S1024x16384 1 := cmpf .olt main_v3 main_v4
  let main_v6 : FVec F S1x2048x128x128 .bf16 := Host.absf main_arg2
  let main_cst_1 : FVec F S_ .bf16 := constant S_ .bf16 0x7F80#16
  let main_v7 : FVec F S1x2048x128x128 .bf16 := broadcastInDim S1x2048x128x128 ![] bcast_S_S1x2048x128x128 main_cst_1
  let main_v8 : IVec S1x2048x128x128 1 := cmpf .olt main_v6 main_v7
  (main_v2, main_v5, main_v8)
-- ==== Kernel.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩
abbrev S2048x1024 : Shape := ⟨2, ![2048, 1024]⟩
abbrev S1024x1024 : Shape := ⟨2, ![1024, 1024]⟩
abbrev S2048x8x128 : Shape := ⟨3, ![2048, 8, 128]⟩
abbrev S8x2048x128 : Shape := ⟨3, ![8, 2048, 128]⟩
abbrev S512x1024 : Shape := ⟨2, ![512, 1024]⟩
abbrev S256x1024 : Shape := ⟨2, ![256, 1024]⟩
abbrev S128x1024 : Shape := ⟨2, ![128, 1024]⟩
abbrev S4x2 : Shape := ⟨2, ![4, 2]⟩
abbrev S512x2048 : Shape := ⟨2, ![512, 2048]⟩
abbrev S512x128 : Shape := ⟨2, ![512, 128]⟩
abbrev S1x2048x128 : Shape := ⟨3, ![1, 2048, 128]⟩
abbrev S2048x128 : Shape := ⟨2, ![2048, 128]⟩
abbrev S512 : Shape := ⟨1, ![512]⟩
abbrev S512x1 : Shape := ⟨2, ![512, 1]⟩
abbrev S1024x512 : Shape := ⟨2, ![1024, 512]⟩
abbrev S1x1 : Shape := ⟨2, ![1, 1]⟩
abbrev S512x512 : Shape := ⟨2, ![512, 512]⟩
abbrev S256x512 : Shape := ⟨2, ![256, 512]⟩
abbrev S128x512 : Shape := ⟨2, ![128, 512]⟩

abbrev nBuf : Space → Nat
  | .hbm => 36
  | .vmem => 13
  | .smem => 0
  | _ => 0

abbrev bufTy : (tb : Table) → Fin (tcTables nBuf tb) → BufTy
  | .hbm, ⟨0, _⟩ => ⟨S1x2048x1024, .bf16⟩
  | .hbm, ⟨1, _⟩ => ⟨S1024x16384, .bf16⟩
  | .hbm, ⟨2, _⟩ => ⟨S1x2048x8x128, .bf16⟩
  | .hbm, ⟨3, _⟩ => ⟨S1x2048x8x128, .bf16⟩
  | .hbm, ⟨4, _⟩ => ⟨S16384x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .bf16⟩
  | .hbm, ⟨30, _⟩ => ⟨S2048x8x128, .bf16⟩
  | .hbm, ⟨31, _⟩ => ⟨S8x2048x128, .bf16⟩
  | .hbm, ⟨32, _⟩ => ⟨S2048x8x128, .bf16⟩
  | .hbm, ⟨33, _⟩ => ⟨S8x2048x128, .bf16⟩
  | .hbm, ⟨34, _⟩ => ⟨S2048x1024, .f32⟩
  | .hbm, ⟨35, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S256x1024, .bf16⟩
  | .local _ .vmem, ⟨11, _⟩ => ⟨S128x1024, .bf16⟩
  | .local _ .vmem, ⟨12, _⟩ => ⟨S2048x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c0_i32_452 : BitVec 32 := 0#32
  let v920 : BitVec 1 := Scalar.cmpi .eq v917 c0_i32_452
  let v921 : BitVec 32 := Scalar.extui v920
  let c0_i32_453 : BitVec 32 := 0#32
  let v922 : BitVec 1 := Scalar.cmpi .ne v921 c0_i32_453
  v922

def k0_dev5 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_997 : BitVec 32 := 1#32
  let v1436 : BitVec 32 := Scalar.xori v2 c1_i32_997
  let c1_i32_1002 : BitVec 32 := 1#32
  let v1437 : BitVec 32 := Scalar.muli v1436 c1_i32_1002
  let v1438 : BitVec 32 := Scalar.addi c0_i32_1003 v1437
  v1438.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1_i32_454 : BitVec 32 := 1#32
  let v923 : BitVec 1 := Scalar.cmpi .eq v917 c1_i32_454
  let v924 : BitVec 32 := Scalar.extui v923
  let c0_i32_455 : BitVec 32 := 0#32
  let v925 : BitVec 1 := Scalar.cmpi .ne v924 c0_i32_455
  v925

def k0_dev6 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_997 : BitVec 32 := 1#32
  let v1436 : BitVec 32 := Scalar.xori v2 c1_i32_997
  let c1_i32_1002 : BitVec 32 := 1#32
  let v1437 : BitVec 32 := Scalar.muli v1436 c1_i32_1002
  let v1438 : BitVec 32 := Scalar.addi c0_i32_1003 v1437
  v1438.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c0_i32_456 : BitVec 32 := 0#32
  let v926 : BitVec 1 := Scalar.cmpi .eq v919 c0_i32_456
  let v927 : BitVec 32 := Scalar.extui v926
  let c0_i32_457 : BitVec 32 := 0#32
  let v928 : BitVec 1 := Scalar.cmpi .ne v927 c0_i32_457
  v928

def k0_dev7 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_997 : BitVec 32 := 4#32
  let v1436 : BitVec 32 := Scalar.xori v2 c4_i32_997
  let c1_i32_1002 : BitVec 32 := 1#32
  let v1437 : BitVec 32 := Scalar.muli v1436 c1_i32_1002
  let v1438 : BitVec 32 := Scalar.addi c0_i32_1003 v1437
  v1438.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1_i32_458 : BitVec 32 := 1#32
  let v929 : BitVec 1 := Scalar.cmpi .eq v919 c1_i32_458
  let v930 : BitVec 32 := Scalar.extui v929
  let c0_i32_459 : BitVec 32 := 0#32
  let v931 : BitVec 1 := Scalar.cmpi .ne v930 c0_i32_459
  v931

def k0_dev8 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_997 : BitVec 32 := 4#32
  let v1436 : BitVec 32 := Scalar.xori v2 c4_i32_997
  let c1_i32_1002 : BitVec 32 := 1#32
  let v1437 : BitVec 32 := Scalar.muli v1436 c1_i32_1002
  let v1438 : BitVec 32 := Scalar.addi c0_i32_1003 v1437
  v1438.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let v957 : Index := Scalar.indexCast v944
  let c0_490 : Index := 0#32
  ![v957.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let v976 : Index := Scalar.indexCast v945
  let c512_514 : Index := 512#32
  ![v976.toNat, 512]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c1_i32_521 : BitVec 32 := 1#32
  let c2_i32_519 : BitVec 32 := 2#32
  let v985 : BitVec 32 := Scalar.shrsi v2 c2_i32_519
  let c1_i32_520 : BitVec 32 := 1#32
  let v986 : BitVec 32 := Scalar.andi v985 c1_i32_520
  let v987 : BitVec 32 := Scalar.subi c1_i32_521 v986
  let c512_i32_522 : BitVec 32 := 512#32
  let v988 : BitVec 32 := Scalar.muli v987 c512_i32_522
  let v989 : BitVec 32 := Scalar.addi v944 v988
  let v992 : Index := Scalar.indexCast v989
  let c0_524 : Index := 0#32
  ![v992.toNat, 0]
def k0_dev9 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_518 : BitVec 32 := 4#32
  let v984 : BitVec 32 := Scalar.xori v2 c4_i32_518
  let c1_i32_531 : BitVec 32 := 1#32
  let v999 : BitVec 32 := Scalar.muli v984 c1_i32_531
  let v1000 : BitVec 32 := Scalar.addi c0_i32_532 v999
  v1000.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c1_i32_540 : BitVec 32 := 1#32
  let c0_i32_538 : BitVec 32 := 0#32
  let v1008 : BitVec 32 := Scalar.shrsi v2 c0_i32_538
  let c1_i32_539 : BitVec 32 := 1#32
  let v1009 : BitVec 32 := Scalar.andi v1008 c1_i32_539
  let v1010 : BitVec 32 := Scalar.subi c1_i32_540 v1009
  let c512_i32_541 : BitVec 32 := 512#32
  let v1011 : BitVec 32 := Scalar.muli v1010 c512_i32_541
  let v1012 : BitVec 32 := Scalar.addi v945 v1011
  let v1015 : Index := Scalar.indexCast v1012
  let c512_543 : Index := 512#32
  ![v1015.toNat, 512]
def k0_dev10 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_537 : BitVec 32 := 1#32
  let v1007 : BitVec 32 := Scalar.xori v2 c1_i32_537
  let c1_i32_550 : BitVec 32 := 1#32
  let v1022 : BitVec 32 := Scalar.muli v1007 c1_i32_550
  let v1023 : BitVec 32 := Scalar.addi c0_i32_551 v1022
  v1023.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let v1040 : Index := Scalar.indexCast v991
  let c0_575 : Index := 0#32
  ![v1040.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let v1058 : Index := Scalar.indexCast v1014
  let c512_598 : Index := 512#32
  ![v1058.toNat, 512]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_605 : BitVec 32 := 1#32
  let c1_i32_603 : BitVec 32 := 1#32
  let v1067 : BitVec 32 := Scalar.shrsi v2 c1_i32_603
  let c1_i32_604 : BitVec 32 := 1#32
  let v1068 : BitVec 32 := Scalar.andi v1067 c1_i32_604
  let v1069 : BitVec 32 := Scalar.subi c1_i32_605 v1068
  let c256_i32 : BitVec 32 := 256#32
  let v1070 : BitVec 32 := Scalar.muli v1069 c256_i32
  let v1071 : BitVec 32 := Scalar.addi v991 v1070
  let v1074 : Index := Scalar.indexCast v1071
  let c0_607 : Index := 0#32
  ![v1074.toNat, 0]
def k0_dev11 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_602 : BitVec 32 := 2#32
  let v1066 : BitVec 32 := Scalar.xori v2 c2_i32_602
  let c1_i32_614 : BitVec 32 := 1#32
  let v1081 : BitVec 32 := Scalar.muli v1066 c1_i32_614
  let v1082 : BitVec 32 := Scalar.addi c0_i32_615 v1081
  v1082.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c1_i32_623 : BitVec 32 := 1#32
  let c3_i32_621 : BitVec 32 := 3#32
  let v1090 : BitVec 32 := Scalar.shrsi v2 c3_i32_621
  let c1_i32_622 : BitVec 32 := 1#32
  let v1091 : BitVec 32 := Scalar.andi v1090 c1_i32_622
  let v1092 : BitVec 32 := Scalar.subi c1_i32_623 v1091
  let c256_i32_624 : BitVec 32 := 256#32
  let v1093 : BitVec 32 := Scalar.muli v1092 c256_i32_624
  let v1094 : BitVec 32 := Scalar.addi v1014 v1093
  let v1097 : Index := Scalar.indexCast v1094
  let c512_626 : Index := 512#32
  ![v1097.toNat, 512]
def k0_dev12 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_620 : BitVec 32 := 8#32
  let v1089 : BitVec 32 := Scalar.xori v2 c8_i32_620
  let c1_i32_633 : BitVec 32 := 1#32
  let v1104 : BitVec 32 := Scalar.muli v1089 c1_i32_633
  let v1105 : BitVec 32 := Scalar.addi c0_i32_634 v1104
  v1105.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let v1122 : Index := Scalar.indexCast v1073
  let c0_658 : Index := 0#32
  ![v1122.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let v1140 : Index := Scalar.indexCast v1096
  let c512_681 : Index := 512#32
  ![v1140.toNat, 512]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let c1_i32_688 : BitVec 32 := 1#32
  let c3_i32_686 : BitVec 32 := 3#32
  let v1149 : BitVec 32 := Scalar.shrsi v2 c3_i32_686
  let c1_i32_687 : BitVec 32 := 1#32
  let v1150 : BitVec 32 := Scalar.andi v1149 c1_i32_687
  let v1151 : BitVec 32 := Scalar.subi c1_i32_688 v1150
  let c128_i32 : BitVec 32 := 128#32
  let v1152 : BitVec 32 := Scalar.muli v1151 c128_i32
  let v1153 : BitVec 32 := Scalar.addi v1073 v1152
  let v1156 : Index := Scalar.indexCast v1153
  let c0_690 : Index := 0#32
  ![v1156.toNat, 0]
def k0_dev13 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_685 : BitVec 32 := 8#32
  let v1148 : BitVec 32 := Scalar.xori v2 c8_i32_685
  let c1_i32_697 : BitVec 32 := 1#32
  let v1163 : BitVec 32 := Scalar.muli v1148 c1_i32_697
  let v1164 : BitVec 32 := Scalar.addi c0_i32_698 v1163
  v1164.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let c1_i32_706 : BitVec 32 := 1#32
  let c1_i32_704 : BitVec 32 := 1#32
  let v1172 : BitVec 32 := Scalar.shrsi v2 c1_i32_704
  let c1_i32_705 : BitVec 32 := 1#32
  let v1173 : BitVec 32 := Scalar.andi v1172 c1_i32_705
  let v1174 : BitVec 32 := Scalar.subi c1_i32_706 v1173
  let c128_i32_707 : BitVec 32 := 128#32
  let v1175 : BitVec 32 := Scalar.muli v1174 c128_i32_707
  let v1176 : BitVec 32 := Scalar.addi v1096 v1175
  let v1179 : Index := Scalar.indexCast v1176
  let c512_709 : Index := 512#32
  ![v1179.toNat, 512]
def k0_dev14 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_703 : BitVec 32 := 2#32
  let v1171 : BitVec 32 := Scalar.xori v2 c2_i32_703
  let c1_i32_716 : BitVec 32 := 1#32
  let v1186 : BitVec 32 := Scalar.muli v1171 c1_i32_716
  let v1187 : BitVec 32 := Scalar.addi c0_i32_717 v1186
  v1187.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let c3_i32_686 : BitVec 32 := 3#32
  let v1149 : BitVec 32 := Scalar.shrsi v2 c3_i32_686
  let c1_i32_687 : BitVec 32 := 1#32
  let v1150 : BitVec 32 := Scalar.andi v1149 c1_i32_687
  let c128_i32_689 : BitVec 32 := 128#32
  let v1154 : BitVec 32 := Scalar.muli v1150 c128_i32_689
  let v1155 : BitVec 32 := Scalar.addi v1073 v1154
  let v1204 : Index := Scalar.indexCast v1155
  let c0_741 : Index := 0#32
  ![v1204.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let c1_i32_704 : BitVec 32 := 1#32
  let v1172 : BitVec 32 := Scalar.shrsi v2 c1_i32_704
  let c1_i32_705 : BitVec 32 := 1#32
  let v1173 : BitVec 32 := Scalar.andi v1172 c1_i32_705
  let c128_i32_708 : BitVec 32 := 128#32
  let v1177 : BitVec 32 := Scalar.muli v1173 c128_i32_708
  let v1178 : BitVec 32 := Scalar.addi v1096 v1177
  let v1222 : Index := Scalar.indexCast v1178
  let c512_764 : Index := 512#32
  ![v1222.toNat, 512]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let c3_i32_686 : BitVec 32 := 3#32
  let v1149 : BitVec 32 := Scalar.shrsi v2 c3_i32_686
  let c1_i32_687 : BitVec 32 := 1#32
  let v1150 : BitVec 32 := Scalar.andi v1149 c1_i32_687
  let c128_i32_689 : BitVec 32 := 128#32
  let v1154 : BitVec 32 := Scalar.muli v1150 c128_i32_689
  let v1155 : BitVec 32 := Scalar.addi v1073 v1154
  let c0_i32_779 : BitVec 32 := 0#32
  ![v1155.toNat, 0]
def k0_dev15 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_772 : BitVec 32 := 8#32
  let v1246 : BitVec 32 := Scalar.xori v2 c8_i32_772
  let c1_i32_777 : BitVec 32 := 1#32
  let v1247 : BitVec 32 := Scalar.muli v1246 c1_i32_777
  let v1248 : BitVec 32 := Scalar.addi c0_i32_778 v1247
  v1248.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let c1_i32_704 : BitVec 32 := 1#32
  let v1172 : BitVec 32 := Scalar.shrsi v2 c1_i32_704
  let c1_i32_705 : BitVec 32 := 1#32
  let v1173 : BitVec 32 := Scalar.andi v1172 c1_i32_705
  let c128_i32_708 : BitVec 32 := 128#32
  let v1177 : BitVec 32 := Scalar.muli v1173 c128_i32_708
  let v1178 : BitVec 32 := Scalar.addi v1096 v1177
  let c512_i32_788 : BitVec 32 := 512#32
  ![v1178.toNat, 512]
def k0_dev16 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_781 : BitVec 32 := 2#32
  let v1255 : BitVec 32 := Scalar.xori v2 c2_i32_781
  let c1_i32_786 : BitVec 32 := 1#32
  let v1256 : BitVec 32 := Scalar.muli v1255 c1_i32_786
  let v1257 : BitVec 32 := Scalar.addi c0_i32_787 v1256
  v1257.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let c3_i32_686 : BitVec 32 := 3#32
  let v1149 : BitVec 32 := Scalar.shrsi v2 c3_i32_686
  let c1_i32_687 : BitVec 32 := 1#32
  let v1150 : BitVec 32 := Scalar.andi v1149 c1_i32_687
  let c128_i32_689 : BitVec 32 := 128#32
  let v1154 : BitVec 32 := Scalar.muli v1150 c128_i32_689
  let v1155 : BitVec 32 := Scalar.addi v1073 v1154
  let c3_i32_805 : BitVec 32 := 3#32
  let v1274 : BitVec 32 := Scalar.shrsi v2 c3_i32_805
  let c1_i32_806 : BitVec 32 := 1#32
  let v1275 : BitVec 32 := Scalar.andi v1274 c1_i32_806
  let c128_i32_807 : BitVec 32 := 128#32
  let v1276 : BitVec 32 := Scalar.muli v1275 c128_i32_807
  let v1277 : BitVec 32 := Scalar.subi v1155 v1276
  let c0_i32_833 : BitVec 32 := 0#32
  ![v1277.toNat, 0]
def k0_dev17 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_826 : BitVec 32 := 2#32
  let v1292 : BitVec 32 := Scalar.xori v2 c2_i32_826
  let c1_i32_831 : BitVec 32 := 1#32
  let v1293 : BitVec 32 := Scalar.muli v1292 c1_i32_831
  let v1294 : BitVec 32 := Scalar.addi c0_i32_832 v1293
  v1294.toNat
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let c1_i32_704 : BitVec 32 := 1#32
  let v1172 : BitVec 32 := Scalar.shrsi v2 c1_i32_704
  let c1_i32_705 : BitVec 32 := 1#32
  let v1173 : BitVec 32 := Scalar.andi v1172 c1_i32_705
  let c128_i32_708 : BitVec 32 := 128#32
  let v1177 : BitVec 32 := Scalar.muli v1173 c128_i32_708
  let v1178 : BitVec 32 := Scalar.addi v1096 v1177
  let c1_i32_823 : BitVec 32 := 1#32
  let v1288 : BitVec 32 := Scalar.shrsi v2 c1_i32_823
  let c1_i32_824 : BitVec 32 := 1#32
  let v1289 : BitVec 32 := Scalar.andi v1288 c1_i32_824
  let c128_i32_825 : BitVec 32 := 128#32
  let v1290 : BitVec 32 := Scalar.muli v1289 c128_i32_825
  let v1291 : BitVec 32 := Scalar.subi v1178 v1290
  let c512_i32_842 : BitVec 32 := 512#32
  ![v1291.toNat, 512]
def k0_dev18 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_835 : BitVec 32 := 8#32
  let v1301 : BitVec 32 := Scalar.xori v2 c8_i32_835
  let c1_i32_840 : BitVec 32 := 1#32
  let v1302 : BitVec 32 := Scalar.muli v1301 c1_i32_840
  let v1303 : BitVec 32 := Scalar.addi c0_i32_841 v1302
  v1303.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let c3_i32_686 : BitVec 32 := 3#32
  let v1149 : BitVec 32 := Scalar.shrsi v2 c3_i32_686
  let c1_i32_687 : BitVec 32 := 1#32
  let v1150 : BitVec 32 := Scalar.andi v1149 c1_i32_687
  let c128_i32_689 : BitVec 32 := 128#32
  let v1154 : BitVec 32 := Scalar.muli v1150 c128_i32_689
  let v1155 : BitVec 32 := Scalar.addi v1073 v1154
  let c3_i32_805 : BitVec 32 := 3#32
  let v1274 : BitVec 32 := Scalar.shrsi v2 c3_i32_805
  let c1_i32_806 : BitVec 32 := 1#32
  let v1275 : BitVec 32 := Scalar.andi v1274 c1_i32_806
  let c128_i32_807 : BitVec 32 := 128#32
  let v1276 : BitVec 32 := Scalar.muli v1275 c128_i32_807
  let v1277 : BitVec 32 := Scalar.subi v1155 v1276
  let c1_i32_859 : BitVec 32 := 1#32
  let v1320 : BitVec 32 := Scalar.shrsi v2 c1_i32_859
  let c1_i32_860 : BitVec 32 := 1#32
  let v1321 : BitVec 32 := Scalar.andi v1320 c1_i32_860
  let c256_i32_861 : BitVec 32 := 256#32
  let v1322 : BitVec 32 := Scalar.muli v1321 c256_i32_861
  let v1323 : BitVec 32 := Scalar.subi v1277 v1322
  let c0_i32_887 : BitVec 32 := 0#32
  ![v1323.toNat, 0]
def k0_dev19 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_880 : BitVec 32 := 4#32
  let v1338 : BitVec 32 := Scalar.xori v2 c4_i32_880
  let c1_i32_885 : BitVec 32 := 1#32
  let v1339 : BitVec 32 := Scalar.muli v1338 c1_i32_885
  let v1340 : BitVec 32 := Scalar.addi c0_i32_886 v1339
  v1340.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let c1_i32_704 : BitVec 32 := 1#32
  let v1172 : BitVec 32 := Scalar.shrsi v2 c1_i32_704
  let c1_i32_705 : BitVec 32 := 1#32
  let v1173 : BitVec 32 := Scalar.andi v1172 c1_i32_705
  let c128_i32_708 : BitVec 32 := 128#32
  let v1177 : BitVec 32 := Scalar.muli v1173 c128_i32_708
  let v1178 : BitVec 32 := Scalar.addi v1096 v1177
  let c1_i32_823 : BitVec 32 := 1#32
  let v1288 : BitVec 32 := Scalar.shrsi v2 c1_i32_823
  let c1_i32_824 : BitVec 32 := 1#32
  let v1289 : BitVec 32 := Scalar.andi v1288 c1_i32_824
  let c128_i32_825 : BitVec 32 := 128#32
  let v1290 : BitVec 32 := Scalar.muli v1289 c128_i32_825
  let v1291 : BitVec 32 := Scalar.subi v1178 v1290
  let c3_i32_877 : BitVec 32 := 3#32
  let v1334 : BitVec 32 := Scalar.shrsi v2 c3_i32_877
  let c1_i32_878 : BitVec 32 := 1#32
  let v1335 : BitVec 32 := Scalar.andi v1334 c1_i32_878
  let c256_i32_879 : BitVec 32 := 256#32
  let v1336 : BitVec 32 := Scalar.muli v1335 c256_i32_879
  let v1337 : BitVec 32 := Scalar.subi v1291 v1336
  let c512_i32_896 : BitVec 32 := 512#32
  ![v1337.toNat, 512]
def k0_dev20 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_889 : BitVec 32 := 1#32
  let v1347 : BitVec 32 := Scalar.xori v2 c1_i32_889
  let c1_i32_894 : BitVec 32 := 1#32
  let v1348 : BitVec 32 := Scalar.muli v1347 c1_i32_894
  let v1349 : BitVec 32 := Scalar.addi c0_i32_895 v1348
  v1349.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let v916 : BitVec 32 := Scalar.shrsi v2 c0_i32_448
  let c1_i32_449 : BitVec 32 := 1#32
  let v917 : BitVec 32 := Scalar.andi v916 c1_i32_449
  let c1024_i32_468 : BitVec 32 := 1024#32
  let v944 : BitVec 32 := Scalar.muli v917 c1024_i32_468
  let c2_i32_519 : BitVec 32 := 2#32
  let v985 : BitVec 32 := Scalar.shrsi v2 c2_i32_519
  let c1_i32_520 : BitVec 32 := 1#32
  let v986 : BitVec 32 := Scalar.andi v985 c1_i32_520
  let c512_i32_523 : BitVec 32 := 512#32
  let v990 : BitVec 32 := Scalar.muli v986 c512_i32_523
  let v991 : BitVec 32 := Scalar.addi v944 v990
  let c1_i32_603 : BitVec 32 := 1#32
  let v1067 : BitVec 32 := Scalar.shrsi v2 c1_i32_603
  let c1_i32_604 : BitVec 32 := 1#32
  let v1068 : BitVec 32 := Scalar.andi v1067 c1_i32_604
  let c256_i32_606 : BitVec 32 := 256#32
  let v1072 : BitVec 32 := Scalar.muli v1068 c256_i32_606
  let v1073 : BitVec 32 := Scalar.addi v991 v1072
  let c3_i32_686 : BitVec 32 := 3#32
  let v1149 : BitVec 32 := Scalar.shrsi v2 c3_i32_686
  let c1_i32_687 : BitVec 32 := 1#32
  let v1150 : BitVec 32 := Scalar.andi v1149 c1_i32_687
  let c128_i32_689 : BitVec 32 := 128#32
  let v1154 : BitVec 32 := Scalar.muli v1150 c128_i32_689
  let v1155 : BitVec 32 := Scalar.addi v1073 v1154
  let c3_i32_805 : BitVec 32 := 3#32
  let v1274 : BitVec 32 := Scalar.shrsi v2 c3_i32_805
  let c1_i32_806 : BitVec 32 := 1#32
  let v1275 : BitVec 32 := Scalar.andi v1274 c1_i32_806
  let c128_i32_807 : BitVec 32 := 128#32
  let v1276 : BitVec 32 := Scalar.muli v1275 c128_i32_807
  let v1277 : BitVec 32 := Scalar.subi v1155 v1276
  let c1_i32_859 : BitVec 32 := 1#32
  let v1320 : BitVec 32 := Scalar.shrsi v2 c1_i32_859
  let c1_i32_860 : BitVec 32 := 1#32
  let v1321 : BitVec 32 := Scalar.andi v1320 c1_i32_860
  let c256_i32_861 : BitVec 32 := 256#32
  let v1322 : BitVec 32 := Scalar.muli v1321 c256_i32_861
  let v1323 : BitVec 32 := Scalar.subi v1277 v1322
  let c2_i32_913 : BitVec 32 := 2#32
  let v1366 : BitVec 32 := Scalar.shrsi v2 c2_i32_913
  let c1_i32_914 : BitVec 32 := 1#32
  let v1367 : BitVec 32 := Scalar.andi v1366 c1_i32_914
  let c512_i32_915 : BitVec 32 := 512#32
  let v1368 : BitVec 32 := Scalar.muli v1367 c512_i32_915
  let v1369 : BitVec 32 := Scalar.subi v1323 v1368
  let c0_i32_941 : BitVec 32 := 0#32
  ![v1369.toNat, 0]
def k0_dev21 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_934 : BitVec 32 := 1#32
  let v1384 : BitVec 32 := Scalar.xori v2 c1_i32_934
  let c1_i32_939 : BitVec 32 := 1#32
  let v1385 : BitVec 32 := Scalar.muli v1384 c1_i32_939
  let v1386 : BitVec 32 := Scalar.addi c0_i32_940 v1385
  v1386.toNat
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_450 : BitVec 32 := 2#32
  let v918 : BitVec 32 := Scalar.shrsi v2 c2_i32_450
  let c1_i32_451 : BitVec 32 := 1#32
  let v919 : BitVec 32 := Scalar.andi v918 c1_i32_451
  let c1024_i32_469 : BitVec 32 := 1024#32
  let v945 : BitVec 32 := Scalar.muli v919 c1024_i32_469
  let c0_i32_538 : BitVec 32 := 0#32
  let v1008 : BitVec 32 := Scalar.shrsi v2 c0_i32_538
  let c1_i32_539 : BitVec 32 := 1#32
  let v1009 : BitVec 32 := Scalar.andi v1008 c1_i32_539
  let c512_i32_542 : BitVec 32 := 512#32
  let v1013 : BitVec 32 := Scalar.muli v1009 c512_i32_542
  let v1014 : BitVec 32 := Scalar.addi v945 v1013
  let c3_i32_621 : BitVec 32 := 3#32
  let v1090 : BitVec 32 := Scalar.shrsi v2 c3_i32_621
  let c1_i32_622 : BitVec 32 := 1#32
  let v1091 : BitVec 32 := Scalar.andi v1090 c1_i32_622
  let c256_i32_625 : BitVec 32 := 256#32
  let v1095 : BitVec 32 := Scalar.muli v1091 c256_i32_625
  let v1096 : BitVec 32 := Scalar.addi v1014 v1095
  let c1_i32_704 : BitVec 32 := 1#32
  let v1172 : BitVec 32 := Scalar.shrsi v2 c1_i32_704
  let c1_i32_705 : BitVec 32 := 1#32
  let v1173 : BitVec 32 := Scalar.andi v1172 c1_i32_705
  let c128_i32_708 : BitVec 32 := 128#32
  let v1177 : BitVec 32 := Scalar.muli v1173 c128_i32_708
  let v1178 : BitVec 32 := Scalar.addi v1096 v1177
  let c1_i32_823 : BitVec 32 := 1#32
  let v1288 : BitVec 32 := Scalar.shrsi v2 c1_i32_823
  let c1_i32_824 : BitVec 32 := 1#32
  let v1289 : BitVec 32 := Scalar.andi v1288 c1_i32_824
  let c128_i32_825 : BitVec 32 := 128#32
  let v1290 : BitVec 32 := Scalar.muli v1289 c128_i32_825
  let v1291 : BitVec 32 := Scalar.subi v1178 v1290
  let c3_i32_877 : BitVec 32 := 3#32
  let v1334 : BitVec 32 := Scalar.shrsi v2 c3_i32_877
  let c1_i32_878 : BitVec 32 := 1#32
  let v1335 : BitVec 32 := Scalar.andi v1334 c1_i32_878
  let c256_i32_879 : BitVec 32 := 256#32
  let v1336 : BitVec 32 := Scalar.muli v1335 c256_i32_879
  let v1337 : BitVec 32 := Scalar.subi v1291 v1336
  let c0_i32_931 : BitVec 32 := 0#32
  let v1380 : BitVec 32 := Scalar.shrsi v2 c0_i32_931
  let c1_i32_932 : BitVec 32 := 1#32
  let v1381 : BitVec 32 := Scalar.andi v1380 c1_i32_932
  let c512_i32_933 : BitVec 32 := 512#32
  let v1382 : BitVec 32 := Scalar.muli v1381 c512_i32_933
  let v1383 : BitVec 32 := Scalar.subi v1337 v1382
  let c512_i32_950 : BitVec 32 := 512#32
  ![v1383.toNat, 512]
def k0_dev22 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_943 : BitVec 32 := 4#32
  let v1393 : BitVec 32 := Scalar.xori v2 c4_i32_943
  let c1_i32_948 : BitVec 32 := 1#32
  let v1394 : BitVec 32 := Scalar.muli v1393 c1_i32_948
  let v1395 : BitVec 32 := Scalar.addi c0_i32_949 v1394
  v1395.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x16384, .bf16⟩
  | .hbm, ⟨2, _⟩ => ⟨S1x2048x128x128, .bf16⟩
  | .hbm, ⟨3, _⟩ => ⟨S1x2048x128x128, .bf16⟩
  | .hbm, ⟨4, _⟩ => ⟨S16384x1024, .bf16⟩
  | .hbm, ⟨5, _⟩ => ⟨S1x2048x1024, .f32⟩
  | .hbm, ⟨6, _⟩ => ⟨S1024x16384, .f32⟩
  | .hbm, ⟨7, _⟩ => ⟨S1x2048x128x128, .f32⟩
  | .hbm, ⟨8, _⟩ => ⟨S1x2048x128x128, .f32⟩
  | .hbm, ⟨9, _⟩ => ⟨S16384x1024, .f32⟩
  | .hbm, ⟨10, _⟩ => ⟨S1x2048x16384, .f32⟩
  | .hbm, ⟨11, _⟩ => ⟨S1x2048x128x128, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S2048x2048, .i1⟩
  | .hbm, ⟨59, _⟩ => ⟨S2048x2048, .i1⟩
  | .hbm, ⟨60, _⟩ => ⟨S2048x2048, .i32⟩
  | .hbm, ⟨61, _⟩ => ⟨S2048x2048, .i32⟩
  | .hbm, ⟨62, _⟩ => ⟨S2048x2048, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S2048x2048, .i32⟩
  | .hbm, ⟨70, _⟩ => ⟨S2048x2048, .i32⟩
  | .hbm, ⟨71, _⟩ => ⟨S_, .i32⟩
  | .hbm, ⟨72, _⟩ => ⟨S2048x2048, .i32⟩
  | .hbm, ⟨73, _⟩ => ⟨S2048x2048, .i1⟩
  | .hbm, ⟨74, _⟩ => ⟨S_, .i32⟩
  | .hbm, ⟨75, _⟩ => ⟨S2048x2048, .i32⟩
  | .hbm, ⟨76, _⟩ => ⟨S2048x2048, .i1⟩
  | .hbm, ⟨77, _⟩ => ⟨S_, .i32⟩
  | .hbm, ⟨78, _⟩ => ⟨S_, .i1⟩
  | .hbm, ⟨79, _⟩ => ⟨S2048x2048, .i1⟩
  | .hbm, ⟨80, _⟩ => ⟨S2048x2048, .i1⟩
  | .hbm, ⟨81, _⟩ => ⟨S2048x2048, .i1⟩
  | .hbm, ⟨82, _⟩ => ⟨S2048x2048, .i32⟩
  | .hbm, ⟨83, _⟩ => ⟨S2048x2048, .i32⟩
  | .hbm, ⟨84, _⟩ => ⟨S2048x2048, .i32⟩
  | .hbm, ⟨85, _⟩ => ⟨S_, .i32⟩
  | .hbm, ⟨86, _⟩ => ⟨S2048x2048, .i32⟩
  | .hbm, ⟨87, _⟩ => ⟨S2048x2048, .i1⟩
  | .hbm, ⟨88, _⟩ => ⟨S2048x2048, .i1⟩
  | .hbm, ⟨89, _⟩ => ⟨S1x128x2048x2048, .f32⟩
  | .hbm, ⟨90, _⟩ => ⟨S_, .f32⟩
  | .hbm, ⟨91, _⟩ => ⟨S1x128x2048x2048, .f32⟩
  | .hbm, ⟨92, _⟩ => ⟨S1x128x2048x2048, .f32⟩
  | .hbm, ⟨93, _⟩ => ⟨S1x1x2048x2048, .i1⟩
  | .hbm, ⟨94, _⟩ => ⟨S_, .f32⟩
  | .hbm, ⟨95, _⟩ => ⟨S_, .f32⟩
  | .hbm, ⟨96, _⟩ => ⟨S1x128x2048x2048, .i1⟩
  | .hbm, ⟨97, _⟩ => ⟨S1x128x2048x2048, .f32⟩
  | .hbm, ⟨98, _⟩ => ⟨S1x128x2048x2048, .f32⟩
  | .hbm, ⟨99, _⟩ => ⟨S_, .f32⟩
  | .hbm, ⟨100, _⟩ => ⟨S1x128x2048, .f32⟩
  | .hbm, ⟨101, _⟩ => ⟨S1x128x2048x1, .f32⟩
  | .hbm, ⟨102, _⟩ => ⟨S1x128x2048x2048, .f32⟩
  | .hbm, ⟨103, _⟩ => ⟨S1x128x2048x2048, .f32⟩
  | .hbm, ⟨104, _⟩ => ⟨S1x128x2048x2048, .f32⟩
  | .hbm, ⟨105, _⟩ => ⟨S_, .i1⟩
  | .hbm, ⟨106, _⟩ => ⟨S2048, .i1⟩
  | .hbm, ⟨107, _⟩ => ⟨S1x1x2048x1, .i1⟩
  | .hbm, ⟨108, _⟩ => ⟨S_, .f32⟩
  | .hbm, ⟨109, _⟩ => ⟨S1x128x2048, .f32⟩
  | .hbm, ⟨110, _⟩ => ⟨S1x128x2048x1, .f32⟩
  | .hbm, ⟨111, _⟩ => ⟨S_, .f32⟩
  | .hbm, ⟨112, _⟩ => ⟨S_, .f32⟩
  | .hbm, ⟨113, _⟩ => ⟨S1x128x2048x1, .i1⟩
  | .hbm, ⟨114, _⟩ => ⟨S1x128x2048x1, .f32⟩
  | .hbm, ⟨115, _⟩ => ⟨S1x128x2048x1, .f32⟩
  | .hbm, ⟨116, _⟩ => ⟨S1x128x2048x2048, .f32⟩
  | .hbm, ⟨117, _⟩ => ⟨S1x128x2048x2048, .f32⟩
  | .hbm, ⟨118, _⟩ => ⟨S1x1x2048x1, .i1⟩
  | .hbm, ⟨119, _⟩ => ⟨S_, .f32⟩
  | .hbm, ⟨120, _⟩ => ⟨S_, .f32⟩
  | .hbm, ⟨121, _⟩ => ⟨S1x128x2048x2048, .i1⟩
  | .hbm, ⟨122, _⟩ => ⟨S1x128x2048x2048, .f32⟩
  | .hbm, ⟨123, _⟩ => ⟨S1x128x2048x2048, .f32⟩
  | .hbm, ⟨124, _⟩ => ⟨S1x128x128x2048, .f32⟩
  | .hbm, ⟨125, _⟩ => ⟨S1x2048x128x128, .f32⟩
  | .hbm, ⟨126, _⟩ => ⟨S1x2048x16384, .f32⟩
  | .hbm, ⟨127, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.KernelIdeal.Base.lean ====
/-
  Shared vocabulary of the body proof: the resource algebra, points-tos of whole buffers, and what a
  unit-stride load reads and a unit-stride store leaves in a two-dimensional buffer.
-/
module

public import proofs.«01_k».proof.Proof.Gen.KernelIdeal.Skeleton
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.ValueIdxCore
public import Idealize.ShloMosaic.Lib.Rounds
public import Idealize.ShloMosaic.Lib.StableHlo
public import Idealize.ShloMosaic.Lib.Tactic
public import Idealize.ShloMosaic.PureOps
public import Idealize.ShloMosaic.Harness.Basic

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

/-! ## The resource algebra: the pipeline library's copy and the exchange protocol's -/

/-- The protocol's own rounds: a cell has at most four duties in a round. -/
abbrev UT : Type := URounds (GSem nD τ sig) (Fin 4)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-- No loop, no variant. -/
abbrev 𝒱₀ : Variants := Variants.none

/-- The whole buffer `b` of device `c`, holding `f`. -/
abbrev pt (c : Dev nD) (b : Ref sig .tc) (f : b.ty.Contents (Elt F)) : sProp 𝕄 :=
  (Memref.whole b).view.loc (c : Thread nD τ) ↦{fullShare} f

/-- The elements `S` of buffer `b` of device `c`, holding `f` there. -/
abbrev ptOn (c : Dev nD) (b : Ref sig .tc) (S : Finset b.ty.shape.Idx) (f : b.ty.Contents (Elt F)) : sProp 𝕄 :=
  (Memref.whole b).view.loc (c : Thread nD τ) ↦[S]{fullShare} f

/-! ## Unit-stride rectangles of a whole buffer -/

/-- A store through a rectangle of a whole buffer changes exactly the elements the rectangle holds. -/
theorem write_unit_apply (b : Ref sig .tc) (off size : Fin b.ty.shape.rank → Nat)
    (inb : ∀ a, off a + size a ≤ b.ty.shape.size a) (f : b.ty.Contents (Elt F))
    (w : (Rect.unit off size inb).shape.Idx → Elt F b.ty.elt) (i : b.ty.shape.Idx) :
    ((Memref.whole b).access (Rect.unit off size inb)).write (Elt F) f w Finset.univ i
      = if h : ∀ a, off a ≤ (i a).val ∧ (i a).val < off a + size a then
          w (fun a => ⟨(i a).val - off a, by have := h a; show _ < size a; omega⟩) else f i := by
  have h0 := congrFun (View.write_whole_slice_unit (Val := Elt F) b off size inb f w) i
  refine h0.trans ?_
  unfold updateSlice
  by_cases h : ∀ a, off a ≤ (i a).val ∧ (i a).val < off a + size a
  · rw [dif_pos h]; exact dif_pos h
  · rw [dif_neg h]; exact dif_neg h

/-- A load through a rectangle of a whole buffer reads the buffer at the offset index. -/
theorem readAt_unit_apply (b : Ref sig .tc) (off size : Fin b.ty.shape.rank → Nat)
    (inb : ∀ a, off a + size a ≤ b.ty.shape.size a) (f : b.ty.Contents (Elt F))
    (j : (Rect.unit off size inb).shape.Idx) :
    (Memref.whole b).view.readAt (Elt F) (Rect.unit off size inb).toLoadRect f j
      = f (fun a => ⟨off a + (j a).val, lt_of_lt_of_le (Nat.add_lt_add_left (j a).isLt _) (inb a)⟩) := by
  rw [View.readAt_apply]
  show f _ = f _
  congr 1
  funext a; apply Fin.ext
  show off a + 1 * (j a).val = off a + (j a).val
  omega

end Cert.KernelIdeal.Body
-- ==== Proof.KernelIdeal.Mesh.lean ====
/-
  The exchange pattern. Sixteen devices, numbered in four bits. The output's two column halves travel
  separately: half 0 exchanges along bits 0, 2, 1, 3, half 1 along bits 2, 0, 3, 1. In step j of the
  reduction a device keeps `1024 / 2^j` of the rows it held and sends the others to its partner; in
  step a of the gathering it sends the `128 * 2^a` finished rows it holds, and receives as many.
-/
module

public import proofs.«01_k».proof.Proof.KernelIdeal.Base

@[expose] public section

set_option maxRecDepth 16384

noncomputable section

namespace Cert.KernelIdeal.Body

open Cert.KernelIdeal Cert.KernelIdeal.Gen
open Idealize.ShloMosaic Idealize.ShloMosaic.TcCoe

/-! ## Partners -/

/-- The device whose number differs from `c`'s in bit `k`. -/
def px (k : Fin 4) (c : Dev nD) : Dev nD := ⟨(c.val ^^^ (2 ^ k.val)) % 16, Nat.mod_lt _ (by decide)⟩

theorem px_px (k : Fin 4) (c : Dev nD) : px k (px k c) = c := by revert k c; decide

/-- The bit that step `j` of half `s` exchanges along. -/
def bitIx : Fin 2 → Fin 4 → Fin 4
  | 0, 0 => 0 | 0, 1 => 2 | 0, 2 => 1 | 0, 3 => 3
  | 1, 0 => 2 | 1, 1 => 0 | 1, 2 => 3 | 1, 3 => 1

/-- The step of half `s` that exchanges along bit `k`. -/
def stepIx : Fin 2 → Fin 4 → Fin 4
  | 0, 0 => 0 | 0, 1 => 2 | 0, 2 => 1 | 0, 3 => 3
  | 1, 0 => 1 | 1, 1 => 3 | 1, 2 => 0 | 1, 3 => 2

theorem bitIx_stepIx (s : Fin 2) (k : Fin 4) : bitIx s (stepIx s k) = k := by revert s k; decide
theorem stepIx_bitIx (s : Fin 2) (j : Fin 4) : stepIx s (bitIx s j) = j := by revert s j; decide

/-- Bit `k` of a device's number. -/
def bitOf (k : Fin 4) (c : Dev nD) : ℕ := c.val / 2 ^ k.val % 2

/-- The partner of step `j` of half `s`. -/
def pr (s : Fin 2) (j : Fin 4) (c : Dev nD) : Dev nD := px (bitIx s j) c

theorem pr_pr (s : Fin 2) (j : Fin 4) (c : Dev nD) : pr s j (pr s j c) = c := px_px _ c

/-- The first row that a device still holds of half `s` before step `j`. -/
def ks (s : Fin 2) : ℕ → Dev nD → ℕ
  | 0, _ => 0
  | 1, c => bitOf (bitIx s 0) c * 1024
  | 2, c => bitOf (bitIx s 0) c * 1024 + bitOf (bitIx s 1) c * 512
  | 3, c => bitOf (bitIx s 0) c * 1024 + bitOf (bitIx s 1) c * 512 + bitOf (bitIx s 2) c * 256
  | _, c => bitOf (bitIx s 0) c * 1024 + bitOf (bitIx s 1) c * 512 + bitOf (bitIx s 2) c * 256 + bitOf (bitIx s 3) c * 128

/-- How many rows step `j` of the reduction moves and keeps. -/
def len : Fin 4 → ℕ
  | 0 => 1024 | 1 => 512 | 2 => 256 | 3 => 128

/-- The step of the reduction whose rows step `a` of the gathering moves. -/
def opp : Fin 4 → Fin 4
  | 0 => 3 | 1 => 2 | 2 => 1 | 3 => 0

theorem opp_opp (a : Fin 4) : opp (opp a) = a := by revert a; decide

/-! ## The printed device numbers, conditions and offsets -/

theorem dev1_eq (c : Dev nD) : (⟨k0_dev1 c, k0_dev1_lt c⟩ : Dev nD) = px 0 c := by revert c; decide
theorem dev2_eq (c : Dev nD) : (⟨k0_dev2 c, k0_dev2_lt c⟩ : Dev nD) = px 1 c := by revert c; decide
theorem dev3_eq (c : Dev nD) : (⟨k0_dev3 c, k0_dev3_lt c⟩ : Dev nD) = px 2 c := by revert c; decide
theorem dev4_eq (c : Dev nD) : (⟨k0_dev4 c, k0_dev4_lt c⟩ : Dev nD) = px 3 c := by revert c; decide
theorem cond1_iff (c : Dev nD) : k0_cond1 c = 1#1 ↔ bitOf 0 c = 0 := by revert c; decide
theorem cond2_iff (c : Dev nD) : k0_cond2 c = 1#1 ↔ ¬ bitOf 0 c = 0 := by revert c; decide
theorem cond3_iff (c : Dev nD) : k0_cond3 c = 1#1 ↔ bitOf 2 c = 0 := by revert c; decide
theorem cond4_iff (c : Dev nD) : k0_cond4 c = 1#1 ↔ ¬ bitOf 2 c = 0 := by revert c; decide
theorem dev5_eq (c : Dev nD) (h : k0_cond1 c = 1#1) : (⟨k0_dev5 c, k0_dev5_lt c h⟩ : Dev nD) = pr 0 0 c := by revert c; decide
theorem dev6_eq (c : Dev nD) (h : k0_cond2 c = 1#1) : (⟨k0_dev6 c, k0_dev6_lt c h⟩ : Dev nD) = pr 0 0 c := by revert c; decide
theorem dev7_eq (c : Dev nD) (h : k0_cond3 c = 1#1) : (⟨k0_dev7 c, k0_dev7_lt c h⟩ : Dev nD) = pr 1 0 c := by revert c; decide
theorem dev8_eq (c : Dev nD) (h : k0_cond4 c = 1#1) : (⟨k0_dev8 c, k0_dev8_lt c h⟩ : Dev nD) = pr 1 0 c := by revert c; decide
theorem dev9_eq (c : Dev nD) : (⟨k0_dev9 c, k0_dev9_lt c⟩ : Dev nD) = pr 0 1 c := by revert c; decide
theorem dev10_eq (c : Dev nD) : (⟨k0_dev10 c, k0_dev10_lt c⟩ : Dev nD) = pr 1 1 c := by revert c; decide
theorem dev11_eq (c : Dev nD) : (⟨k0_dev11 c, k0_dev11_lt c⟩ : Dev nD) = pr 0 2 c := by revert c; decide
theorem dev12_eq (c : Dev nD) : (⟨k0_dev12 c, k0_dev12_lt c⟩ : Dev nD) = pr 1 2 c := by revert c; decide
theorem dev13_eq (c : Dev nD) : (⟨k0_dev13 c, k0_dev13_lt c⟩ : Dev nD) = pr 0 3 c := by revert c; decide
theorem dev14_eq (c : Dev nD) : (⟨k0_dev14 c, k0_dev14_lt c⟩ : Dev nD) = pr 1 3 c := by revert c; decide
theorem dev15_eq (c : Dev nD) : (⟨k0_dev15 c, k0_dev15_lt c⟩ : Dev nD) = pr 0 3 c := by revert c; decide
theorem dev16_eq (c : Dev nD) : (⟨k0_dev16 c, k0_dev16_lt c⟩ : Dev nD) = pr 1 3 c := by revert c; decide
theorem dev17_eq (c : Dev nD) : (⟨k0_dev17 c, k0_dev17_lt c⟩ : Dev nD) = pr 0 2 c := by revert c; decide
theorem dev18_eq (c : Dev nD) : (⟨k0_dev18 c, k0_dev18_lt c⟩ : Dev nD) = pr 1 2 c := by revert c; decide
theorem dev19_eq (c : Dev nD) : (⟨k0_dev19 c, k0_dev19_lt c⟩ : Dev nD) = pr 0 1 c := by revert c; decide
theorem dev20_eq (c : Dev nD) : (⟨k0_dev20 c, k0_dev20_lt c⟩ : Dev nD) = pr 1 1 c := by revert c; decide
theorem dev21_eq (c : Dev nD) : (⟨k0_dev21 c, k0_dev21_lt c⟩ : Dev nD) = pr 0 0 c := by revert c; decide
theorem dev22_eq (c : Dev nD) : (⟨k0_dev22 c, k0_dev22_lt c⟩ : Dev nD) = pr 1 0 c := by revert c; decide
theorem off1_eq (c : Dev nD) : k0_off1 c = ![ks 0 1 c, 0] := by revert c; decide
theorem off2_eq (c : Dev nD) : k0_off2 c = ![ks 1 1 c, 512] := by revert c; decide
theorem off3_eq (c : Dev nD) : k0_off3 c = ![ks 0 2 (pr 0 1 c), 0] := by revert c; decide
theorem off4_eq (c : Dev nD) : k0_off4 c = ![ks 1 2 (pr 1 1 c), 512] := by revert c; decide
theorem off5_eq (c : Dev nD) : k0_off5 c = ![ks 0 2 c, 0] := by revert c; decide
theorem off6_eq (c : Dev nD) : k0_off6 c = ![ks 1 2 c, 512] := by revert c; decide
theorem off7_eq (c : Dev nD) : k0_off7 c = ![ks 0 3 (pr 0 2 c), 0] := by revert c; decide
theorem off8_eq (c : Dev nD) : k0_off8 c = ![ks 1 3 (pr 1 2 c), 512] := by revert c; decide
theorem off9_eq (c : Dev nD) : k0_off9 c = ![ks 0 3 c, 0] := by revert c; decide
theorem off10_eq (c : Dev nD) : k0_off10 c = ![ks 1 3 c, 512] := by revert c; decide
theorem off11_eq (c : Dev nD) : k0_off11 c = ![ks 0 4 (pr 0 3 c), 0] := by revert c; decide
theorem off12_eq (c : Dev nD) : k0_off12 c = ![ks 1 4 (pr 1 3 c), 512] := by revert c; decide
theorem off13_eq (c : Dev nD) : k0_off13 c = ![ks 0 4 c, 0] := by revert c; decide
theorem off14_eq (c : Dev nD) : k0_off14 c = ![ks 1 4 c, 512] := by revert c; decide
theorem off15_eq (c : Dev nD) : k0_off15 c = ![ks 0 4 c, 0] := by revert c; decide
theorem off16_eq (c : Dev nD) : k0_off16 c = ![ks 1 4 c, 512] := by revert c; decide
theorem off17_eq (c : Dev nD) : k0_off17 c = ![ks 0 3 c, 0] := by revert c; decide
theorem off18_eq (c : Dev nD) : k0_off18 c = ![ks 1 3 c, 512] := by revert c; decide
theorem off19_eq (c : Dev nD) : k0_off19 c = ![ks 0 2 c, 0] := by revert c; decide
theorem off20_eq (c : Dev nD) : k0_off20 c = ![ks 1 2 c, 512] := by revert c; decide
theorem off21_eq (c : Dev nD) : k0_off21 c = ![ks 0 1 c, 0] := by revert c; decide
theorem off22_eq (c : Dev nD) : k0_off22 c = ![ks 1 1 c, 512] := by revert c; decide

/-! ## Facts about the rows -/

theorem len_pos (j : Fin 4) : 0 < len j := by revert j; decide
theorem ks_split (s : Fin 2) (j : Fin 4) (c : Dev nD) :
    (ks s (j.val + 1) c = ks s j.val c ∧ ks s (j.val + 1) (pr s j c) = ks s j.val c + len j)
      ∨ (ks s (j.val + 1) c = ks s j.val c + len j ∧ ks s (j.val + 1) (pr s j c) = ks s j.val c) := by
  revert s j c; decide
theorem ks_pr (s : Fin 2) (j : Fin 4) (c : Dev nD) : ks s j.val (pr s j c) = ks s j.val c := by revert s j c; decide
theorem ks_le (s : Fin 2) (j : Fin 4) (c : Dev nD) : ks s (j.val + 1) c + len j ≤ 2048 := by revert s j c; decide

end Cert.KernelIdeal.Body
-- ==== Proof.KernelIdeal.Contents.lean ====
/-
  What the buffers hold during the exchange, as functions of every device's context and weight block.
-/
module

public import proofs.«01_k».proof.Proof.KernelIdeal.Mesh

@[expose] public section

set_option maxRecDepth 16384

noncomputable section

namespace Cert.KernelIdeal.Body

open Cert.KernelIdeal Cert.KernelIdeal.Gen
open Idealize.ShloMosaic Idealize.ShloMosaic.TcCoe
open Idealize.ShloMosaic.ValueIdx (ix2 ix3)

variable {F : FTy → Type} [FloatOps F] [Named F]

/-! ## Regions of a buffer with 1024 columns -/

/-- The rows `a … a + l - 1` of column half `s`. -/
def RB (n a l : ℕ) (s : Fin 2) : Finset (⟨2, ![n, 1024]⟩ : Shape).Idx :=
  Finset.univ.filter fun i => a ≤ (i 0).val ∧ (i 0).val < a + l ∧ (i 1).val / 512 = s.val

theorem mem_RB {n a l : ℕ} {s : Fin 2} {i : (⟨2, ![n, 1024]⟩ : Shape).Idx} :
    i ∈ RB n a l s ↔ a ≤ (i 0).val ∧ (i 0).val < a + l ∧ (i 1).val / 512 = s.val := by
  unfold RB; rw [Finset.mem_filter]; exact ⟨fun h => h.2, fun h => ⟨Finset.mem_univ _, h⟩⟩

/-- The rectangle of `l` rows by 512 columns at row `a` of half `s` holds exactly that region. -/
theorem rect_set {n a l : ℕ} {s : Fin 2} {off : Fin (⟨2, ![n, 1024]⟩ : Shape).rank → ℕ} (hoff : off = ![a, 512 * s.val])
    (inb : ∀ x, off x + (⟨2, ![l, 512]⟩ : Shape).size x ≤ (⟨2, ![n, 1024]⟩ : Shape).size x) :
    (Rect.unit (s := ⟨2, ![n, 1024]⟩) off (⟨2, ![l, 512]⟩ : Shape).size inb).set = RB n a l s := by
  subst hoff
  have hs := s.isLt
  ext i
  rw [Rect.mem_set_unit, mem_RB]
  have h1 := ValueIdx.idx2_lt1 i
  constructor
  · intro h
    have a0 : a ≤ (i 0).val ∧ (i 0).val < a + l := h (0 : Fin 2)
    have a1 : 512 * s.val ≤ (i 1).val ∧ (i 1).val < 512 * s.val + 512 := h (1 : Fin 2)
    exact ⟨a0.1, a0.2, by omega⟩
  · rintro ⟨h0, h2, h3⟩ x
    match x with
    | ⟨0, _⟩ => exact ⟨h0, h2⟩
    | ⟨1, _⟩ => exact ⟨show 512 * s.val ≤ (i 1).val by omega, show (i 1).val < 512 * s.val + 512 by omega⟩

theorem RB_union {n a b l l' : ℕ} {s : Fin 2} (h : b = a + l) : RB n a l s ∪ RB n b l' s = RB n a (l + l') s := by
  subst h
  ext i; rw [Finset.mem_union, mem_RB, mem_RB, mem_RB]; omega
theorem RB_disjoint {n a b l l' : ℕ} {s : Fin 2} (h : b = a + l) : Disjoint (RB n a l s) (RB n b l' s) := by
  subst h
  rw [Finset.disjoint_left]; intro i; rw [mem_RB, mem_RB]; omega
theorem RB_halves {n : ℕ} : RB n 0 n 0 ∪ RB n 0 n 1 = Finset.univ := by
  ext i; rw [Finset.mem_union, mem_RB, mem_RB]
  have h0 := ValueIdx.idx2_lt0 i
  have h1 := ValueIdx.idx2_lt1 i
  have e0 : (0 : Fin 2).val = 0 := rfl
  have e1 : (1 : Fin 2).val = 1 := rfl
  rw [e0, e1]
  simp only [Finset.mem_univ, iff_true]
  omega
theorem RB_halves_disjoint {n a b l l' : ℕ} : Disjoint (RB n a l 0) (RB n b l' 1) := by
  rw [Finset.disjoint_left]; intro i; rw [mem_RB, mem_RB]
  have e0 : (0 : Fin 2).val = 0 := rfl
  have e1 : (1 : Fin 2).val = 1 := rfl
  rw [e0, e1]
  omega

/-! ## The partial sums -/

/-- The column half an index lies in. -/
def half {n : ℕ} (i : (⟨2, ![n, 1024]⟩ : Shape).Idx) : Fin 2 := ⟨(i 1).val / 512, by have := ValueIdx.idx2_lt1 i; omega⟩

/-- The index of row `r` and column `x` of the output. -/
def at2 (r x : ℕ) : S2048x1024.Idx := ix2 ⟨r % 2048, Nat.mod_lt _ (by decide)⟩ ⟨x % 1024, Nat.mod_lt _ (by decide)⟩

theorem at2_self (i : S2048x1024.Idx) : at2 (i 0).val (i 1).val = i := by
  have h0 := ValueIdx.idx2_lt0 i
  have h1 := ValueIdx.idx2_lt1 i
  funext a
  match a with
  | ⟨0, _⟩ => exact Fin.ext (Nat.mod_eq_of_lt h0)
  | ⟨1, _⟩ => exact Fin.ext (Nat.mod_eq_of_lt h1)

/-- Half of the rows of a context. -/
def rowsOf (x : FVec F S2048x1024 .bf16) (b : Fin 2) : Vec F S1024x1024 .bf16 := fun j =>
  x (ix2 ⟨1024 * b.val + (j 0).val, by have := ValueIdx.idx2_lt0 j; omega⟩ (j 1))
/-- Half of the columns of a weight block. -/
def colsOf (w : Vec F S1024x1024 .bf16) (b : Fin 2) : Vec F S1024x512 .bf16 := fun j =>
  w (ix2 (j 0) ⟨512 * b.val + (j 1).val, by have := ValueIdx.idx2_lt1 j; omega⟩)

/-- A device's own product of its context with its weight block. -/
def base (x : FVec F S2048x1024 .bf16) (w : Vec F S1024x1024 .bf16) : FVec F S2048x1024 .f32 := fun i =>
  k0_pay89 (rowsOf x ⟨(i 0).val / 1024, by have := ValueIdx.idx2_lt0 i; omega⟩) (colsOf w (half i))
    (ix2 ⟨(i 0).val % 1024, Nat.mod_lt _ (by decide)⟩ ⟨(i 1).val % 512, Nat.mod_lt _ (by decide)⟩)

/-- A value as it travels. -/
def tr (x : F .f32) : F .bf16 := FloatOps.truncf .bf16 bitsLt_bf16_f32 x
/-- A travelled value as it is added. -/
def ex (x : F .bf16) : F .f32 := FloatOps.extf .f32 bitsLt_bf16_f32 x

/-- Step `j` of the reduction: on the rows a device keeps, the partner's values are added. -/
def ostep (j : Fin 4) (f : Dev nD → FVec F S2048x1024 .f32) (c : Dev nD) : FVec F S2048x1024 .f32 := fun i =>
  if ks (half i) (j.val + 1) c ≤ (i 0).val ∧ (i 0).val < ks (half i) (j.val + 1) c + len j then
    FloatOps.addf (f c i) (ex (tr (f (pr (half i) j c) i)))
  else f c i

variable (X : Dev nD → FVec F S2048x1024 .bf16) (Wo : Dev nD → Vec F S1024x1024 .bf16)

/-- The partial sums after `n` steps. -/
def O : ℕ → Dev nD → FVec F S2048x1024 .f32
  | 0 => fun c => base (X c) (Wo c)
  | 1 => ostep 0 (fun c => base (X c) (Wo c))
  | 2 => ostep 1 (ostep 0 (fun c => base (X c) (Wo c)))
  | 3 => ostep 2 (ostep 1 (ostep 0 (fun c => base (X c) (Wo c))))
  | _ => ostep 3 (ostep 2 (ostep 1 (ostep 0 (fun c => base (X c) (Wo c)))))

theorem O_succ (j : Fin 4) : O X Wo (j.val + 1) = ostep j (O X Wo j.val) := by
  match j with
  | 0 => rfl
  | 1 => rfl
  | 2 => rfl
  | 3 => rfl

/-- The output buffer with half 0 after `a` steps and half 1 after `b`. -/
def OM (a b : ℕ) (c : Dev nD) : FVec F S2048x1024 .f32 := fun i => if half i = 0 then O X Wo a c i else O X Wo b c i

theorem OM_same (a : ℕ) (c : Dev nD) : OM X Wo a a c = O X Wo a c := by
  funext i; unfold OM; exact ite_self _

/-- What the send buffer holds of half `s` when step `j` is sent. -/
def SBc (s : Fin 2) (j : Fin 4) (c : Dev nD) : Vec F S1024x1024 .bf16 := fun i =>
  tr (O X Wo j.val c (at2 (ks s (j.val + 1) (pr s j c) + (i 0).val) (i 1).val))

/-- What lands in the receive buffer of step `j`. -/
def RSBc {n : ℕ} (j : Fin 4) (c : Dev nD) : Vec F (⟨2, ![n, 1024]⟩ : Shape) .bf16 := fun i =>
  tr (O X Wo j.val (pr (half i) j c) (at2 (ks (half i) (j.val + 1) c + (i 0).val) (i 1).val))

/-- The device that finishes row `r` of half `s`. -/
def own (s : Fin 2) (r : ℕ) : Dev nD :=
  ⟨(r / 1024 % 2 * 2 ^ (bitIx s 0).val + r / 512 % 2 * 2 ^ (bitIx s 1).val + r / 256 % 2 * 2 ^ (bitIx s 2).val
    + r / 128 % 2 * 2 ^ (bitIx s 3).val) % 16, Nat.mod_lt _ (by decide)⟩

/-- The finished sums, as they travel. -/
def AG : Vec F S2048x1024 .bf16 := fun i => tr (O X Wo 4 (own (half i) (i 0).val) i)

theorem own_blk (s : Fin 2) (b : Fin 16) : ks s 4 (own s (b.val * 128)) = b.val * 128 := by revert s b; decide
theorem own_ks (s : Fin 2) (c : Dev nD) : own s (ks s 4 c) = c := by revert s c; decide
theorem ks4_dvd (s : Fin 2) (c : Dev nD) : ks s 4 c % 128 = 0 := by revert s c; decide
theorem own_div (s : Fin 2) (r : ℕ) : own s r = own s (r / 128 * 128) := by
  unfold own; apply Fin.ext
  have h0 : r / 128 * 128 / 1024 = r / 1024 := by omega
  have h1 : r / 128 * 128 / 512 = r / 512 := by omega
  have h2 : r / 128 * 128 / 256 = r / 256 := by omega
  have h3 : r / 128 * 128 / 128 = r / 128 := by omega
  simp only [h0, h1, h2, h3]

/-- On the rows a device finishes, that device is the one. -/
theorem own_of_mem {s : Fin 2} {c : Dev nD} {r : ℕ} (h0 : ks s 4 c ≤ r) (h1 : r < ks s 4 c + 128) : own s r = c := by
  rw [own_div]
  have := ks4_dvd s c
  rw [show r / 128 * 128 = ks s 4 c by omega]
  exact own_ks s c

theorem half_of_mem {n a l : ℕ} {s : Fin 2} {i : (⟨2, ![n, 1024]⟩ : Shape).Idx} (h : i ∈ RB n a l s) : half i = s :=
  Fin.ext (mem_RB.mp h).2.2

end Cert.KernelIdeal.Body
-- ==== Proof.KernelIdeal.Protocol.lean ====
/-
  The exchange's protocol.

  Per device: one barrier cell; for each of the two phases (reduction, gathering), each step `j` and each column half `s`, a send
  cell and a receive cell, each used for one round.

  * A device signals its four partners' barrier cells, and waits for four units on its own. With its unit a partner hands over the
    places its two exchanges with this device land in: the receive buffer of the step, and the rows of the gathering buffer.
  * Reduction step `j`, half `s`: the device copies its rounded partial sums of the rows it gives away to its partner's receive buffer.
    The landing hands over the receive buffer AT the partner's partial sums; the send cell hands the send buffer back.
  * Gathering step `j`, half `s`: the device copies the finished rows it holds onto the partner's gathering buffer. The landing hands
    over those rows AT the finished sums; the send cell hands the device's own rows back.

  In program order a device owes: four barrier units, the eight landings of the reduction, the eight of the gathering.
-/
module

public import proofs.«01_k».proof.Proof.KernelIdeal.Base
public import proofs.«01_k».proof.Proof.KernelIdeal.Contents

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

/-! ## Cells -/

/-- The barrier semaphore. -/
abbrev barS : Sem sig := sig.barrier 0 rfl
abbrev barCell (c : Dev nD) : GSem nD τ sig := ((c : Thread nD τ), .reg barS)

/-- The semaphore of kind `κ` (reduction send and receive, gathering send and receive), step `j`, half `s`. -/
def dsem (κ j : Fin 4) (s : Fin 2) : DmaSem sig :=
  ⟨6 + 8 * κ.val + 2 * j.val + s.val, show 6 + 8 * κ.val + 2 * j.val + s.val < 38 by omega⟩
abbrev cell (κ j : Fin 4) (s : Fin 2) (c : Dev nD) : GSem nD τ sig := ((c : Thread nD τ), .dma (dsem κ j s))

/-- The kind, step and half of a semaphore, when it is one of the exchange's. -/
def kindOf (i : DmaSem sig) : Option (Fin 4 × Fin 4 × Fin 2) :=
  if h : 6 ≤ i.val then
    some (⟨(i.val - 6) / 8 % 4, Nat.mod_lt _ (by decide)⟩, ⟨(i.val - 6) % 8 / 2 % 4, Nat.mod_lt _ (by decide)⟩, ⟨i.val % 2, Nat.mod_lt _ (by decide)⟩)
  else none
theorem kindOf_dsem : ∀ (κ j : Fin 4) (s : Fin 2), kindOf (dsem κ j s) = some (κ, j, s) := by decide
theorem dsem_inj : Function.Injective fun x : Fin 4 × Fin 4 × Fin 2 => dsem x.1 x.2.1 x.2.2 := by decide

/-- The units a copy of kind `κ` and step `j` pays. -/
def amt (κ j : Fin 4) : ℕ := 32 * (if κ.val < 2 then len j else len (opp j))
theorem amt_pos : ∀ κ j, 0 < amt κ j := by decide

/-- The device on the other side of the exchange of kind `κ`, step `j`, half `s`. -/
def peer (κ j : Fin 4) (s : Fin 2) (c : Dev nD) : Dev nD := if κ.val < 2 then pr s j c else pr s (opp j) c
theorem peer_peer : ∀ (κ j : Fin 4) (s : Fin 2) (c : Dev nD), peer κ j s (peer κ j s c) = c := by
  intro κ j s c; unfold peer; split <;> exact pr_pr _ _ _

/-! ## Payloads -/

variable (X : Dev nD → FVec F S2048x1024 .bf16) (Wo : Dev nD → Vec F S1024x1024 .bf16)

/-- Half `s` of the receive buffer of step `j`, at contents not chosen. -/
def rsbAny (j : Fin 4) (s : Fin 2) (c : Dev nD) : sProp 𝕄 := match j with
  | 0 => iprop(∃ f, ptOn c cc0_scratch2 (RB 1024 0 1024 s) f)
  | 1 => iprop(∃ f, ptOn c cc0_scratch3 (RB 512 0 512 s) f)
  | 2 => iprop(∃ f, ptOn c cc0_scratch4 (RB 256 0 256 s) f)
  | 3 => iprop(∃ f, ptOn c cc0_scratch5 (RB 128 0 128 s) f)
/-- Half `s` of the receive buffer of step `j`, at the partner's partial sums. -/
def rsbAt (j : Fin 4) (s : Fin 2) (c : Dev nD) : sProp 𝕄 := match j with
  | 0 => ptOn c cc0_scratch2 (RB 1024 0 1024 s) (RSBc X Wo 0 c)
  | 1 => ptOn c cc0_scratch3 (RB 512 0 512 s) (RSBc X Wo 1 c)
  | 2 => ptOn c cc0_scratch4 (RB 256 0 256 s) (RSBc X Wo 2 c)
  | 3 => ptOn c cc0_scratch5 (RB 128 0 128 s) (RSBc X Wo 3 c)
/-- Rows of the gathering buffer, at contents not chosen. -/
def agAny (a l : ℕ) (s : Fin 2) (c : Dev nD) : sProp 𝕄 := iprop(∃ f, ptOn c cc0_scratch6 (RB 2048 a l s) f)
/-- Rows of the gathering buffer, at the finished sums. -/
def agAt (a l : ℕ) (s : Fin 2) (c : Dev nD) : sProp 𝕄 := ptOn c cc0_scratch6 (RB 2048 a l s) (AG X Wo)
/-- Rows of the send buffer, at contents not chosen. -/
def sbAny (a l : ℕ) (s : Fin 2) (c : Dev nD) : sProp 𝕄 := iprop(∃ f, ptOn c cc0_scratch1 (RB 1024 a l s) f)

/-- What device `q` hands over to `c` for the exchanges of half `s` along mesh dimension `k`. -/
def grant (k : Fin 4) (s : Fin 2) (q c : Dev nD) : sProp 𝕄 :=
  iprop(rsbAny (stepIx s k) s q ∗ agAny (ks s ((stepIx s k).val + 1) c) (len (stepIx s k)) s q
    ∗ reached ER (cell 1 (stepIx s k) s q) 0 ∗ reached ER (cell 3 (opp (stepIx s k)) s q) 0)
def barPay (k : Fin 4) (c : Dev nD) : sProp 𝕄 := iprop(grant k 0 (px k c) c ∗ grant k 1 (px k c) c)

/-- What the cell of kind `κ`, step `j`, half `s` of device `c` hands over. -/
def dmaPay (κ j : Fin 4) (s : Fin 2) (c : Dev nD) : sProp 𝕄 := match κ with
  | 0 => sbAny 0 (len j) s c
  | 1 => rsbAt X Wo j s c
  | 2 => agAt X Wo (ks s ((opp j).val + 1) c) (len (opp j)) s c
  | 3 => agAt X Wo (ks s ((opp j).val + 1) (pr s (opp j) c)) (len (opp j)) s c

/-! ## The schedule -/

/-- The duties of a semaphore: one per mesh dimension on the barrier, one on a semaphore of the exchange. -/
def semDuties : SemLoc sig → Finset (Fin 4)
  | .reg _ => Finset.univ
  | .dma i => if (kindOf i).isSome then {0} else ∅
def semAmount : SemLoc sig → ℕ
  | .reg _ => 1
  | .dma i => match kindOf i with
    | some (κ, j, _) => amt κ j
    | none => 1
def semPay (c : Dev nD) (d : Fin 4) : SemLoc sig → sProp 𝕄
  | .reg _ => barPay d c
  | .dma i => match kindOf i with
    | some (κ, j, s) => dmaPay X Wo κ j s c
    | none => iprop(emp)

def talkRd : Rounds.Schedule (GSem nD τ sig) (Fin 4) 𝕄 where
  duties g r := if r = 0 ∧ g.1.2 = .tc then semDuties g.2 else ∅
  unitless _ := False
  amount g _ _ := semAmount g.2
  payload g _ d := semPay X Wo g.1.1 d g.2
  amount_pos g _ _ _ := by
    match hg : g.2 with
    | .reg _ => exact Nat.one_pos
    | .dma i =>
      show 0 < semAmount (.dma i)
      unfold semAmount
      match h : kindOf i with
      | some (κ, j, s) => simp only [h]; exact amt_pos κ j
      | none => simp only [h]; exact Nat.one_pos

instance rsbAny_storable (j s c) : BI.Storable (upEmb : UEmb _ 𝕄) (rsbAny (F := F) j s c) := by
  unfold rsbAny; split <;> infer_instance
instance rsbAt_storable (j s c) : BI.Storable (upEmb : UEmb _ 𝕄) (rsbAt X Wo j s c) := by
  unfold rsbAt; split <;> infer_instance
instance agAny_storable (a l s c) : BI.Storable (upEmb : UEmb _ 𝕄) (agAny (F := F) a l s c) := by unfold agAny; infer_instance
instance agAt_storable (a l s c) : BI.Storable (upEmb : UEmb _ 𝕄) (agAt X Wo a l s c) := by unfold agAt; infer_instance
instance sbAny_storable (a l s c) : BI.Storable (upEmb : UEmb _ 𝕄) (sbAny (F := F) a l s c) := by unfold sbAny; infer_instance
instance dmaPay_storable (κ j s c) : BI.Storable (upEmb : UEmb _ 𝕄) (dmaPay X Wo κ j s c) := by
  unfold dmaPay; split <;> infer_instance
instance talkRd_payload_storable (g : GSem nD τ sig) (r : ℕ) (d : Fin 4) :
    BI.Storable (upEmb : UEmb _ 𝕄) ((talkRd X Wo).payload g r d) := by
  show BI.Storable upEmb (semPay X Wo g.1.1 d g.2)
  unfold semPay barPay grant
  (repeat' split) <;> infer_instance

section Sched

variable (c : Dev nD) (κ j : Fin 4) (s : Fin 2)

theorem duties_bar : (talkRd X Wo).duties (barCell c) 0 = Finset.univ := by dsimp only [talkRd]; exact if_pos ⟨rfl, rfl⟩
theorem duties_dma : (talkRd X Wo).duties (cell κ j s c) 0 = {0} := by
  dsimp only [talkRd]; rw [if_pos ⟨rfl, rfl⟩]; unfold semDuties; simp only [kindOf_dsem]; rfl
theorem duties_later (g : GSem nD τ sig) : ∀ r, 1 ≤ r → (talkRd X Wo).duties g r = ∅ :=
  fun r hr => by dsimp only [talkRd]; rw [if_neg (fun h => by omega)]
theorem amount_bar (d : Fin 4) : (talkRd X Wo).amount (barCell c) 0 d = 1 := rfl
theorem amount_dma (d : Fin 4) : (talkRd X Wo).amount (cell κ j s c) 0 d = amt κ j := by
  dsimp only [talkRd]; unfold semAmount; simp only [kindOf_dsem]
theorem expect_bar : (talkRd X Wo).expect (barCell c) 0 = 4 := by
  unfold Schedule.expect Schedule.amountOf; rw [duties_bar]; rfl
theorem expect_dma : (talkRd X Wo).expect (cell κ j s c) 0 = amt κ j := by
  unfold Schedule.expect Schedule.amountOf; rw [duties_dma, Finset.sum_singleton, amount_dma]
theorem payload_bar (d : Fin 4) : (talkRd X Wo).payload (barCell c) 0 d = barPay d c := rfl
theorem payload_dma (d : Fin 4) : (talkRd X Wo).payload (cell κ j s c) 0 d = dmaPay X Wo κ j s c := by
  dsimp only [talkRd]; unfold semPay; simp only [kindOf_dsem]
theorem rest_bar : bigSep ((talkRd X Wo).duties (barCell c) 0 \ ∅) (fun u => (talkRd X Wo).payload (barCell c) 0 u)
    = iprop(barPay 0 c ∗ barPay 1 c ∗ barPay 2 c ∗ barPay (F := F) 3 c) := by
  rw [Finset.sdiff_empty, duties_bar, bigSep_univ_eq_bigSepL [0, 1, 2, 3] (by decide) (by decide)]
  rfl
theorem rest_dma : bigSep ((talkRd X Wo).duties (cell κ j s c) 0 \ ∅) (fun u => (talkRd X Wo).payload (cell κ j s c) 0 u) = dmaPay X Wo κ j s c := by
  rw [Finset.sdiff_empty, duties_dma, bigSep_singleton, payload_dma]

end Sched

/-! ## What a device owes; the levels -/

/-- The `i`-th due counted from the last: on whose cell, which semaphore, how much, at what level. -/
def dueJ (i : ℕ) : Fin 4 := ⟨(7 - i % 8) / 2 % 4, Nat.mod_lt _ (by decide)⟩
def dueS (i : ℕ) : Fin 2 := ⟨(7 - i % 8) % 2, Nat.mod_lt _ (by decide)⟩
def dueK (i : ℕ) : Fin 4 := ⟨(19 - i) % 4, Nat.mod_lt _ (by decide)⟩
def duePeer (i : ℕ) (c : Dev nD) : Dev nD :=
  if i < 8 then peer 3 (dueJ i) (dueS i) c else if i < 16 then peer 1 (dueJ i) (dueS i) c else px (dueK i) c
def dueSem (i : ℕ) : SemLoc sig :=
  if i < 8 then .dma (dsem 3 (dueJ i) (dueS i)) else if i < 16 then .dma (dsem 1 (dueJ i) (dueS i)) else .reg barS
def dueAmt (i : ℕ) : ℕ := if i < 8 then amt 3 (dueJ i) else if i < 16 then amt 1 (dueJ i) else 1
def dueLv (i : ℕ) : ℕ := if i < 8 then 6 + (dueJ i).val else if i < 16 then 2 + (dueJ i).val else 1

theorem duePeer_duePeer (i : ℕ) (c : Dev nD) : duePeer i (duePeer i c) = c := by
  unfold duePeer; split
  · exact peer_peer _ _ _ _
  · split
    · exact peer_peer _ _ _ _
    · exact px_px _ _

/-- What a device owes when `k` of its dues are left. -/
def owe (c : Dev nD) : ℕ → CellTallies nD τ sig Unit
  | 0 => 0
  | k + 1 => owe c k + tallyAt ((duePeer k c : Thread nD τ), dueSem k) () (dueAmt k)

theorem owe_pos {c : Dev nD} {g : GSem nD τ sig} {u : Unit} : ∀ {k : ℕ}, 0 < owe c k g u → ∃ i, i < k ∧ g = ((duePeer i c : Thread nD τ), dueSem i)
  | 0, h => absurd h (Nat.lt_irrefl 0)
  | k + 1, h => by
    unfold owe at h
    rw [Pi.add_apply, Finsupp.add_apply] at h
    rcases Nat.add_pos_iff_pos_or_pos.mp h with h | h
    · obtain ⟨i, hi, e⟩ := owe_pos h
      exact ⟨i, Nat.lt_succ_of_lt hi, e⟩
    · rw [tallyAt_apply] at h
      split at h
      · next hg => exact ⟨k, Nat.lt_succ_self k, hg.1⟩
      · exact absurd h (Nat.lt_irrefl 0)

def L (g : GSem nD τ sig) : Finset Unit := if g.1.2 = .tc then {()} else ∅
/-- The barrier at 1, the reduction's landings at 2 to 5, the gathering's at 6 to 9, everything else at 0. -/
def semLv : SemLoc sig → ℕ
  | .reg _ => 1
  | .dma i => match kindOf i with
    | some (1, j, _) => 2 + j.val
    | some (3, j, _) => 6 + j.val
    | _ => 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem semLv_due (i : ℕ) : semLv (dueSem i) = dueLv i := by
  unfold dueSem dueLv; split
  · unfold semLv; simp only [kindOf_dsem]
  · split
    · unfold semLv; simp only [kindOf_dsem]
    · rfl

/-- A wait is admitted below every level still owed. -/
theorem mayWait (c : Dev nD) (sm : SemLoc sig) (k : ℕ) (h : ∀ i, i < k → semLv sm < dueLv i) :
    (levAts L lv : sProp 𝕄) ⊢ MayWait (c : Thread nD τ) sm () (owe c k) :=
  MayOwe.of_cut (L := L) (lev := lv) (semLv sm) (fun p hp => by rw [Finset.mem_singleton.mp hp, L_tc]; exact Finset.mem_singleton_self _)
    (fun g u hg => by
      obtain ⟨i, -, rfl⟩ := owe_pos hg
      rw [L_tc]; exact Finset.mem_singleton_self _)
    (fun p hp => by rw [Finset.mem_singleton.mp hp]; exact le_refl _)
    (fun g u hg => by
      obtain ⟨i, hi, rfl⟩ := owe_pos hg
      show semLv sm < semLv (dueSem i)
      rw [semLv_due]; exact h i hi)

/-- The core owes what is left of its dues. -/
def ow (c : Dev nD) (k : ℕ) : sProp 𝕄 := iprop(∃ W, owes (c : Thread nD τ) (owe c k) W)

/-! ## The ghost state -/

/-- Every cell of the exchange. -/
abbrev TalkIx : Type := Option (Fin 4 × Fin 4 × Fin 2)
abbrev talkSem : TalkIx → SemLoc sig
  | none => .reg barS
  | some x => .dma (dsem x.1 x.2.1 x.2.2)
theorem talkSem_inj : Function.Injective talkSem := by
  intro a b h
  match a, b with
  | none, none => rfl
  | none, some x => cases h
  | some x, none => cases h
  | some x, some y => exact congrArg some (dsem_inj (by injection h))

/-- Every cell's invariant, under the names `K`, and the levels. -/
def ctx0 (K : GSem nD τ sig → ℕ) : sProp 𝕄 :=
  iprop((bigSep Finset.univ fun x : Dev nD × TalkIx => cellInv ER (talkRd X Wo) (K ((x.1 : Thread nD τ), talkSem x.2)) ((x.1 : Thread nD τ), talkSem x.2))
    ∗ levAts L lv)
instance ctx0_persistent (K : GSem nD τ sig → ℕ) : BI.Persistent (ctx0 X Wo K) := by unfold ctx0; infer_instance

theorem inv_at (K : GSem nD τ sig → ℕ) (c : Dev nD) (x : TalkIx) :
    ctx0 X Wo K ⊢ cellInv ER (talkRd X Wo) (K ((c : Thread nD τ), talkSem x)) ((c : Thread nD τ), talkSem x) := by
  have h : (bigSep Finset.univ fun x : Dev nD × TalkIx => (cellInv ER (talkRd X Wo) (K ((x.1 : Thread nD τ), talkSem x.2)) ((x.1 : Thread nD τ), talkSem x.2) : sProp 𝕄))
      ⊢ cellInv ER (talkRd X Wo) (K ((c : Thread nD τ), talkSem x)) ((c : Thread nD τ), talkSem x) :=
    bigSep_elim (Finset.mem_univ (c, x))
  unfold ctx0
  iintro ⟨H, -⟩
  iapply h; iexact H
theorem lev_at (K : GSem nD τ sig → ℕ) : ctx0 X Wo K ⊢ levAts L lv := by
  unfold ctx0; iintro ⟨-, H⟩; iexact H

theorem close (κ : ℕ) (g : GSem nD τ sig) :
    iprop(cellInv ER (talkRd X Wo) κ g ∗ atPos ER g (0 + 1) ∅ 0) ⊢ (|={Set.univ}=> semVal g 0 : sProp 𝕄) :=
  Rounds.cell_close ER (talkRd X Wo) (Set.mem_univ κ) id (duties_later X Wo g)

/-- An exchange before its copy is issued: the two duties' tokens, the two positions, the landing's credit. -/
def ready (κ κ' j : Fin 4) (s : Fin 2) (c : Dev nD) : sProp 𝕄 :=
  iprop(dutyTok ER (cell κ j s c) 0 0 ∗ dutyTok ER (cell κ' j s (peer κ' j s c)) 0 0 ∗ reached ER (cell κ j s c) 0
    ∗ atPos ER (cell κ j s c) 0 ∅ 0 ∗ atPos ER (cell κ' j s c) 0 ∅ 0 ∗ cred (tallyAt (cell κ' j s c) () (amt κ' j)))
/-- Once issued, until the send cell is waited on. -/
def sentS (κ j : Fin 4) (s : Fin 2) (c : Dev nD) : sProp 𝕄 :=
  iprop(atPos ER (cell κ j s c) 0 ∅ 0 ∗ cred (tallyAt (cell κ j s c) () (amt κ j)))
/-- A cell that has been waited on. -/
def past (κ j : Fin 4) (s : Fin 2) (c : Dev nD) : sProp 𝕄 := atPos ER (cell κ j s c) 1 ∅ 0

end Cert.KernelIdeal.Body
-- ==== Proof.KernelIdeal.Steps.lean ====
/-
  One step of the exchange each: a wait, a copy, a signal; and the loads and stores of the exchange's buffers.
-/
module

public import proofs.«01_k».proof.Proof.KernelIdeal.Protocol

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-! ## Waits -/

/-- A wait on a cell of the exchange: what the cell hands over arrives. -/
theorem stage_wait {α : Type} {Q : α → sProp 𝕄} (κ j : Fin 4) (s : Fin 2) (k : ℕ) {sh : Shape} {sem : DmaSem sig}
    {src dst : Memref sig .tc .vmem sh .bf16} {h1 : src.view.WordExact} {h2 : dst.view.WordExact}
    {kk : PUnit → Prog (TpuEff nD τ sig (Elt F) Λ₀ .tc) α}
    (hsem : sem = dsem κ j s) (hN : dst.view.dmaCredit = amt κ j) (hlev : ∀ i, i < k → semLv (.dma (dsem κ j s)) < dueLv i) :
    iprop(ctx0 X Wo K ∗ cred (tallyAt (cell κ j s c) () (amt κ j)) ∗ atPos ER (cell κ j s c) 0 ∅ 0 ∗ ow c k)
      ⊢ iprop(((past κ j s c ∗ dmaPay X Wo κ j s c ∗ ow c k) -∗ wp frame (wpE (defs₀ (F := F)) 𝒱₀ c none) Set.univ (kk ⟨⟩) Q)
        -∗ wp frame (wpE (defs₀ (F := F)) 𝒱₀ c none) Set.univ (Prog.lift (.waitDma2 sem src dst h1 h2) >>= kk) Q) := by
  subst hsem
  rw [Prog.bind_lift]
  unfold ow past
  iintro ⟨#HX, Hc, Ha, ⟨%W, HO⟩⟩ HK
  iapply (Rounds.wp_wait_rest_token 𝒱₀ ER (talkRd X Wo) (c : Thread nD τ) none (κ := K (cell κ j s c))
      (wpE_waitDma2_eq (src := src) (dst := dst) 𝒱₀ (c : Thread nD τ) none Set.univ) (Set.mem_univ _) () (O := owe c k) (W := W) (R := 0) (m := 0) (T := ∅)
      (by rw [expect_dma, Nat.zero_add]; exact hN)) $$ [Hc HO Ha]
  · isplitr; · iapply (inv_at X Wo K c (some (κ, j, s))); iexact HX
    isplitl [Hc]; · rw [hN]; iexact Hc
    isplitl [HO]; · iexact HO
    isplitr; · iapply (mayWait c (.dma (dsem κ j s)) k hlev); iapply (lev_at X Wo K); iexact HX
    iexact Ha
  iintro ⟨HO, Ha, -, Hp⟩
  ihave Hp' := (Entails.of_eq (rest_dma X Wo c κ j s)) $$ Hp
  iapply HK
  isplitl [Ha]; · iexact Ha
  isplitl [Hp']; · iexact Hp'
  iexists _; iexact HO

/-! ## Copies -/

/-- A copy to the partner: it pays the own send cell's duty and the partner's receive cell's. -/
theorem stage_send {α : Type} {Q : α → sProp 𝕄} (κ κ' j : Fin 4) (s : Fin 2) (k : ℕ) {sh : Shape} {cd : Dev nD} {sS sR : DmaSem sig}
    {src dst : Memref sig .tc .vmem sh .bf16} {hsc : dst.view.ref.isScScratch = false}
    {h1 : src.view.WordExact} {h2 : dst.view.WordExact} {h3 : DmaTarget.Typed .vmem (.dma sR) (.remote (Dev.tc cd : Thread nD τ) dst (.dma sS) hsc)}
    {kk : PUnit → Prog (TpuEff nD τ sig (Elt F) Λ₀ .tc) α}
    (fs : Buf (Elt F) (src.view.loc (c : Thread nD τ))) (fd : Buf (Elt F) (dst.view.loc (cd : Thread nD τ)))
    (hS : sS = dsem κ j s) (hR : sR = dsem κ' j s) (hcd : cd = peer κ' j s c) (hN : dst.view.dmaCredit = amt κ j) (hN' : amt κ j = amt κ' j)
    (hdue : ((duePeer k c : Thread nD τ), dueSem k, dueAmt k) = ((peer κ' j s c : Thread nD τ), .dma (dsem κ' j s), amt κ' j))
    (hp1 : (src.view.loc (c : Thread nD τ) ↦[src.view.set]{fullShare} fs) ⊢ (dmaPay X Wo κ j s c : sProp 𝕄))
    (hp2 : (dst.view.loc (cd : Thread nD τ) ↦[dst.view.set]{fullShare} dst.view.write (Elt F) fd (src.view.read (Elt F) fs) Finset.univ)
      ⊢ (dmaPay X Wo κ' j s cd : sProp 𝕄)) :
    iprop(ctx0 X Wo K ∗ ready κ κ' j s c ∗ reached ER (cell κ' j s (peer κ' j s c)) 0
        ∗ (src.view.loc (c : Thread nD τ) ↦[src.view.set]{fullShare} fs) ∗ (dst.view.loc (cd : Thread nD τ) ↦[dst.view.set]{fullShare} fd)
        ∗ ow c (k + 1))
      ⊢ iprop(((sentS κ j s c ∗ (atPos ER (cell κ' j s c) 0 ∅ 0 ∗ cred (tallyAt (cell κ' j s c) () (amt κ' j))) ∗ ow c k)
          -∗ wp frame (wpE (defs₀ (F := F)) 𝒱₀ c none) Set.univ (kk ⟨⟩) Q)
        -∗ wp frame (wpE (defs₀ (F := F)) 𝒱₀ c none) Set.univ
          (Prog.lift (.enqueueDma src (.remote (Dev.tc cd : Thread nD τ) dst (.dma sS) hsc) (.dma sR) h1 h2 h3) >>= kk) Q) := by
  subst hS hR hcd
  rw [Prog.bind_lift]
  unfold ow ready sentS
  iintro ⟨#HX, ⟨HtS, HtR, #HrS, HaS, HaR, HcR⟩, #HrR, Hs, Hd, ⟨%W, HO⟩⟩ HK
  iapply (Rounds.wp_send_pointsTo 𝒱₀ ER (talkRd X Wo) (c : Thread nD τ) none (c' := (peer κ' j s c : Thread nD τ)) (src := src) (dst := dst)
      (sS := .dma (dsem κ j s)) (sem := .dma (dsem κ' j s)) (q := fullShare) (fs := fs) (κ₁ := K (cell κ j s c)) (κ₂ := K (cell κ' j s (peer κ' j s c)))
      (r₁ := 0) (r₂ := 0) (d₁ := 0) (d₂ := 0) (fd := fd)
      (by rw [duties_dma]; exact Finset.mem_singleton_self _) (by rw [duties_dma]; exact Finset.mem_singleton_self _)
      () () (amt κ j) hN (amount_dma X Wo c κ j s 0) ((amount_dma X Wo _ κ' j s 0).trans hN'.symm) (owe c k)
      (by
        have e1 : ((duePeer k c : Thread nD τ)) = (peer κ' j s c : Thread nD τ) := congrArg Prod.fst hdue
        have e2 : dueSem k = .dma (dsem κ' j s) := congrArg (fun x => x.2.1) hdue
        have e3 : dueAmt k = amt κ' j := congrArg (fun x => x.2.2) hdue
        show owe c k + tallyAt ((duePeer k c : Thread nD τ), dueSem k) () (dueAmt k) = _
        rw [e1, e2, e3, hN'])
      (W := W) (by rw [payload_dma]; exact hp1) (by rw [payload_dma]; exact hp2)) $$ [Hs Hd HO HtS HtR]
  · isplitr; · iapply (inv_at X Wo K c (some (κ, j, s))); iexact HX
    isplitr; · iapply (inv_at X Wo K (peer κ' j s c) (some (κ', j, s))); iexact HX
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply HK
  isplitl [HaS HcS]; · isplitl [HaS] <;> iassumption
  isplitl [HaR HcR]; · isplitl [HaR] <;> iassumption
  iexists W; iexact HO

end Cert.KernelIdeal.Body
-- ==== Proof.KernelIdeal.Attention.lean ====
/-
  The attention phase of the body: for each of the four row tiles and eight heads, what the tile's store
  writes, and the step of the run over each printed part.
-/
module

public import proofs.«01_k».proof.Proof.KernelIdeal.Base

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

/-! ## The value of one tile -/

/-- Head `h` of a stack of eight. -/
def headOf (k : Vec F S8x2048x128 .bf16) (h : Fin 8) : Vec F S1x2048x128 .bf16 := fun i => k (ix3 h (i 1) (i 2))

theorem tile_slices (qt : Fin 4) (h : Fin 8) : S2048x1024.Slices ![512 * qt.val, 128 * h.val] S512x128 := by
  revert qt h; decide

/-- The context tile of row tile `qt` and head `h`: scores against the head's keys, the additive mask, the row-wise
    normalised exponential, and the weighted sum of the head's values. -/
def tileVal (qt : Fin 4) (h : Fin 8) (q : FVec F S2048x1024 .bf16) (B : FVec F S512x2048 .f32)
    (kh vh : Vec F S1x2048x128 .bf16) : FVec F S512x128 .bf16 :=
  have qh : FVec F S512x128 .bf16 := extractStridedSlice S512x128 ![512 * qt.val, 128 * h.val] q (tile_slices qt h)
  have km : FVec F S2048x128 .bf16 := shapeCast S2048x128 kh shapeCasts_S1x2048x128_S2048x128
  have sc : FVec F S512x2048 .f32 := matmul dot_S512x128_S2048x128_S512x2048_1_1_0_0_n_n none qh km (constant S512x2048 .f32 0x00000000#32)
  have ex : FVec F S512x2048 .f32 := exp (addf sc B)
  have sm : FVec F S512 .f32 := multiReduction .add [1] S512 ex 0x00000000#32 reduces_S512x2048_S512 (.inl rfl) rfl
  have sb : FVec F S512x2048 .f32 := broadcastTo S512x2048 (shapeCast S512x1 sm shapeCasts_S512_S512x1) broadcasts_S512x1_S512x2048
  have p : FVec F S512x2048 .bf16 := truncf .bf16 (divf ex sb) bitsLt_bf16_f32
  have vm : FVec F S2048x128 .bf16 := shapeCast S2048x128 vh shapeCasts_S1x2048x128_S2048x128
  have o : FVec F S512x128 .f32 := matmul dot_S512x2048_S2048x128_S512x128_1_0_0_1_n_n none p vm (constant S512x128 .f32 0x00000000#32)
  shapeCast S512x128 (truncf .bf16 o bitsLt_bf16_f32) shapeCasts_S512x128_S512x128

/-! ## The values carried from part to part -/

/-- What part 2 returns as its `v50`. -/
abbrev a_v50  := k0_pay4 k0_pay3
/-- What part 2 returns as its `v53`. -/
abbrev a_v53  := k0_pay5
/-- What part 2 returns as its `v72`. -/
abbrev a_v72  := k0_pay6
/-- What part 3 returns as its `v102`. -/
abbrev a_v102  := k0_pay7 (F := F) (a_v50) (a_v53) (a_v72) 1#32
/-- What part 3 returns as its `v113`. -/
abbrev a_v113 (q : FVec F S2048x1024 .bf16) (k : Vec F S8x2048x128 .bf16) := k0_pay8 q (a_v50) (a_v53) (a_v72) 1#32 (headOf k 0)
/-- What part 3 returns as its `v114`. -/
abbrev a_v114 (v : Vec F S8x2048x128 .bf16) := (headOf v 0)
/-- What part 4 returns as its `v149`. -/
abbrev a_v149 (q : FVec F S2048x1024 .bf16) (k : Vec F S8x2048x128 .bf16) := k0_pay11 q (a_v102) (headOf k 2)
/-- What part 4 returns as its `v150`. -/
abbrev a_v150 (v : Vec F S8x2048x128 .bf16) := (headOf v 2)
/-- What part 5 returns as its `v185`. -/
abbrev a_v185 (q : FVec F S2048x1024 .bf16) (k : Vec F S8x2048x128 .bf16) := k0_pay14 q (a_v102) (headOf k 4)
/-- What part 5 returns as its `v186`. -/
abbrev a_v186 (v : Vec F S8x2048x128 .bf16) := (headOf v 4)
/-- What part 6 returns as its `v221`. -/
abbrev a_v221 (q : FVec F S2048x1024 .bf16) (k : Vec F S8x2048x128 .bf16) := k0_pay17 q (a_v102) (headOf k 6)
/-- What part 6 returns as its `v222`. -/
abbrev a_v222 (v : Vec F S8x2048x128 .bf16) := (headOf v 6)
/-- What part 7 returns as its `v249`. -/
abbrev a_v249  := k0_pay20
/-- What part 7 returns as its `v251`. -/
abbrev a_v251  := k0_pay21
/-- What part 7 returns as its `v258`. -/
abbrev a_v258  := k0_pay22
/-- What part 7 returns as its `v260`. -/
abbrev a_v260  := (Scalar.extui (Scalar.cmpi .sgt 64#32 0#32))
/-- What part 8 returns as its `v302`. -/
abbrev a_v302  := k0_pay25 (a_v249) 64#32 (a_v251) (a_v258) (a_v260) 0#32
/-- What part 8 returns as its `v305`. -/
abbrev a_v305  := (Scalar.select (Scalar.cmpi .eq 3#32 0#32) 1#32 3#32)
/-- What part 8 returns as its `v307`. -/
abbrev a_v307  := k0_pay26 (a_v249) 64#32 (a_v251) (a_v258) (a_v260) 0#32
/-- What part 9 returns as its `v325`. -/
abbrev a_v325  := k0_pay27 (F := F) (a_v302) (a_v305) (a_v307)
/-- What part 9 returns as its `v344`. -/
abbrev a_v344 (q : FVec F S2048x1024 .bf16) := k0_pay29 q
/-- What part 9 returns as its `v346`. -/
abbrev a_v346 (k : Vec F S8x2048x128 .bf16) := k0_pay30 (headOf k 1)
/-- What part 10 returns as its `v380`. -/
abbrev a_v380 (q : FVec F S2048x1024 .bf16) := k0_pay33 q
/-- What part 10 returns as its `v382`. -/
abbrev a_v382 (k : Vec F S8x2048x128 .bf16) := k0_pay34 (headOf k 3)
/-- What part 11 returns as its `v416`. -/
abbrev a_v416 (q : FVec F S2048x1024 .bf16) := k0_pay37 q
/-- What part 11 returns as its `v418`. -/
abbrev a_v418 (k : Vec F S8x2048x128 .bf16) := k0_pay38 (headOf k 5)
/-- What part 12 returns as its `v452`. -/
abbrev a_v452 (q : FVec F S2048x1024 .bf16) := k0_pay41 q
/-- What part 12 returns as its `v454`. -/
abbrev a_v454 (k : Vec F S8x2048x128 .bf16) := k0_pay42 (headOf k 7)
/-- What part 13 returns as its `v496`. -/
abbrev a_v496  := k0_pay44
/-- What part 13 returns as its `v497`. -/
abbrev a_v497  := (iota .tc S512x2048 32 [1] iota_S512x2048_d1_w32)
/-- What part 14 returns as its `v525`. -/
abbrev a_v525  := k0_pay46 (a_v496) (a_v497)
/-- What part 14 returns as its `v542`. -/
abbrev a_v542  := k0_pay47 (a_v496) (a_v497)
/-- What part 15 returns as its `v548`. -/
abbrev a_v548  := k0_pay48 (F := F) (a_v525) (a_v542) 0#32
/-- What part 15 returns as its `v577`. -/
abbrev a_v577 (q : FVec F S2048x1024 .bf16) (k : Vec F S8x2048x128 .bf16) := k0_pay50 q (a_v525) (a_v542) 0#32 (headOf k 1)
/-- What part 15 returns as its `v579`. -/
abbrev a_v579 (v : Vec F S8x2048x128 .bf16) := k0_pay51 (headOf v 1)
/-- What part 15 returns as its `cst_268`. -/
abbrev a_cst_268  := (constant (F := F) S512x128 .f32 0x00000000#32)
/-- What part 16 returns as its `v613`. -/
abbrev a_v613 (q : FVec F S2048x1024 .bf16) (k : Vec F S8x2048x128 .bf16) := k0_pay54 q (a_v548) (headOf k 3)
/-- What part 16 returns as its `v615`. -/
abbrev a_v615 (v : Vec F S8x2048x128 .bf16) := k0_pay55 (headOf v 3)
/-- What part 16 returns as its `cst_290`. -/
abbrev a_cst_290  := (constant (F := F) S512x128 .f32 0x00000000#32)
/-- What part 17 returns as its `v649`. -/
abbrev a_v649 (q : FVec F S2048x1024 .bf16) (k : Vec F S8x2048x128 .bf16) := k0_pay58 q (a_v548) (headOf k 5)
/-- What part 17 returns as its `v651`. -/
abbrev a_v651 (v : Vec F S8x2048x128 .bf16) := k0_pay59 (headOf v 5)
/-- What part 17 returns as its `cst_312`. -/
abbrev a_cst_312  := (constant (F := F) S512x128 .f32 0x00000000#32)
/-- What part 18 returns as its `v685`. -/
abbrev a_v685 (q : FVec F S2048x1024 .bf16) (k : Vec F S8x2048x128 .bf16) := k0_pay62 q (a_v548) (headOf k 7)
/-- What part 18 returns as its `v687`. -/
abbrev a_v687 (v : Vec F S8x2048x128 .bf16) := k0_pay63 (headOf v 7)
/-- What part 18 returns as its `cst_334`. -/
abbrev a_cst_334  := (constant (F := F) S512x128 .f32 0x00000000#32)
/-- What part 19 returns as its `v719`. -/
abbrev a_v719  := k0_pay65
/-- What part 19 returns as its `v720`. -/
abbrev a_v720  := (iota .tc S512x2048 32 [1] iota_S512x2048_d1_w32)
/-- What part 19 returns as its `v722`. -/
abbrev a_v722  := k0_pay66
/-- What part 19 returns as its `v729`. -/
abbrev a_v729  := k0_pay67
/-- What part 19 returns as its `v731`. -/
abbrev a_v731  := (Scalar.extui (Scalar.cmpi .sgt 64#32 0#32))
/-- What part 20 returns as its `v771`. -/
abbrev a_v771  := k0_pay68 (F := F) (a_v719) (a_v720) 64#32 (a_v722) (a_v729) (a_v731) 0#32
/-- What part 20 returns as its `v775`. -/
abbrev a_v775 (q : FVec F S2048x1024 .bf16) (k : Vec F S8x2048x128 .bf16) := k0_pay69 q (headOf k 0)
/-- What part 21 returns as its `v811`. -/
abbrev a_v811 (q : FVec F S2048x1024 .bf16) (k : Vec F S8x2048x128 .bf16) := (k0_pay72 q (headOf k 2))
/-- What part 22 returns as its `v847`. -/
abbrev a_v847 (q : FVec F S2048x1024 .bf16) (k : Vec F S8x2048x128 .bf16) := (k0_pay75 q (headOf k 4))
/-- What part 23 returns as its `v883`. -/
abbrev a_v883 (q : FVec F S2048x1024 .bf16) (k : Vec F S8x2048x128 .bf16) := (k0_pay78 q (headOf k 6))
/-- The additive mask of row tile `qt`. -/
def biasOf (qt : Fin 4) : FVec F S512x2048 .f32 :=
  match qt with
  | 0 => (a_v102)
  | 1 => (a_v325)
  | 2 => (a_v548)
  | 3 => (a_v771)

/-! ## The context buffer as the tiles fill it -/

/-- The whole context of a device: at row `r` and column `x`, the tile that holds them. -/
def ctxOf (q : FVec F S2048x1024 .bf16) (k v : Vec F S8x2048x128 .bf16) : FVec F S2048x1024 .bf16 := fun i =>
  tileVal ⟨(i 0).val / 512, by have := ValueIdx.idx2_lt0 i; omega⟩ ⟨(i 1).val / 128, by have := ValueIdx.idx2_lt1 i; omega⟩ q
    (biasOf ⟨(i 0).val / 512, by have := ValueIdx.idx2_lt0 i; omega⟩)
    (headOf k ⟨(i 1).val / 128, by have := ValueIdx.idx2_lt1 i; omega⟩) (headOf v ⟨(i 1).val / 128, by have := ValueIdx.idx2_lt1 i; omega⟩)
    (ix2 ⟨(i 0).val % 512, Nat.mod_lt _ (by decide)⟩ ⟨(i 1).val % 128, Nat.mod_lt _ (by decide)⟩)

/-- `f` holds the first `n` tiles, in the order the body writes them. -/
def Agrees (q : FVec F S2048x1024 .bf16) (k v : Vec F S8x2048x128 .bf16) (n : ℕ) (f : FVec F S2048x1024 .bf16) : Prop :=
  ∀ i : S2048x1024.Idx, (i 0).val / 512 * 8 + (i 1).val / 128 < n → f i = ctxOf q k v i

theorem agrees_full {q : FVec F S2048x1024 .bf16} {k v : Vec F S8x2048x128 .bf16} {f : FVec F S2048x1024 .bf16}
    (h : Agrees q k v 32 f) : f = ctxOf q k v := by
  funext i
  refine h i ?_
  have h0 := ValueIdx.idx2_lt0 i
  have h1 := ValueIdx.idx2_lt1 i
  omega

/-- One more tile. -/
theorem agrees_step {q : FVec F S2048x1024 .bf16} {k v : Vec F S8x2048x128 .bf16} {f : FVec F S2048x1024 .bf16}
    (qt : Fin 4) (h : Fin 8) {w : FVec F S512x128 .bf16} (hw : w = tileVal qt h q (biasOf qt) (headOf k h) (headOf v h))
    {off : Fin S2048x1024.rank → ℕ} (hoff : off = ![512 * qt.val, 128 * h.val])
    (inb : ∀ a, off a + S512x128.size a ≤ S2048x1024.size a)
    (hf : Agrees q k v (qt.val * 8 + h.val) f) :
    Agrees q k v (qt.val * 8 + h.val + 1)
      (((Memref.whole cc0_scratch0).access (Rect.unit (s := S2048x1024) off S512x128.size inb)).write (Elt F) f w Finset.univ) := by
  subst hoff hw
  intro i hi
  have hi0 := ValueIdx.idx2_lt0 i
  have hi1 := ValueIdx.idx2_lt1 i
  have hq := qt.isLt
  have hh := h.isLt
  rw [write_unit_apply cc0_scratch0]
  by_cases hin : (i 0).val / 512 * 8 + (i 1).val / 128 = qt.val * 8 + h.val
  · have e0 : (i 0).val / 512 = qt.val := by omega
    have e1 : (i 1).val / 128 = h.val := by omega
    have hall : ∀ a : Fin 2, (![512 * qt.val, 128 * h.val] : Fin 2 → ℕ) a ≤ (i a).val ∧ (i a).val < (![512 * qt.val, 128 * h.val] : Fin 2 → ℕ) a + S512x128.size a := by
      intro a
      match a with
      | ⟨0, _⟩ => exact ⟨show 512 * qt.val ≤ (i 0).val by omega, show (i 0).val < 512 * qt.val + 512 by omega⟩
      | ⟨1, _⟩ => exact ⟨show 128 * h.val ≤ (i 1).val by omega, show (i 1).val < 128 * h.val + 128 by omega⟩
    refine (dif_pos hall).trans ?_
    unfold ctxOf
    have q0 : (⟨(i 0).val / 512, by omega⟩ : Fin 4) = qt := Fin.ext e0
    have q1 : (⟨(i 1).val / 128, by omega⟩ : Fin 8) = h := Fin.ext e1
    rw [q0, q1]
    congr 1
    funext a
    match a with
    | ⟨0, _⟩ => exact Fin.ext (show (i 0).val - 512 * qt.val = (i 0).val % 512 by omega)
    | ⟨1, _⟩ => exact Fin.ext (show (i 1).val - 128 * h.val = (i 1).val % 128 by omega)
  · refine (dif_neg ?_).trans (hf i (by omega))
    intro hall
    have a0 : 512 * qt.val ≤ (i 0).val ∧ (i 0).val < 512 * qt.val + 512 := hall (0 : Fin 2)
    have a1 : 128 * h.val ≤ (i 1).val ∧ (i 1).val < 128 * h.val + 128 := hall (1 : Fin 2)
    omega

/-! ## The run over the phase -/

/-- What the phase holds: keys, values, and the context buffer with its first `n` tiles written. -/
def attRes (c : Dev nD) (q : FVec F S2048x1024 .bf16) (k v : Vec F S8x2048x128 .bf16) (n : ℕ) : sProp 𝕄 :=
  iprop(pt c cc0_stg2_0 k ∗ pt c cc0_stg3_0 v ∗ ∃ f, ⌜Agrees q k v n f⌝ ∗ pt c cc0_scratch0 f)

section Steps

variable {α : Type} (c : Dev nD) (q : FVec F S2048x1024 .bf16) (k v : Vec F S8x2048x128 .bf16) {n : ℕ}

theorem att_k {Q : α → sProp 𝕄} (h : Fin 8) {off : Fin S8x2048x128.rank → ℕ} (hoff : off = ![h.val, 0, 0])
    {inb : ∀ a, off a + S1x2048x128.size a ≤ S8x2048x128.size a} {hl}
    {kk : Vec F S1x2048x128 .bf16 → Prog (TpuEff nD τ sig (Elt F) Λ₀ .tc) α} :
    attRes c q k v n ⊢ iprop((attRes c q k v n -∗ wp frame (wpE (defs₀ (F := F)) 𝒱₀ c none) Set.univ (kk (headOf k h)) Q)
      -∗ wp frame (wpE (defs₀ (F := F)) 𝒱₀ c none) Set.univ (Prog.lift (.load (Memref.whole cc0_stg2_0)
          (Rect.unit (s := S8x2048x128) off S1x2048x128.size inb).toLoadRect hl) >>= kk) Q) := by
  subst hoff
  have e : (Memref.whole cc0_stg2_0).view.readAt (Elt F) (Rect.unit (s := S8x2048x128) ![h.val, 0, 0] S1x2048x128.size inb).toLoadRect k = headOf k h := by
    funext j
    rw [readAt_unit_apply cc0_stg2_0]
    unfold headOf
    congr 1
    funext a
    match a with
    | ⟨0, _⟩ => exact Fin.ext (show h.val + (j 0).val = h.val by have : (j 0).val < 1 := (j 0).isLt; omega)
    | ⟨1, _⟩ => exact Fin.ext (Nat.zero_add _)
    | ⟨2, _⟩ => exact Fin.ext (Nat.zero_add _)
  rw [Prog.bind_lift]
  unfold attRes
  iintro ⟨Hk, Hv, Hc⟩ HK
  iapply (wp_load 𝒱₀ (c : Thread nD τ) none Set.univ (m := Memref.whole cc0_stg2_0) (Finset.subset_univ _)) $$ Hk
  iintro Hk
  rw [e]
  iapply HK
  isplitl [Hk]; · iexact Hk
  isplitl [Hv]; · iexact Hv
  iexact Hc

theorem att_v {Q : α → sProp 𝕄} (h : Fin 8) {off : Fin S8x2048x128.rank → ℕ} (hoff : off = ![h.val, 0, 0])
    {inb : ∀ a, off a + S1x2048x128.size a ≤ S8x2048x128.size a} {hl}
    {kk : Vec F S1x2048x128 .bf16 → Prog (TpuEff nD τ sig (Elt F) Λ₀ .tc) α} :
    attRes c q k v n ⊢ iprop((attRes c q k v n -∗ wp frame (wpE (defs₀ (F := F)) 𝒱₀ c none) Set.univ (kk (headOf v h)) Q)
      -∗ wp frame (wpE (defs₀ (F := F)) 𝒱₀ c none) Set.univ (Prog.lift (.load (Memref.whole cc0_stg3_0)
          (Rect.unit (s := S8x2048x128) off S1x2048x128.size inb).toLoadRect hl) >>= kk) Q) := by
  subst hoff
  have e : (Memref.whole cc0_stg3_0).view.readAt (Elt F) (Rect.unit (s := S8x2048x128) ![h.val, 0, 0] S1x2048x128.size inb).toLoadRect v = headOf v h := by
    funext j
    rw [readAt_unit_apply cc0_stg3_0]
    unfold headOf
    congr 1
    funext a
    match a with
    | ⟨0, _⟩ => exact Fin.ext (show h.val + (j 0).val = h.val by have : (j 0).val < 1 := (j 0).isLt; omega)
    | ⟨1, _⟩ => exact Fin.ext (Nat.zero_add _)
    | ⟨2, _⟩ => exact Fin.ext (Nat.zero_add _)
  rw [Prog.bind_lift]
  unfold attRes
  iintro ⟨Hk, Hv, Hc⟩ HK
  iapply (wp_load 𝒱₀ (c : Thread nD τ) none Set.univ (m := Memref.whole cc0_stg3_0) (Finset.subset_univ _)) $$ Hv
  iintro Hv
  rw [e]
  iapply HK
  isplitl [Hk]; · iexact Hk
  isplitl [Hv]; · iexact Hv
  iexact Hc

/-- The load before a tile's store: its value is not used. -/
theorem att_c {Q : α → sProp 𝕄} {off : Fin S2048x1024.rank → ℕ}
    {inb : ∀ a, off a + S512x128.size a ≤ S2048x1024.size a} {hl}
    {P : Prog (TpuEff nD τ sig (Elt F) Λ₀ .tc) α} :
    attRes c q k v n ⊢ iprop((attRes c q k v n -∗ wp frame (wpE (defs₀ (F := F)) 𝒱₀ c none) Set.univ P Q)
      -∗ wp frame (wpE (defs₀ (F := F)) 𝒱₀ c none) Set.univ (Prog.lift (.load (Memref.whole cc0_scratch0)
          (Rect.unit (s := S2048x1024) off S512x128.size inb).toLoadRect hl) >>= fun _ => P) Q) := by
  rw [Prog.bind_lift]
  unfold attRes
  iintro ⟨Hk, Hv, %f, %hf, Hc⟩ HK
  iapply (wp_load 𝒱₀ (c : Thread nD τ) none Set.univ (m := Memref.whole cc0_scratch0) (Finset.subset_univ _)) $$ Hc
  iintro Hc
  iapply HK
  isplitl [Hk]; · iexact Hk
  isplitl [Hv]; · iexact Hv
  iexists f
  isplitr; · ipureintro; exact hf
  iexact Hc

theorem att_s {Q : α → sProp 𝕄} (qt : Fin 4) (h : Fin 8) {w : FVec F S512x128 .bf16} (hw : w = tileVal qt h q (biasOf qt) (headOf k h) (headOf v h))
    {off : Fin S2048x1024.rank → ℕ} (hoff : off = ![512 * qt.val, 128 * h.val]) (hn : n = qt.val * 8 + h.val)
    {inb : ∀ a, off a + S512x128.size a ≤ S2048x1024.size a} {hx hm}
    {kk : PUnit → Prog (TpuEff nD τ sig (Elt F) Λ₀ .tc) α} :
    attRes c q k v n ⊢ iprop((attRes c q k v (n + 1) -∗ wp frame (wpE (defs₀ (F := F)) 𝒱₀ c none) Set.univ (kk ⟨⟩) Q)
      -∗ wp frame (wpE (defs₀ (F := F)) 𝒱₀ c none) Set.univ (Prog.lift (.store (Memref.whole cc0_scratch0)
          (Rect.unit (s := S2048x1024) off S512x128.size inb) w Finset.univ hx hm) >>= kk) Q) := by
  subst hn
  rw [Prog.bind_lift]
  unfold attRes
  iintro ⟨Hk, Hv, %f, %hf, Hc⟩ HK
  iapply (wp_store 𝒱₀ (c : Thread nD τ) none Set.univ (m := Memref.whole cc0_scratch0) (r := Rect.unit (s := S2048x1024) off S512x128.size inb) (S := Finset.univ) (f := f) (Finset.subset_univ _)) $$ Hc
  iintro Hc
  iapply HK
  isplitl [Hk]; · iexact Hk
  isplitl [Hv]; · iexact Hv
  iexists _
  isplitr
  · ipureintro; exact agrees_step qt h hw hoff inb hf
  iexact Hc

end Steps

/-- Returning a value. -/
theorem wp_pure_intro {α : Type} (c : Dev nD) {a : α} {Q : α → sProp 𝕄} :
    Q a ⊢ wp frame (wpE (defs₀ (F := F)) 𝒱₀ c none) Set.univ (pure a : Prog (TpuEff nD τ sig (Elt F) Λ₀ .tc) α) Q := by
  show Q a ⊢ wp frame (wpE (defs₀ (F := F)) 𝒱₀ c none) Set.univ (.ret a) Q
  rw [wp_ret]
  iintro H
  imodintro
  iexact H

/-- Part 2: no tile. -/
theorem att_part2 (c : Dev nD) (q : FVec F S2048x1024 .bf16) (k v : Vec F S8x2048x128 .bf16) {Kt : _ → sProp 𝕄} :
    iprop(attRes c q k v 0 ∗ (attRes c q k v 0 -∗ Kt ⟨(a_v50), (a_v53), (a_v72), 1#32⟩))
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 k0_pay3) Kt := by
  rw [k0_part2_eq_skeleton]; unfold k0_part2_skel
  iintro ⟨H, HK⟩
  iapply (wp_pure_intro c)
  iapply HK $$ H

/-- Part 3: no tile. -/
theorem att_part3 (c : Dev nD) (q : FVec F S2048x1024 .bf16) (k v : Vec F S8x2048x128 .bf16) {Kt : _ → sProp 𝕄} :
    iprop(attRes c q k v 0 ∗ (attRes c q k v 0 -∗ Kt ⟨(a_v102), (a_v113 q k), (a_v114 v)⟩))
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v50) (a_v53) (a_v72) 1#32) Kt := by
  rw [k0_part3_eq_skeleton]; unfold k0_part3_skel
  iintro ⟨H, HK⟩
  iapply (att_k c q k v 0 rfl) $$ H; iintro H
  iapply (att_v c q k v 0 rfl) $$ H; iintro H
  iapply (wp_pure_intro c)
  iapply HK $$ H

/-- Part 4: tiles 0 to 2. -/
theorem att_part4 (c : Dev nD) (q : FVec F S2048x1024 .bf16) (k v : Vec F S8x2048x128 .bf16) {Kt : _ → sProp 𝕄} :
    iprop(attRes c q k v 0 ∗ (attRes c q k v 2 -∗ Kt ⟨(a_v149 q k), (a_v150 v)⟩))
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v102) (a_v113 q k) (a_v114 v)) Kt := by
  rw [k0_part4_eq_skeleton]; unfold k0_part4_skel
  iintro ⟨H, HK⟩
  iapply (att_c c q k v) $$ H; iintro H
  iapply (att_s c q k v 0 0 (w := k0_pay9 (a_v113 q k) (a_v114 v)) rfl rfl rfl) $$ H; iintro H
  iapply (att_k c q k v 1 rfl) $$ H; iintro H
  iapply (att_v c q k v 1 rfl) $$ H; iintro H
  iapply (att_c c q k v) $$ H; iintro H
  iapply (att_s c q k v 0 1 (w := k0_pay10 q (a_v102) (headOf k 1) (headOf v 1)) rfl rfl rfl) $$ H; iintro H
  iapply (att_k c q k v 2 rfl) $$ H; iintro H
  iapply (att_v c q k v 2 rfl) $$ H; iintro H
  iapply (wp_pure_intro c)
  iapply HK $$ H

/-- Part 5: tiles 2 to 4. -/
theorem att_part5 (c : Dev nD) (q : FVec F S2048x1024 .bf16) (k v : Vec F S8x2048x128 .bf16) {Kt : _ → sProp 𝕄} :
    iprop(attRes c q k v 2 ∗ (attRes c q k v 4 -∗ Kt ⟨(a_v185 q k), (a_v186 v)⟩))
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v102) (a_v149 q k) (a_v150 v)) Kt := by
  rw [k0_part5_eq_skeleton]; unfold k0_part5_skel
  iintro ⟨H, HK⟩
  iapply (att_c c q k v) $$ H; iintro H
  iapply (att_s c q k v 0 2 (w := k0_pay12 (a_v149 q k) (a_v150 v)) rfl rfl rfl) $$ H; iintro H
  iapply (att_k c q k v 3 rfl) $$ H; iintro H
  iapply (att_v c q k v 3 rfl) $$ H; iintro H
  iapply (att_c c q k v) $$ H; iintro H
  iapply (att_s c q k v 0 3 (w := k0_pay13 q (a_v102) (headOf k 3) (headOf v 3)) rfl rfl rfl) $$ H; iintro H
  iapply (att_k c q k v 4 rfl) $$ H; iintro H
  iapply (att_v c q k v 4 rfl) $$ H; iintro H
  iapply (wp_pure_intro c)
  iapply HK $$ H

/-- Part 6: tiles 4 to 6. -/
theorem att_part6 (c : Dev nD) (q : FVec F S2048x1024 .bf16) (k v : Vec F S8x2048x128 .bf16) {Kt : _ → sProp 𝕄} :
    iprop(attRes c q k v 4 ∗ (attRes c q k v 6 -∗ Kt ⟨(a_v221 q k), (a_v222 v)⟩))
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v102) (a_v185 q k) (a_v186 v)) Kt := by
  rw [k0_part6_eq_skeleton]; unfold k0_part6_skel
  iintro ⟨H, HK⟩
  iapply (att_c c q k v) $$ H; iintro H
  iapply (att_s c q k v 0 4 (w := k0_pay15 (a_v185 q k) (a_v186 v)) rfl rfl rfl) $$ H; iintro H
  iapply (att_k c q k v 5 rfl) $$ H; iintro H
  iapply (att_v c q k v 5 rfl) $$ H; iintro H
  iapply (att_c c q k v) $$ H; iintro H
  iapply (att_s c q k v 0 5 (w := k0_pay16 q (a_v102) (headOf k 5) (headOf v 5)) rfl rfl rfl) $$ H; iintro H
  iapply (att_k c q k v 6 rfl) $$ H; iintro H
  iapply (att_v c q k v 6 rfl) $$ H; iintro H
  iapply (wp_pure_intro c)
  iapply HK $$ H

/-- Part 7: tiles 6 to 8. -/
theorem att_part7 (c : Dev nD) (q : FVec F S2048x1024 .bf16) (k v : Vec F S8x2048x128 .bf16) {Kt : _ → sProp 𝕄} :
    iprop(attRes c q k v 6 ∗ (attRes c q k v 8 -∗ Kt ⟨(a_v249), 64#32, (a_v251), (a_v258), (a_v260), 0#32⟩))
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v102) (a_v221 q k) (a_v222 v)) Kt := by
  rw [k0_part7_eq_skeleton]; unfold k0_part7_skel
  iintro ⟨H, HK⟩
  iapply (att_c c q k v) $$ H; iintro H
  iapply (att_s c q k v 0 6 (w := k0_pay18 (a_v221 q k) (a_v222 v)) rfl rfl rfl) $$ H; iintro H
  iapply (att_k c q k v 7 rfl) $$ H; iintro H
  iapply (att_v c q k v 7 rfl) $$ H; iintro H
  iapply (att_c c q k v) $$ H; iintro H
  iapply (att_s c q k v 0 7 (w := k0_pay19 q (a_v102) (headOf k 7) (headOf v 7)) rfl rfl rfl) $$ H; iintro H
  iapply (wp_pure_intro c)
  iapply HK $$ H

/-- Part 8: no tile. -/
theorem att_part8 (c : Dev nD) (q : FVec F S2048x1024 .bf16) (k v : Vec F S8x2048x128 .bf16) {Kt : _ → sProp 𝕄} :
    iprop(attRes c q k v 8 ∗ (attRes c q k v 8 -∗ Kt ⟨(a_v302), (a_v305), (a_v307)⟩))
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (a_v249) 64#32 (a_v251) (a_v258) (a_v260) 0#32) Kt := by
  rw [k0_part8_eq_skeleton]; unfold k0_part8_skel
  iintro ⟨H, HK⟩
  iapply (wp_pure_intro c)
  iapply HK $$ H

/-- Part 9: tiles 8 to 9. -/
theorem att_part9 (c : Dev nD) (q : FVec F S2048x1024 .bf16) (k v : Vec F S8x2048x128 .bf16) {Kt : _ → sProp 𝕄} :
    iprop(attRes c q k v 8 ∗ (attRes c q k v 9 -∗ Kt ⟨(a_v325), (a_v344 q), (a_v346 k)⟩))
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v302) (a_v305) (a_v307)) Kt := by
  rw [k0_part9_eq_skeleton]; unfold k0_part9_skel
  iintro ⟨H, HK⟩
  iapply (att_k c q k v 0 rfl) $$ H; iintro H
  iapply (att_v c q k v 0 rfl) $$ H; iintro H
  iapply (att_c c q k v) $$ H; iintro H
  iapply (att_s c q k v 1 0 (w := k0_pay28 q (a_v302) (a_v305) (a_v307) (headOf k 0) (headOf v 0)) rfl rfl rfl) $$ H; iintro H
  iapply (att_k c q k v 1 rfl) $$ H; iintro H
  iapply (wp_pure_intro c)
  iapply HK $$ H

/-- Part 10: tiles 9 to 11. -/
theorem att_part10 (c : Dev nD) (q : FVec F S2048x1024 .bf16) (k v : Vec F S8x2048x128 .bf16) {Kt : _ → sProp 𝕄} :
    iprop(attRes c q k v 9 ∗ (attRes c q k v 11 -∗ Kt ⟨(a_v380 q), (a_v382 k)⟩))
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v325) (a_v344 q) (a_v346 k)) Kt := by
  rw [k0_part10_eq_skeleton]; unfold k0_part10_skel
  iintro ⟨H, HK⟩
  iapply (att_v c q k v 1 rfl) $$ H; iintro H
  iapply (att_c c q k v) $$ H; iintro H
  iapply (att_s c q k v 1 1 (w := k0_pay31 (a_v325) (a_v344 q) (a_v346 k) (headOf v 1)) rfl rfl rfl) $$ H; iintro H
  iapply (att_k c q k v 2 rfl) $$ H; iintro H
  iapply (att_v c q k v 2 rfl) $$ H; iintro H
  iapply (att_c c q k v) $$ H; iintro H
  iapply (att_s c q k v 1 2 (w := k0_pay32 q (a_v325) (headOf k 2) (headOf v 2)) rfl rfl rfl) $$ H; iintro H
  iapply (att_k c q k v 3 rfl) $$ H; iintro H
  iapply (wp_pure_intro c)
  iapply HK $$ H

/-- Part 11: tiles 11 to 13. -/
theorem att_part11 (c : Dev nD) (q : FVec F S2048x1024 .bf16) (k v : Vec F S8x2048x128 .bf16) {Kt : _ → sProp 𝕄} :
    iprop(attRes c q k v 11 ∗ (attRes c q k v 13 -∗ Kt ⟨(a_v416 q), (a_v418 k)⟩))
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v325) (a_v380 q) (a_v382 k)) Kt := by
  rw [k0_part11_eq_skeleton]; unfold k0_part11_skel
  iintro ⟨H, HK⟩
  iapply (att_v c q k v 3 rfl) $$ H; iintro H
  iapply (att_c c q k v) $$ H; iintro H
  iapply (att_s c q k v 1 3 (w := k0_pay35 (a_v325) (a_v380 q) (a_v382 k) (headOf v 3)) rfl rfl rfl) $$ H; iintro H
  iapply (att_k c q k v 4 rfl) $$ H; iintro H
  iapply (att_v c q k v 4 rfl) $$ H; iintro H
  iapply (att_c c q k v) $$ H; iintro H
  iapply (att_s c q k v 1 4 (w := k0_pay36 q (a_v325) (headOf k 4) (headOf v 4)) rfl rfl rfl) $$ H; iintro H
  iapply (att_k c q k v 5 rfl) $$ H; iintro H
  iapply (wp_pure_intro c)
  iapply HK $$ H

/-- Part 12: tiles 13 to 15. -/
theorem att_part12 (c : Dev nD) (q : FVec F S2048x1024 .bf16) (k v : Vec F S8x2048x128 .bf16) {Kt : _ → sProp 𝕄} :
    iprop(attRes c q k v 13 ∗ (attRes c q k v 15 -∗ Kt ⟨(a_v452 q), (a_v454 k)⟩))
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v325) (a_v416 q) (a_v418 k)) Kt := by
  rw [k0_part12_eq_skeleton]; unfold k0_part12_skel
  iintro ⟨H, HK⟩
  iapply (att_v c q k v 5 rfl) $$ H; iintro H
  iapply (att_c c q k v) $$ H; iintro H
  iapply (att_s c q k v 1 5 (w := k0_pay39 (a_v325) (a_v416 q) (a_v418 k) (headOf v 5)) rfl rfl rfl) $$ H; iintro H
  iapply (att_k c q k v 6 rfl) $$ H; iintro H
  iapply (att_v c q k v 6 rfl) $$ H; iintro H
  iapply (att_c c q k v) $$ H; iintro H
  iapply (att_s c q k v 1 6 (w := k0_pay40 q (a_v325) (headOf k 6) (headOf v 6)) rfl rfl rfl) $$ H; iintro H
  iapply (att_k c q k v 7 rfl) $$ H; iintro H
  iapply (wp_pure_intro c)
  iapply HK $$ H

/-- Part 13: tiles 15 to 16. -/
theorem att_part13 (c : Dev nD) (q : FVec F S2048x1024 .bf16) (k v : Vec F S8x2048x128 .bf16) {Kt : _ → sProp 𝕄} :
    iprop(attRes c q k v 15 ∗ (attRes c q k v 16 -∗ Kt ⟨(a_v496), (a_v497)⟩))
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (a_v325) (a_v452 q) (a_v454 k)) Kt := by
  rw [k0_part13_eq_skeleton]; unfold k0_part13_skel
  iintro ⟨H, HK⟩
  iapply (att_v c q k v 7 rfl) $$ H; iintro H
  iapply (att_c c q k v) $$ H; iintro H
  iapply (att_s c q k v 1 7 (w := k0_pay43 (a_v325) (a_v452 q) (a_v454 k) (headOf v 7)) rfl rfl rfl) $$ H; iintro H
  iapply (wp_pure_intro c)
  iapply HK $$ H

/-- Part 14: no tile. -/
theorem att_part14 (c : Dev nD) (q : FVec F S2048x1024 .bf16) (k v : Vec F S8x2048x128 .bf16) {Kt : _ → sProp 𝕄} :
    iprop(attRes c q k v 16 ∗ (attRes c q k v 16 -∗ Kt ⟨(a_v525), (a_v542), 0#32⟩))
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (a_v496) (a_v497)) Kt := by
  rw [k0_part14_eq_skeleton]; unfold k0_part14_skel
  iintro ⟨H, HK⟩
  iapply (wp_pure_intro c)
  iapply HK $$ H

/-- Part 15: tiles 16 to 17. -/
theorem att_part15 (c : Dev nD) (q : FVec F S2048x1024 .bf16) (k v : Vec F S8x2048x128 .bf16) {Kt : _ → sProp 𝕄} :
    iprop(attRes c q k v 16 ∗ (attRes c q k v 17 -∗ Kt ⟨(a_v548), (a_v577 q k), (a_v579 v), (a_cst_268)⟩))
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v525) (a_v542) 0#32) Kt := by
  rw [k0_part15_eq_skeleton]; unfold k0_part15_skel
  iintro ⟨H, HK⟩
  iapply (att_k c q k v 0 rfl) $$ H; iintro H
  iapply (att_v c q k v 0 rfl) $$ H; iintro H
  iapply (att_c c q k v) $$ H; iintro H
  iapply (att_s c q k v 2 0 (w := k0_pay49 q (a_v525) (a_v542) 0#32 (headOf k 0) (headOf v 0)) rfl rfl rfl) $$ H; iintro H
  iapply (att_k c q k v 1 rfl) $$ H; iintro H
  iapply (att_v c q k v 1 rfl) $$ H; iintro H
  iapply (wp_pure_intro c)
  iapply HK $$ H

/-- Part 16: tiles 17 to 19. -/
theorem att_part16 (c : Dev nD) (q : FVec F S2048x1024 .bf16) (k v : Vec F S8x2048x128 .bf16) {Kt : _ → sProp 𝕄} :
    iprop(attRes c q k v 17 ∗ (attRes c q k v 19 -∗ Kt ⟨(a_v613 q k), (a_v615 v), (a_cst_290)⟩))
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v548) (a_v577 q k) (a_v579 v) (a_cst_268)) Kt := by
  rw [k0_part16_eq_skeleton]; unfold k0_part16_skel
  iintro ⟨H, HK⟩
  iapply (att_c c q k v) $$ H; iintro H
  iapply (att_s c q k v 2 1 (w := k0_pay52 (a_v577 q k) (a_v579 v) (a_cst_268)) rfl rfl rfl) $$ H; iintro H
  iapply (att_k c q k v 2 rfl) $$ H; iintro H
  iapply (att_v c q k v 2 rfl) $$ H; iintro H
  iapply (att_c c q k v) $$ H; iintro H
  iapply (att_s c q k v 2 2 (w := k0_pay53 q (a_v548) (headOf k 2) (headOf v 2)) rfl rfl rfl) $$ H; iintro H
  iapply (att_k c q k v 3 rfl) $$ H; iintro H
  iapply (att_v c q k v 3 rfl) $$ H; iintro H
  iapply (wp_pure_intro c)
  iapply HK $$ H

/-- Part 17: tiles 19 to 21. -/
theorem att_part17 (c : Dev nD) (q : FVec F S2048x1024 .bf16) (k v : Vec F S8x2048x128 .bf16) {Kt : _ → sProp 𝕄} :
    iprop(attRes c q k v 19 ∗ (attRes c q k v 21 -∗ Kt ⟨(a_v649 q k), (a_v651 v), (a_cst_312)⟩))
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v548) (a_v613 q k) (a_v615 v) (a_cst_290)) Kt := by
  rw [k0_part17_eq_skeleton]; unfold k0_part17_skel
  iintro ⟨H, HK⟩
  iapply (att_c c q k v) $$ H; iintro H
  iapply (att_s c q k v 2 3 (w := k0_pay56 (a_v613 q k) (a_v615 v) (a_cst_290)) rfl rfl rfl) $$ H; iintro H
  iapply (att_k c q k v 4 rfl) $$ H; iintro H
  iapply (att_v c q k v 4 rfl) $$ H; iintro H
  iapply (att_c c q k v) $$ H; iintro H
  iapply (att_s c q k v 2 4 (w := k0_pay57 q (a_v548) (headOf k 4) (headOf v 4)) rfl rfl rfl) $$ H; iintro H
  iapply (att_k c q k v 5 rfl) $$ H; iintro H
  iapply (att_v c q k v 5 rfl) $$ H; iintro H
  iapply (wp_pure_intro c)
  iapply HK $$ H

/-- Part 18: tiles 21 to 23. -/
theorem att_part18 (c : Dev nD) (q : FVec F S2048x1024 .bf16) (k v : Vec F S8x2048x128 .bf16) {Kt : _ → sProp 𝕄} :
    iprop(attRes c q k v 21 ∗ (attRes c q k v 23 -∗ Kt ⟨(a_v685 q k), (a_v687 v), (a_cst_334)⟩))
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v548) (a_v649 q k) (a_v651 v) (a_cst_312)) Kt := by
  rw [k0_part18_eq_skeleton]; unfold k0_part18_skel
  iintro ⟨H, HK⟩
  iapply (att_c c q k v) $$ H; iintro H
  iapply (att_s c q k v 2 5 (w := k0_pay60 (a_v649 q k) (a_v651 v) (a_cst_312)) rfl rfl rfl) $$ H; iintro H
  iapply (att_k c q k v 6 rfl) $$ H; iintro H
  iapply (att_v c q k v 6 rfl) $$ H; iintro H
  iapply (att_c c q k v) $$ H; iintro H
  iapply (att_s c q k v 2 6 (w := k0_pay61 q (a_v548) (headOf k 6) (headOf v 6)) rfl rfl rfl) $$ H; iintro H
  iapply (att_k c q k v 7 rfl) $$ H; iintro H
  iapply (att_v c q k v 7 rfl) $$ H; iintro H
  iapply (wp_pure_intro c)
  iapply HK $$ H

/-- Part 19: tiles 23 to 24. -/
theorem att_part19 (c : Dev nD) (q : FVec F S2048x1024 .bf16) (k v : Vec F S8x2048x128 .bf16) {Kt : _ → sProp 𝕄} :
    iprop(attRes c q k v 23 ∗ (attRes c q k v 24 -∗ Kt ⟨(a_v719), (a_v720), 64#32, (a_v722), (a_v729), (a_v731), 0#32⟩))
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (a_v685 q k) (a_v687 v) (a_cst_334)) Kt := by
  rw [k0_part19_eq_skeleton]; unfold k0_part19_skel
  iintro ⟨H, HK⟩
  iapply (att_c c q k v) $$ H; iintro H
  iapply (att_s c q k v 2 7 (w := k0_pay64 (a_v685 q k) (a_v687 v) (a_cst_334)) rfl rfl rfl) $$ H; iintro H
  iapply (wp_pure_intro c)
  iapply HK $$ H

/-- Part 20: no tile. -/
theorem att_part20 (c : Dev nD) (q : FVec F S2048x1024 .bf16) (k v : Vec F S8x2048x128 .bf16) {Kt : _ → sProp 𝕄} :
    iprop(attRes c q k v 24 ∗ (attRes c q k v 24 -∗ Kt ⟨(a_v771), (a_v775 q k)⟩))
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v719) (a_v720) 64#32 (a_v722) (a_v729) (a_v731) 0#32) Kt := by
  rw [k0_part20_eq_skeleton]; unfold k0_part20_skel
  iintro ⟨H, HK⟩
  iapply (att_k c q k v 0 rfl) $$ H; iintro H
  iapply (wp_pure_intro c)
  iapply HK $$ H

/-- Part 21: tiles 24 to 26. -/
theorem att_part21 (c : Dev nD) (q : FVec F S2048x1024 .bf16) (k v : Vec F S8x2048x128 .bf16) {Kt : _ → sProp 𝕄} :
    iprop(attRes c q k v 24 ∗ (attRes c q k v 26 -∗ Kt (a_v811 q k)))
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v771) (a_v775 q k)) Kt := by
  rw [k0_part21_eq_skeleton]; unfold k0_part21_skel
  iintro ⟨H, HK⟩
  iapply (att_v c q k v 0 rfl) $$ H; iintro H
  iapply (att_c c q k v) $$ H; iintro H
  iapply (att_s c q k v 3 0 (w := k0_pay70 (a_v771) (a_v775 q k) (headOf v 0)) rfl rfl rfl) $$ H; iintro H
  iapply (att_k c q k v 1 rfl) $$ H; iintro H
  iapply (att_v c q k v 1 rfl) $$ H; iintro H
  iapply (att_c c q k v) $$ H; iintro H
  iapply (att_s c q k v 3 1 (w := k0_pay71 q (a_v771) (headOf k 1) (headOf v 1)) rfl rfl rfl) $$ H; iintro H
  iapply (att_k c q k v 2 rfl) $$ H; iintro H
  iapply (wp_pure_intro c)
  iapply HK $$ H

/-- Part 22: tiles 26 to 28. -/
theorem att_part22 (c : Dev nD) (q : FVec F S2048x1024 .bf16) (k v : Vec F S8x2048x128 .bf16) {Kt : _ → sProp 𝕄} :
    iprop(attRes c q k v 26 ∗ (attRes c q k v 28 -∗ Kt (a_v847 q k)))
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v771) (a_v811 q k)) Kt := by
  rw [k0_part22_eq_skeleton]; unfold k0_part22_skel
  iintro ⟨H, HK⟩
  iapply (att_v c q k v 2 rfl) $$ H; iintro H
  iapply (att_c c q k v) $$ H; iintro H
  iapply (att_s c q k v 3 2 (w := k0_pay73 (a_v771) (a_v811 q k) (headOf v 2)) rfl rfl rfl) $$ H; iintro H
  iapply (att_k c q k v 3 rfl) $$ H; iintro H
  iapply (att_v c q k v 3 rfl) $$ H; iintro H
  iapply (att_c c q k v) $$ H; iintro H
  iapply (att_s c q k v 3 3 (w := k0_pay74 q (a_v771) (headOf k 3) (headOf v 3)) rfl rfl rfl) $$ H; iintro H
  iapply (att_k c q k v 4 rfl) $$ H; iintro H
  iapply (wp_pure_intro c)
  iapply HK $$ H

/-- Part 23: tiles 28 to 30. -/
theorem att_part23 (c : Dev nD) (q : FVec F S2048x1024 .bf16) (k v : Vec F S8x2048x128 .bf16) {Kt : _ → sProp 𝕄} :
    iprop(attRes c q k v 28 ∗ (attRes c q k v 30 -∗ Kt (a_v883 q k)))
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 q (a_v771) (a_v847 q k)) Kt := by
  rw [k0_part23_eq_skeleton]; unfold k0_part23_skel
  iintro ⟨H, HK⟩
  iapply (att_v c q k v 4 rfl) $$ H; iintro H
  iapply (att_c c q k v) $$ H; iintro H
  iapply (att_s c q k v 3 4 (w := k0_pay76 (a_v771) (a_v847 q k) (headOf v 4)) rfl rfl rfl) $$ H; iintro H
  iapply (att_k c q k v 5 rfl) $$ H; iintro H
  iapply (att_v c q k v 5 rfl) $$ H; iintro H
  iapply (att_c c q k v) $$ H; iintro H
  iapply (att_s c q k v 3 5 (w := k0_pay77 q (a_v771) (headOf k 5) (headOf v 5)) rfl rfl rfl) $$ H; iintro H
  iapply (att_k c q k v 6 rfl) $$ H; iintro H
  iapply (wp_pure_intro c)
  iapply HK $$ H

/-- Part 24: tiles 30 to 32. -/
theorem att_part24 (c : Dev nD) (q : FVec F S2048x1024 .bf16) (k v : Vec F S8x2048x128 .bf16) (v2 : BitVec 32) {Kt : _ → sProp 𝕄} :
    iprop(attRes c q k v 30 ∗ (attRes c q k v 32 -∗ Kt ⟨(Scalar.andi (Scalar.shrsi v2 0#32) 1#32), (Scalar.andi (Scalar.shrsi v2 2#32) 1#32)⟩))
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 q (a_v771) (a_v883 q k)) Kt := by
  rw [k0_part24_eq_skeleton]; unfold k0_part24_skel
  iintro ⟨H, HK⟩
  iapply (att_v c q k v 6 rfl) $$ H; iintro H
  iapply (att_c c q k v) $$ H; iintro H
  iapply (att_s c q k v 3 6 (w := k0_pay79 (a_v771) (a_v883 q k) (headOf v 6)) rfl rfl rfl) $$ H; iintro H
  iapply (att_k c q k v 7 rfl) $$ H; iintro H
  iapply (att_v c q k v 7 rfl) $$ H; iintro H
  iapply (att_c c q k v) $$ H; iintro H
  iapply (att_s c q k v 3 7 (w := k0_pay80 q (a_v771) (headOf k 7) (headOf v 7)) rfl rfl rfl) $$ H; iintro H
  iapply (wp_pure_intro c)
  iapply HK $$ H

end Cert.KernelIdeal.Body
-- ==== Proof.KernelIdeal.Buffers.lean ====
/-
  The exchange's buffers: how the loads and stores read and change what they hold, and the copies at their contents.
-/
module

public import proofs.«01_k».proof.Proof.KernelIdeal.Steps
public import proofs.«01_k».proof.Proof.KernelIdeal.Attention

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-! ## Slices of a whole buffer -/

theorem slice_write_apply (b : Ref sig .tc) (off size : Fin b.ty.shape.rank → Nat)
    (inb : ∀ a, off a + size a ≤ b.ty.shape.size a) (h) (f : b.ty.Contents (Elt F))
    (w : (Rect.unit off size inb).shape.Idx → Elt F b.ty.elt) (i : b.ty.shape.Idx) :
    ((Memref.whole b).slice (Rect.unit off size inb) h).view.write (Elt F) f w Finset.univ i
      = if h : ∀ a, off a ≤ (i a).val ∧ (i a).val < off a + size a then
          w (fun a => ⟨(i a).val - off a, by have := h a; show _ < size a; omega⟩) else f i :=
  write_unit_apply b off size inb f w i
theorem slice_read_apply (b : Ref sig .tc) (off size : Fin b.ty.shape.rank → Nat)
    (inb : ∀ a, off a + size a ≤ b.ty.shape.size a) (h) (f : b.ty.Contents (Elt F))
    (j : (Rect.unit off size inb).shape.Idx) :
    ((Memref.whole b).slice (Rect.unit off size inb) h).view.read (Elt F) f j
      = f (fun a => ⟨off a + (j a).val, lt_of_lt_of_le (Nat.add_lt_add_left (j a).isLt _) (inb a)⟩) := by
  show f _ = f _
  congr 1
  funext a; apply Fin.ext
  show off a + 1 * (j a).val = off a + (j a).val
  omega

/-- Inside a region, the rectangle's condition holds. -/
theorem in_rect {n a l : ℕ} {s : Fin 2} {i : (⟨2, ![n, 1024]⟩ : Shape).Idx} {off : Fin 2 → ℕ} (hoff : off = ![a, 512 * s.val])
    (h : i ∈ RB n a l s) : ∀ x : Fin 2, off x ≤ (i x).val ∧ (i x).val < off x + (![l, 512] : Fin 2 → ℕ) x := by
  subst hoff
  have hi := mem_RB.mp h
  have h1 := ValueIdx.idx2_lt1 i
  intro x
  match x with
  | ⟨0, _⟩ => exact ⟨hi.1, hi.2.1⟩
  | ⟨1, _⟩ => exact ⟨show 512 * s.val ≤ (i 1).val by omega, show (i 1).val < 512 * s.val + 512 by omega⟩
theorem of_in_rect {n a l : ℕ} {s : Fin 2} {i : (⟨2, ![n, 1024]⟩ : Shape).Idx} {off : Fin 2 → ℕ} (hoff : off = ![a, 512 * s.val])
    (h : ∀ x : Fin 2, off x ≤ (i x).val ∧ (i x).val < off x + (![l, 512] : Fin 2 → ℕ) x) : i ∈ RB n a l s := by
  subst hoff
  have h0 : a ≤ (i 0).val ∧ (i 0).val < a + l := h 0
  have h1 : 512 * s.val ≤ (i 1).val ∧ (i 1).val < 512 * s.val + 512 := h 1
  exact mem_RB.mpr ⟨h0.1, h0.2, by omega⟩

/-! ## Regions joined and split -/

theorem ptOn_union {b : Ref sig .tc} {S T : Finset b.ty.shape.Idx} (h : Disjoint S T) (f : b.ty.Contents (Elt F)) :
    (ptOn c b (S ∪ T) f : sProp 𝕄) ⊣⊢ iprop(ptOn c b S f ∗ ptOn c b T f) := pointsTo_union h
theorem ptOn_join {b : Ref sig .tc} {S T : Finset b.ty.shape.Idx} (h : Disjoint S T) (f g : b.ty.Contents (Elt F)) :
    iprop(ptOn c b S f ∗ ptOn c b T g) ⊢ (iprop(∃ h, ptOn c b (S ∪ T) h) : sProp 𝕄) := by
  have e1 : (ptOn c b S f : sProp 𝕄) = ptOn c b S (fun i => if i ∈ S then f i else g i) :=
    pointsTo_congr fun i hi => (if_pos hi).symm
  have e2 : (ptOn c b T g : sProp 𝕄) = ptOn c b T (fun i => if i ∈ S then f i else g i) :=
    pointsTo_congr fun i hi => (if_neg (fun hs => Finset.disjoint_left.mp h hs hi)).symm
  rw [e1, e2]
  iintro H
  iexists _
  iapply (ptOn_union c h _).2; iexact H

theorem sb_join (l : ℕ) (hl : l ≤ 1024) (s : Fin 2) : iprop(sbAny 0 l s c ∗ sbAny l (1024 - l) s c) ⊢ (sbAny 0 1024 s c : sProp 𝕄) := by
  unfold sbAny
  iintro ⟨⟨%f, Hf⟩, ⟨%g, Hg⟩⟩
  have e : RB 1024 0 l s ∪ RB 1024 l (1024 - l) s = RB 1024 0 1024 s := by
    rw [RB_union (by omega), Nat.add_sub_of_le hl]
  rw [← e]
  iapply (ptOn_join c (b := cc0_scratch1) (RB_disjoint (by omega)) f g)
  isplitl [Hf] <;> iassumption

/-- The rows a device holds at gathering step `a`, and the rows that land, are the rows it holds afterwards. -/
theorem ks_sets (s : Fin 2) (j : Fin 4) : RB 2048 (ks s (j.val + 1) c) (len j) s ∪ RB 2048 (ks s (j.val + 1) (pr s j c)) (len j) s
      = RB 2048 (ks s j.val c) (len j + len j) s
    ∧ Disjoint (RB 2048 (ks s (j.val + 1) c) (len j) s) (RB 2048 (ks s (j.val + 1) (pr s j c)) (len j) s) := by
  rcases ks_split s j c with ⟨h1, h2⟩ | ⟨h1, h2⟩
  · rw [h1, h2]; exact ⟨RB_union rfl, RB_disjoint rfl⟩
  · rw [h1, h2, Finset.union_comm]; exact ⟨RB_union rfl, (RB_disjoint rfl).symm⟩

theorem ag_join (s : Fin 2) (j : Fin 4) : iprop(agAt X Wo (ks s (j.val + 1) c) (len j) s c ∗ agAt X Wo (ks s (j.val + 1) (pr s j c)) (len j) s c)
    ⊢ (agAt X Wo (ks s j.val c) (len j + len j) s c : sProp 𝕄) := by
  unfold agAt
  rw [← (ks_sets c s j).1]
  exact (ptOn_union c (b := cc0_scratch6) (ks_sets c s j).2 _).2
theorem ag_split (s : Fin 2) (j : Fin 4) : (agAny (ks s j.val c) (len j + len j) s c : sProp 𝕄)
    ⊢ iprop(agAny (ks s (j.val + 1) c) (len j) s c ∗ agAny (ks s (j.val + 1) (pr s j c)) (len j) s c) := by
  unfold agAny
  rw [← (ks_sets c s j).1]
  iintro ⟨%f, H⟩
  ihave H' := (ptOn_union c (b := cc0_scratch6) (ks_sets c s j).2 f).1 $$ H
  icases H' with ⟨H1, H2⟩
  isplitl [H1]
  · iexists f; iexact H1
  · iexists f; iexact H2

/-- A whole buffer of 1024 columns is its two halves. -/
theorem ag_halves (f) : (pt c cc0_scratch6 f : sProp 𝕄) ⊢ iprop(agAny (F := F) 0 2048 0 c ∗ agAny 0 2048 1 c) := by
  unfold agAny
  have e : (pt c cc0_scratch6 f : sProp 𝕄) = ptOn c cc0_scratch6 (RB 2048 0 2048 0 ∪ RB 2048 0 2048 1) f := by
    rw [RB_halves]
  rw [e]
  iintro H
  ihave H' := (ptOn_union c (b := cc0_scratch6) RB_halves_disjoint f).1 $$ H
  icases H' with ⟨H1, H2⟩
  isplitl [H1]
  · iexists f; iexact H1
  · iexists f; iexact H2
theorem ag_whole : iprop(agAt X Wo 0 2048 0 c ∗ agAt X Wo 0 2048 1 c) ⊢ (pt c cc0_scratch6 (AG X Wo) : sProp 𝕄) := by
  unfold agAt
  have e : (pt c cc0_scratch6 (AG X Wo) : sProp 𝕄) = ptOn c cc0_scratch6 (RB 2048 0 2048 0 ∪ RB 2048 0 2048 1) (AG X Wo) := by
    rw [RB_halves]
  rw [e]
  exact (ptOn_union c (b := cc0_scratch6) RB_halves_disjoint _).2
theorem sb_halves (f) : (pt c cc0_scratch1 f : sProp 𝕄) ⊢ iprop(sbAny (F := F) 0 1024 0 c ∗ sbAny 0 1024 1 c) := by
  unfold sbAny
  have e : (pt c cc0_scratch1 f : sProp 𝕄) = ptOn c cc0_scratch1 (RB 1024 0 1024 0 ∪ RB 1024 0 1024 1) f := by
    rw [RB_halves]
  rw [e]
  iintro H
  ihave H' := (ptOn_union c (b := cc0_scratch1) RB_halves_disjoint f).1 $$ H
  icases H' with ⟨H1, H2⟩
  isplitl [H1]
  · iexists f; iexact H1
  · iexists f; iexact H2
theorem sb_whole : iprop(sbAny (F := F) 0 1024 0 c ∗ sbAny 0 1024 1 c) ⊢ (iprop(∃ f, pt c cc0_scratch1 f) : sProp 𝕄) := by
  unfold sbAny
  iintro ⟨⟨%f, Hf⟩, ⟨%g, Hg⟩⟩
  ihave H := (ptOn_join c (b := cc0_scratch1) (RB_halves_disjoint (n := 1024) (a := 0) (b := 0) (l := 1024) (l' := 1024)) f g) $$ [Hf Hg]
  · isplitl [Hf] <;> iassumption
  icases H with ⟨%h, H⟩
  iexists h
  have e : (pt c cc0_scratch1 h : sProp 𝕄) = ptOn c cc0_scratch1 (RB 1024 0 1024 0 ∪ RB 1024 0 1024 1) h := by
    rw [RB_halves]
  rw [e]; iexact H
theorem rsb_halves_0 (f) : (pt c cc0_scratch2 f : sProp 𝕄) ⊢ iprop(rsbAny (F := F) 0 0 c ∗ rsbAny 0 1 c) := by
  show _ ⊢ iprop((∃ f, ptOn c cc0_scratch2 (RB 1024 0 1024 0) f) ∗ (∃ f, ptOn c cc0_scratch2 (RB 1024 0 1024 1) f))
  have e : (pt c cc0_scratch2 f : sProp 𝕄) = ptOn c cc0_scratch2 (RB 1024 0 1024 0 ∪ RB 1024 0 1024 1) f := by
    rw [RB_halves]
  rw [e]
  iintro H
  ihave H' := (ptOn_union c (b := cc0_scratch2) RB_halves_disjoint f).1 $$ H
  icases H' with ⟨H1, H2⟩
  isplitl [H1]
  · iexists f; iexact H1
  · iexists f; iexact H2
theorem rsb_whole_0 : iprop(rsbAt X Wo 0 0 c ∗ rsbAt X Wo 0 1 c) ⊢ (iprop(∃ f, pt c cc0_scratch2 f) : sProp 𝕄) := by
  show iprop(ptOn c cc0_scratch2 (RB 1024 0 1024 0) (RSBc X Wo 0 c) ∗ ptOn c cc0_scratch2 (RB 1024 0 1024 1) (RSBc X Wo 0 c)) ⊢ _
  iintro H
  iexists (RSBc X Wo 0 c)
  have e : (pt c cc0_scratch2 (RSBc X Wo 0 c) : sProp 𝕄) = ptOn c cc0_scratch2 (RB 1024 0 1024 0 ∪ RB 1024 0 1024 1) (RSBc X Wo 0 c) := by
    rw [RB_halves]
  rw [e]
  iapply (ptOn_union c (b := cc0_scratch2) RB_halves_disjoint _).2; iexact H
theorem rsb_halves_1 (f) : (pt c cc0_scratch3 f : sProp 𝕄) ⊢ iprop(rsbAny (F := F) 1 0 c ∗ rsbAny 1 1 c) := by
  show _ ⊢ iprop((∃ f, ptOn c cc0_scratch3 (RB 512 0 512 0) f) ∗ (∃ f, ptOn c cc0_scratch3 (RB 512 0 512 1) f))
  have e : (pt c cc0_scratch3 f : sProp 𝕄) = ptOn c cc0_scratch3 (RB 512 0 512 0 ∪ RB 512 0 512 1) f := by
    rw [RB_halves]
  rw [e]
  iintro H
  ihave H' := (ptOn_union c (b := cc0_scratch3) RB_halves_disjoint f).1 $$ H
  icases H' with ⟨H1, H2⟩
  isplitl [H1]
  · iexists f; iexact H1
  · iexists f; iexact H2
theorem rsb_whole_1 : iprop(rsbAt X Wo 1 0 c ∗ rsbAt X Wo 1 1 c) ⊢ (iprop(∃ f, pt c cc0_scratch3 f) : sProp 𝕄) := by
  show iprop(ptOn c cc0_scratch3 (RB 512 0 512 0) (RSBc X Wo 1 c) ∗ ptOn c cc0_scratch3 (RB 512 0 512 1) (RSBc X Wo 1 c)) ⊢ _
  iintro H
  iexists (RSBc X Wo 1 c)
  have e : (pt c cc0_scratch3 (RSBc X Wo 1 c) : sProp 𝕄) = ptOn c cc0_scratch3 (RB 512 0 512 0 ∪ RB 512 0 512 1) (RSBc X Wo 1 c) := by
    rw [RB_halves]
  rw [e]
  iapply (ptOn_union c (b := cc0_scratch3) RB_halves_disjoint _).2; iexact H
theorem rsb_halves_2 (f) : (pt c cc0_scratch4 f : sProp 𝕄) ⊢ iprop(rsbAny (F := F) 2 0 c ∗ rsbAny 2 1 c) := by
  show _ ⊢ iprop((∃ f, ptOn c cc0_scratch4 (RB 256 0 256 0) f) ∗ (∃ f, ptOn c cc0_scratch4 (RB 256 0 256 1) f))
  have e : (pt c cc0_scratch4 f : sProp 𝕄) = ptOn c cc0_scratch4 (RB 256 0 256 0 ∪ RB 256 0 256 1) f := by
    rw [RB_halves]
  rw [e]
  iintro H
  ihave H' := (ptOn_union c (b := cc0_scratch4) RB_halves_disjoint f).1 $$ H
  icases H' with ⟨H1, H2⟩
  isplitl [H1]
  · iexists f; iexact H1
  · iexists f; iexact H2
theorem rsb_whole_2 : iprop(rsbAt X Wo 2 0 c ∗ rsbAt X Wo 2 1 c) ⊢ (iprop(∃ f, pt c cc0_scratch4 f) : sProp 𝕄) := by
  show iprop(ptOn c cc0_scratch4 (RB 256 0 256 0) (RSBc X Wo 2 c) ∗ ptOn c cc0_scratch4 (RB 256 0 256 1) (RSBc X Wo 2 c)) ⊢ _
  iintro H
  iexists (RSBc X Wo 2 c)
  have e : (pt c cc0_scratch4 (RSBc X Wo 2 c) : sProp 𝕄) = ptOn c cc0_scratch4 (RB 256 0 256 0 ∪ RB 256 0 256 1) (RSBc X Wo 2 c) := by
    rw [RB_halves]
  rw [e]
  iapply (ptOn_union c (b := cc0_scratch4) RB_halves_disjoint _).2; iexact H
theorem rsb_halves_3 (f) : (pt c cc0_scratch5 f : sProp 𝕄) ⊢ iprop(rsbAny (F := F) 3 0 c ∗ rsbAny 3 1 c) := by
  show _ ⊢ iprop((∃ f, ptOn c cc0_scratch5 (RB 128 0 128 0) f) ∗ (∃ f, ptOn c cc0_scratch5 (RB 128 0 128 1) f))
  have e : (pt c cc0_scratch5 f : sProp 𝕄) = ptOn c cc0_scratch5 (RB 128 0 128 0 ∪ RB 128 0 128 1) f := by
    rw [RB_halves]
  rw [e]
  iintro H
  ihave H' := (ptOn_union c (b := cc0_scratch5) RB_halves_disjoint f).1 $$ H
  icases H' with ⟨H1, H2⟩
  isplitl [H1]
  · iexists f; iexact H1
  · iexists f; iexact H2
theorem rsb_whole_3 : iprop(rsbAt X Wo 3 0 c ∗ rsbAt X Wo 3 1 c) ⊢ (iprop(∃ f, pt c cc0_scratch5 f) : sProp 𝕄) := by
  show iprop(ptOn c cc0_scratch5 (RB 128 0 128 0) (RSBc X Wo 3 c) ∗ ptOn c cc0_scratch5 (RB 128 0 128 1) (RSBc X Wo 3 c)) ⊢ _
  iintro H
  iexists (RSBc X Wo 3 c)
  have e : (pt c cc0_scratch5 (RSBc X Wo 3 c) : sProp 𝕄) = ptOn c cc0_scratch5 (RB 128 0 128 0 ∪ RB 128 0 128 1) (RSBc X Wo 3 c) := by
    rw [RB_halves]
  rw [e]
  iapply (ptOn_union c (b := cc0_scratch5) RB_halves_disjoint _).2; iexact H

/-! ## The copies of the reduction -/

theorem rs_land_0 (s : Fin 2) {off off' : Fin 2 → ℕ} (hoff : off = ![0, 512 * s.val]) (hoff' : off' = ![0, 512 * s.val])
    {inb : ∀ a, off a + S1024x512.size a ≤ S1024x1024.size a} {inb' : ∀ a, off' a + S1024x512.size a ≤ S1024x1024.size a} {hs hs'}
    (fd : Vec F S1024x1024 .bf16) (i : S1024x1024.Idx) (hi : i ∈ RB 1024 0 1024 s) :
    ((Memref.whole cc0_scratch2).slice (Rect.unit (s := S1024x1024) off' S1024x512.size inb') hs').view.write (Elt F) fd
      (((Memref.whole cc0_scratch1).slice (Rect.unit (s := S1024x1024) off S1024x512.size inb) hs).view.read (Elt F) (SBc X Wo s 0 c)) Finset.univ i
      = RSBc X Wo 0 (pr s 0 c) i := by
  refine (slice_write_apply cc0_scratch2 off' S1024x512.size inb' hs' fd _ i).trans ?_
  refine (dif_pos (in_rect hoff' hi)).trans ?_
  refine (slice_read_apply cc0_scratch1 off S1024x512.size inb hs (SBc X Wo s 0 c) _).trans ?_
  subst hoff hoff'
  have e1 := ValueIdx.idx2_lt1 i
  have e2 := (mem_RB.mp hi).2.2
  unfold SBc RSBc
  rw [half_of_mem hi, pr_pr]
  congr 2
  · show at2 (_ + (0 + ((i 0).val - 0))) (512 * s.val + ((i 1).val - 512 * s.val)) = _
    congr 1 <;> omega

/-- The copy of reduction step 0. -/
theorem rs_send_0 {α : Type} {Q : α → sProp 𝕄} (s : Fin 2) (k : ℕ) {off off' : Fin 2 → ℕ} (hoff : off = ![0, 512 * s.val]) (hoff' : off' = ![0, 512 * s.val])
    {inb : ∀ a, off a + S1024x512.size a ≤ S1024x1024.size a} {inb' : ∀ a, off' a + S1024x512.size a ≤ S1024x1024.size a} {hs hs'}
    {cd : Dev nD} {sS sR : DmaSem sig} {hsc h1 h2 h3} {kk : PUnit → Prog (TpuEff nD τ sig (Elt F) Λ₀ .tc) α}
    (hS : sS = dsem 0 0 s) (hR : sR = dsem 1 0 s) (hcd : cd = pr s 0 c)
    (hdue : ((duePeer k c : Thread nD τ), dueSem k, dueAmt k) = ((peer 1 0 s c : Thread nD τ), .dma (dsem 1 0 s), amt 1 0)) :
    iprop(ctx0 X Wo K ∗ ready 0 1 0 s c ∗ reached ER (cell 1 0 s (pr s 0 c)) 0
        ∗ ptOn c cc0_scratch1 (RB 1024 0 1024 s) (SBc X Wo s 0 c) ∗ rsbAny 0 s (pr s 0 c) ∗ ow c (k + 1))
      ⊢ iprop(((sentS 0 0 s c ∗ (atPos ER (cell 1 0 s c) 0 ∅ 0 ∗ cred (tallyAt (cell 1 0 s c) () (amt 1 0))) ∗ ow c k)
          -∗ wp frame (wpE (defs₀ (F := F)) 𝒱₀ c none) Set.univ (kk ⟨⟩) Q)
        -∗ wp frame (wpE (defs₀ (F := F)) 𝒱₀ c none) Set.univ
          (Prog.lift (.enqueueDma ((Memref.whole cc0_scratch1).slice (Rect.unit (s := S1024x1024) off S1024x512.size inb) hs)
            (.remote (Dev.tc cd : Thread nD τ) ((Memref.whole cc0_scratch2).slice (Rect.unit (s := S1024x1024) off' S1024x512.size inb') hs') (.dma sS) hsc) (.dma sR) h1 h2 h3) >>= kk) Q) := by
  have es : ((Memref.whole cc0_scratch1).slice (Rect.unit (s := S1024x1024) off S1024x512.size inb) hs).view.set = RB 1024 0 1024 s :=
    (View.set_slice_whole _ _).trans (rect_set hoff inb)
  have ed : ((Memref.whole cc0_scratch2).slice (Rect.unit (s := S1024x1024) off' S1024x512.size inb') hs').view.set = RB 1024 0 1024 s :=
    (View.set_slice_whole _ _).trans (rect_set hoff' inb')
  subst hcd
  rw [show (rsbAny (F := F) 0 s (pr s 0 c) : sProp 𝕄) = iprop(∃ f, ptOn (pr s 0 c) cc0_scratch2 (RB 1024 0 1024 s) f) from rfl]
  iintro ⟨#HX, Hr, #HrR, Hs, ⟨%fd, Hd⟩, HO⟩
  iapply (stage_send X Wo K c 0 1 0 s k (src := (Memref.whole cc0_scratch1).slice (Rect.unit (s := S1024x1024) off S1024x512.size inb) hs)
    (dst := (Memref.whole cc0_scratch2).slice (Rect.unit (s := S1024x1024) off' S1024x512.size inb') hs')
    (SBc X Wo s 0 c) fd hS hR (cd := pr s 0 c) rfl (by show RefSig.tileCredit ⟨2, ![1024, 512]⟩ .bf16 = amt 0 0; decide) rfl hdue
    (by rw [es]; show _ ⊢ sbAny 0 1024 s c; unfold sbAny; iintro H; iexists _; iexact H)
    (by
      rw [ed]
      show _ ⊢ (ptOn (pr s 0 c) cc0_scratch2 (RB 1024 0 1024 s) (RSBc X Wo 0 (pr s 0 c)) : sProp 𝕄)
      exact Entails.of_eq (pointsTo_congr fun i hi => rs_land_0 X Wo c s hoff hoff' fd i hi)))
  isplitr; · iexact HX
  isplitl [Hr]; · iexact Hr
  isplitr; · iexact HrR
  isplitl [Hs]; · rw [es]; iexact Hs
  isplitl [Hd]; · rw [ed]; iexact Hd
  iexact HO

theorem rs_land_1 (s : Fin 2) {off off' : Fin 2 → ℕ} (hoff : off = ![0, 512 * s.val]) (hoff' : off' = ![0, 512 * s.val])
    {inb : ∀ a, off a + S512x512.size a ≤ S1024x1024.size a} {inb' : ∀ a, off' a + S512x512.size a ≤ S512x1024.size a} {hs hs'}
    (fd : Vec F S512x1024 .bf16) (i : S512x1024.Idx) (hi : i ∈ RB 512 0 512 s) :
    ((Memref.whole cc0_scratch3).slice (Rect.unit (s := S512x1024) off' S512x512.size inb') hs').view.write (Elt F) fd
      (((Memref.whole cc0_scratch1).slice (Rect.unit (s := S1024x1024) off S512x512.size inb) hs).view.read (Elt F) (SBc X Wo s 1 c)) Finset.univ i
      = RSBc X Wo 1 (pr s 1 c) i := by
  refine (slice_write_apply cc0_scratch3 off' S512x512.size inb' hs' fd _ i).trans ?_
  refine (dif_pos (in_rect hoff' hi)).trans ?_
  refine (slice_read_apply cc0_scratch1 off S512x512.size inb hs (SBc X Wo s 1 c) _).trans ?_
  subst hoff hoff'
  have e1 := ValueIdx.idx2_lt1 i
  have e2 := (mem_RB.mp hi).2.2
  unfold SBc RSBc
  rw [half_of_mem hi, pr_pr]
  congr 2
  · show at2 (_ + (0 + ((i 0).val - 0))) (512 * s.val + ((i 1).val - 512 * s.val)) = _
    congr 1 <;> omega

/-- The copy of reduction step 1. -/
theorem rs_send_1 {α : Type} {Q : α → sProp 𝕄} (s : Fin 2) (k : ℕ) {off off' : Fin 2 → ℕ} (hoff : off = ![0, 512 * s.val]) (hoff' : off' = ![0, 512 * s.val])
    {inb : ∀ a, off a + S512x512.size a ≤ S1024x1024.size a} {inb' : ∀ a, off' a + S512x512.size a ≤ S512x1024.size a} {hs hs'}
    {cd : Dev nD} {sS sR : DmaSem sig} {hsc h1 h2 h3} {kk : PUnit → Prog (TpuEff nD τ sig (Elt F) Λ₀ .tc) α}
    (hS : sS = dsem 0 1 s) (hR : sR = dsem 1 1 s) (hcd : cd = pr s 1 c)
    (hdue : ((duePeer k c : Thread nD τ), dueSem k, dueAmt k) = ((peer 1 1 s c : Thread nD τ), .dma (dsem 1 1 s), amt 1 1)) :
    iprop(ctx0 X Wo K ∗ ready 0 1 1 s c ∗ reached ER (cell 1 1 s (pr s 1 c)) 0
        ∗ ptOn c cc0_scratch1 (RB 1024 0 512 s) (SBc X Wo s 1 c) ∗ rsbAny 1 s (pr s 1 c) ∗ ow c (k + 1))
      ⊢ iprop(((sentS 0 1 s c ∗ (atPos ER (cell 1 1 s c) 0 ∅ 0 ∗ cred (tallyAt (cell 1 1 s c) () (amt 1 1))) ∗ ow c k)
          -∗ wp frame (wpE (defs₀ (F := F)) 𝒱₀ c none) Set.univ (kk ⟨⟩) Q)
        -∗ wp frame (wpE (defs₀ (F := F)) 𝒱₀ c none) Set.univ
          (Prog.lift (.enqueueDma ((Memref.whole cc0_scratch1).slice (Rect.unit (s := S1024x1024) off S512x512.size inb) hs)
            (.remote (Dev.tc cd : Thread nD τ) ((Memref.whole cc0_scratch3).slice (Rect.unit (s := S512x1024) off' S512x512.size inb') hs') (.dma sS) hsc) (.dma sR) h1 h2 h3) >>= kk) Q) := by
  have es : ((Memref.whole cc0_scratch1).slice (Rect.unit (s := S1024x1024) off S512x512.size inb) hs).view.set = RB 1024 0 512 s :=
    (View.set_slice_whole _ _).trans (rect_set hoff inb)
  have ed : ((Memref.whole cc0_scratch3).slice (Rect.unit (s := S512x1024) off' S512x512.size inb') hs').view.set = RB 512 0 512 s :=
    (View.set_slice_whole _ _).trans (rect_set hoff' inb')
  subst hcd
  rw [show (rsbAny (F := F) 1 s (pr s 1 c) : sProp 𝕄) = iprop(∃ f, ptOn (pr s 1 c) cc0_scratch3 (RB 512 0 512 s) f) from rfl]
  iintro ⟨#HX, Hr, #HrR, Hs, ⟨%fd, Hd⟩, HO⟩
  iapply (stage_send X Wo K c 0 1 1 s k (src := (Memref.whole cc0_scratch1).slice (Rect.unit (s := S1024x1024) off S512x512.size inb) hs)
    (dst := (Memref.whole cc0_scratch3).slice (Rect.unit (s := S512x1024) off' S512x512.size inb') hs')
    (SBc X Wo s 1 c) fd hS hR (cd := pr s 1 c) rfl (by show RefSig.tileCredit ⟨2, ![512, 512]⟩ .bf16 = amt 0 1; decide) rfl hdue
    (by rw [es]; show _ ⊢ sbAny 0 512 s c; unfold sbAny; iintro H; iexists _; iexact H)
    (by
      rw [ed]
      show _ ⊢ (ptOn (pr s 1 c) cc0_scratch3 (RB 512 0 512 s) (RSBc X Wo 1 (pr s 1 c)) : sProp 𝕄)
      exact Entails.of_eq (pointsTo_congr fun i hi => rs_land_1 X Wo c s hoff hoff' fd i hi)))
  isplitr; · iexact HX
  isplitl [Hr]; · iexact Hr
  isplitr; · iexact HrR
  isplitl [Hs]; · rw [es]; iexact Hs
  isplitl [Hd]; · rw [ed]; iexact Hd
  iexact HO

theorem rs_land_2 (s : Fin 2) {off off' : Fin 2 → ℕ} (hoff : off = ![0, 512 * s.val]) (hoff' : off' = ![0, 512 * s.val])
    {inb : ∀ a, off a + S256x512.size a ≤ S1024x1024.size a} {inb' : ∀ a, off' a + S256x512.size a ≤ S256x1024.size a} {hs hs'}
    (fd : Vec F S256x1024 .bf16) (i : S256x1024.Idx) (hi : i ∈ RB 256 0 256 s) :
    ((Memref.whole cc0_scratch4).slice (Rect.unit (s := S256x1024) off' S256x512.size inb') hs').view.write (Elt F) fd
      (((Memref.whole cc0_scratch1).slice (Rect.unit (s := S1024x1024) off S256x512.size inb) hs).view.read (Elt F) (SBc X Wo s 2 c)) Finset.univ i
      = RSBc X Wo 2 (pr s 2 c) i := by
  refine (slice_write_apply cc0_scratch4 off' S256x512.size inb' hs' fd _ i).trans ?_
  refine (dif_pos (in_rect hoff' hi)).trans ?_
  refine (slice_read_apply cc0_scratch1 off S256x512.size inb hs (SBc X Wo s 2 c) _).trans ?_
  subst hoff hoff'
  have e1 := ValueIdx.idx2_lt1 i
  have e2 := (mem_RB.mp hi).2.2
  unfold SBc RSBc
  rw [half_of_mem hi, pr_pr]
  congr 2
  · show at2 (_ + (0 + ((i 0).val - 0))) (512 * s.val + ((i 1).val - 512 * s.val)) = _
    congr 1 <;> omega

/-- The copy of reduction step 2. -/
theorem rs_send_2 {α : Type} {Q : α → sProp 𝕄} (s : Fin 2) (k : ℕ) {off off' : Fin 2 → ℕ} (hoff : off = ![0, 512 * s.val]) (hoff' : off' = ![0, 512 * s.val])
    {inb : ∀ a, off a + S256x512.size a ≤ S1024x1024.size a} {inb' : ∀ a, off' a + S256x512.size a ≤ S256x1024.size a} {hs hs'}
    {cd : Dev nD} {sS sR : DmaSem sig} {hsc h1 h2 h3} {kk : PUnit → Prog (TpuEff nD τ sig (Elt F) Λ₀ .tc) α}
    (hS : sS = dsem 0 2 s) (hR : sR = dsem 1 2 s) (hcd : cd = pr s 2 c)
    (hdue : ((duePeer k c : Thread nD τ), dueSem k, dueAmt k) = ((peer 1 2 s c : Thread nD τ), .dma (dsem 1 2 s), amt 1 2)) :
    iprop(ctx0 X Wo K ∗ ready 0 1 2 s c ∗ reached ER (cell 1 2 s (pr s 2 c)) 0
        ∗ ptOn c cc0_scratch1 (RB 1024 0 256 s) (SBc X Wo s 2 c) ∗ rsbAny 2 s (pr s 2 c) ∗ ow c (k + 1))
      ⊢ iprop(((sentS 0 2 s c ∗ (atPos ER (cell 1 2 s c) 0 ∅ 0 ∗ cred (tallyAt (cell 1 2 s c) () (amt 1 2))) ∗ ow c k)
          -∗ wp frame (wpE (defs₀ (F := F)) 𝒱₀ c none) Set.univ (kk ⟨⟩) Q)
        -∗ wp frame (wpE (defs₀ (F := F)) 𝒱₀ c none) Set.univ
          (Prog.lift (.enqueueDma ((Memref.whole cc0_scratch1).slice (Rect.unit (s := S1024x1024) off S256x512.size inb) hs)
            (.remote (Dev.tc cd : Thread nD τ) ((Memref.whole cc0_scratch4).slice (Rect.unit (s := S256x1024) off' S256x512.size inb') hs') (.dma sS) hsc) (.dma sR) h1 h2 h3) >>= kk) Q) := by
  have es : ((Memref.whole cc0_scratch1).slice (Rect.unit (s := S1024x1024) off S256x512.size inb) hs).view.set = RB 1024 0 256 s :=
    (View.set_slice_whole _ _).trans (rect_set hoff inb)
  have ed : ((Memref.whole cc0_scratch4).slice (Rect.unit (s := S256x1024) off' S256x512.size inb') hs').view.set = RB 256 0 256 s :=
    (View.set_slice_whole _ _).trans (rect_set hoff' inb')
  subst hcd
  rw [show (rsbAny (F := F) 2 s (pr s 2 c) : sProp 𝕄) = iprop(∃ f, ptOn (pr s 2 c) cc0_scratch4 (RB 256 0 256 s) f) from rfl]
  iintro ⟨#HX, Hr, #HrR, Hs, ⟨%fd, Hd⟩, HO⟩
  iapply (stage_send X Wo K c 0 1 2 s k (src := (Memref.whole cc0_scratch1).slice (Rect.unit (s := S1024x1024) off S256x512.size inb) hs)
    (dst := (Memref.whole cc0_scratch4).slice (Rect.unit (s := S256x1024) off' S256x512.size inb') hs')
    (SBc X Wo s 2 c) fd hS hR (cd := pr s 2 c) rfl (by show RefSig.tileCredit ⟨2, ![256, 512]⟩ .bf16 = amt 0 2; decide) rfl hdue
    (by rw [es]; show _ ⊢ sbAny 0 256 s c; unfold sbAny; iintro H; iexists _; iexact H)
    (by
      rw [ed]
      show _ ⊢ (ptOn (pr s 2 c) cc0_scratch4 (RB 256 0 256 s) (RSBc X Wo 2 (pr s 2 c)) : sProp 𝕄)
      exact Entails.of_eq (pointsTo_congr fun i hi => rs_land_2 X Wo c s hoff hoff' fd i hi)))
  isplitr; · iexact HX
  isplitl [Hr]; · iexact Hr
  isplitr; · iexact HrR
  isplitl [Hs]; · rw [es]; iexact Hs
  isplitl [Hd]; · rw [ed]; iexact Hd
  iexact HO

theorem rs_land_3 (s : Fin 2) {off off' : Fin 2 → ℕ} (hoff : off = ![0, 512 * s.val]) (hoff' : off' = ![0, 512 * s.val])
    {inb : ∀ a, off a + S128x512.size a ≤ S1024x1024.size a} {inb' : ∀ a, off' a + S128x512.size a ≤ S128x1024.size a} {hs hs'}
    (fd : Vec F S128x1024 .bf16) (i : S128x1024.Idx) (hi : i ∈ RB 128 0 128 s) :
    ((Memref.whole cc0_scratch5).slice (Rect.unit (s := S128x1024) off' S128x512.size inb') hs').view.write (Elt F) fd
      (((Memref.whole cc0_scratch1).slice (Rect.unit (s := S1024x1024) off S128x512.size inb) hs).view.read (Elt F) (SBc X Wo s 3 c)) Finset.univ i
      = RSBc X Wo 3 (pr s 3 c) i := by
  refine (slice_write_apply cc0_scratch5 off' S128x512.size inb' hs' fd _ i).trans ?_
  refine (dif_pos (in_rect hoff' hi)).trans ?_
  refine (slice_read_apply cc0_scratch1 off S128x512.size inb hs (SBc X Wo s 3 c) _).trans ?_
  subst hoff hoff'
  have e1 := ValueIdx.idx2_lt1 i
  have e2 := (mem_RB.mp hi).2.2
  unfold SBc RSBc
  rw [half_of_mem hi, pr_pr]
  congr 2
  · show at2 (_ + (0 + ((i 0).val - 0))) (512 * s.val + ((i 1).val - 512 * s.val)) = _
    congr 1 <;> omega

/-- The copy of reduction step 3. -/
theorem rs_send_3 {α : Type} {Q : α → sProp 𝕄} (s : Fin 2) (k : ℕ) {off off' : Fin 2 → ℕ} (hoff : off = ![0, 512 * s.val]) (hoff' : off' = ![0, 512 * s.val])
    {inb : ∀ a, off a + S128x512.size a ≤ S1024x1024.size a} {inb' : ∀ a, off' a + S128x512.size a ≤ S128x1024.size a} {hs hs'}
    {cd : Dev nD} {sS sR : DmaSem sig} {hsc h1 h2 h3} {kk : PUnit → Prog (TpuEff nD τ sig (Elt F) Λ₀ .tc) α}
    (hS : sS = dsem 0 3 s) (hR : sR = dsem 1 3 s) (hcd : cd = pr s 3 c)
    (hdue : ((duePeer k c : Thread nD τ), dueSem k, dueAmt k) = ((peer 1 3 s c : Thread nD τ), .dma (dsem 1 3 s), amt 1 3)) :
    iprop(ctx0 X Wo K ∗ ready 0 1 3 s c ∗ reached ER (cell 1 3 s (pr s 3 c)) 0
        ∗ ptOn c cc0_scratch1 (RB 1024 0 128 s) (SBc X Wo s 3 c) ∗ rsbAny 3 s (pr s 3 c) ∗ ow c (k + 1))
      ⊢ iprop(((sentS 0 3 s c ∗ (atPos ER (cell 1 3 s c) 0 ∅ 0 ∗ cred (tallyAt (cell 1 3 s c) () (amt 1 3))) ∗ ow c k)
          -∗ wp frame (wpE (defs₀ (F := F)) 𝒱₀ c none) Set.univ (kk ⟨⟩) Q)
        -∗ wp frame (wpE (defs₀ (F := F)) 𝒱₀ c none) Set.univ
          (Prog.lift (.enqueueDma ((Memref.whole cc0_scratch1).slice (Rect.unit (s := S1024x1024) off S128x512.size inb) hs)
            (.remote (Dev.tc cd : Thread nD τ) ((Memref.whole cc0_scratch5).slice (Rect.unit (s := S128x1024) off' S128x512.size inb') hs') (.dma sS) hsc) (.dma sR) h1 h2 h3) >>= kk) Q) := by
  have es : ((Memref.whole cc0_scratch1).slice (Rect.unit (s := S1024x1024) off S128x512.size inb) hs).view.set = RB 1024 0 128 s :=
    (View.set_slice_whole _ _).trans (rect_set hoff inb)
  have ed : ((Memref.whole cc0_scratch5).slice (Rect.unit (s := S128x1024) off' S128x512.size inb') hs').view.set = RB 128 0 128 s :=
    (View.set_slice_whole _ _).trans (rect_set hoff' inb')
  subst hcd
  rw [show (rsbAny (F := F) 3 s (pr s 3 c) : sProp 𝕄) = iprop(∃ f, ptOn (pr s 3 c) cc0_scratch5 (RB 128 0 128 s) f) from rfl]
  iintro ⟨#HX, Hr, #HrR, Hs, ⟨%fd, Hd⟩, HO⟩
  iapply (stage_send X Wo K c 0 1 3 s k (src := (Memref.whole cc0_scratch1).slice (Rect.unit (s := S1024x1024) off S128x512.size inb) hs)
    (dst := (Memref.whole cc0_scratch5).slice (Rect.unit (s := S128x1024) off' S128x512.size inb') hs')
    (SBc X Wo s 3 c) fd hS hR (cd := pr s 3 c) rfl (by show RefSig.tileCredit ⟨2, ![128, 512]⟩ .bf16 = amt 0 3; decide) rfl hdue
    (by rw [es]; show _ ⊢ sbAny 0 128 s c; unfold sbAny; iintro H; iexists _; iexact H)
    (by
      rw [ed]
      show _ ⊢ (ptOn (pr s 3 c) cc0_scratch5 (RB 128 0 128 s) (RSBc X Wo 3 (pr s 3 c)) : sProp 𝕄)
      exact Entails.of_eq (pointsTo_congr fun i hi => rs_land_3 X Wo c s hoff hoff' fd i hi)))
  isplitr; · iexact HX
  isplitl [Hr]; · iexact Hr
  isplitr; · iexact HrR
  isplitl [Hs]; · rw [es]; iexact Hs
  isplitl [Hd]; · rw [ed]; iexact Hd
  iexact HO

/-! ## The copies of the gathering -/

/-- The copy of gathering step `a`. -/
theorem ag_send {α : Type} {Q : α → sProp 𝕄} (a : Fin 4) (s : Fin 2) (k l : ℕ) (hl : l = len (opp a)) {off off' : Fin 2 → ℕ}
    (hoff : off = ![ks s ((opp a).val + 1) c, 512 * s.val]) (hoff' : off' = ![ks s ((opp a).val + 1) c, 512 * s.val])
    {inb : ∀ x, off x + (⟨2, ![l, 512]⟩ : Shape).size x ≤ S2048x1024.size x} {inb' : ∀ x, off' x + (⟨2, ![l, 512]⟩ : Shape).size x ≤ S2048x1024.size x} {hs hs'}
    {cd : Dev nD} {sS sR : DmaSem sig} {hsc h1 h2 h3} {kk : PUnit → Prog (TpuEff nD τ sig (Elt F) Λ₀ .tc) α}
    (hS : sS = dsem 2 a s) (hR : sR = dsem 3 a s) (hcd : cd = pr s (opp a) c)
    (hN : ((Memref.whole cc0_scratch6).slice (Rect.unit (s := S2048x1024) off' (⟨2, ![l, 512]⟩ : Shape).size inb') hs').view.dmaCredit = amt 2 a)
    (hp : peer 3 a s c = pr s (opp a) c) (hN' : amt 2 a = amt 3 a)
    (hdue : ((duePeer k c : Thread nD τ), dueSem k, dueAmt k) = ((peer 3 a s c : Thread nD τ), .dma (dsem 3 a s), amt 3 a)) :
    iprop(ctx0 X Wo K ∗ ready 2 3 a s c ∗ reached ER (cell 3 a s (pr s (opp a) c)) 0
        ∗ agAt X Wo (ks s ((opp a).val + 1) c) (len (opp a)) s c ∗ agAny (ks s ((opp a).val + 1) c) (len (opp a)) s (pr s (opp a) c) ∗ ow c (k + 1))
      ⊢ iprop(((sentS 2 a s c ∗ (atPos ER (cell 3 a s c) 0 ∅ 0 ∗ cred (tallyAt (cell 3 a s c) () (amt 3 a))) ∗ ow c k)
          -∗ wp frame (wpE (defs₀ (F := F)) 𝒱₀ c none) Set.univ (kk ⟨⟩) Q)
        -∗ wp frame (wpE (defs₀ (F := F)) 𝒱₀ c none) Set.univ
          (Prog.lift (.enqueueDma ((Memref.whole cc0_scratch6).slice (Rect.unit (s := S2048x1024) off (⟨2, ![l, 512]⟩ : Shape).size inb) hs)
            (.remote (Dev.tc cd : Thread nD τ) ((Memref.whole cc0_scratch6).slice (Rect.unit (s := S2048x1024) off' (⟨2, ![l, 512]⟩ : Shape).size inb') hs') (.dma sS) hsc)
            (.dma sR) h1 h2 h3) >>= kk) Q) := by
  subst hl hcd
  have es : ((Memref.whole cc0_scratch6).slice (Rect.unit (s := S2048x1024) off (⟨2, ![len (opp a), 512]⟩ : Shape).size inb) hs).view.set
      = RB 2048 (ks s ((opp a).val + 1) c) (len (opp a)) s := (View.set_slice_whole _ _).trans (rect_set hoff inb)
  have ed : ((Memref.whole cc0_scratch6).slice (Rect.unit (s := S2048x1024) off' (⟨2, ![len (opp a), 512]⟩ : Shape).size inb') hs').view.set
      = RB 2048 (ks s ((opp a).val + 1) c) (len (opp a)) s := (View.set_slice_whole _ _).trans (rect_set hoff' inb')
  iintro ⟨#HX, Hr, #HrR, Hs, Hd, HO⟩
  unfold agAny
  icases Hd with ⟨%fd, Hd⟩
  iapply (stage_send X Wo K c 2 3 a s k (src := (Memref.whole cc0_scratch6).slice (Rect.unit (s := S2048x1024) off (⟨2, ![len (opp a), 512]⟩ : Shape).size inb) hs)
    (dst := (Memref.whole cc0_scratch6).slice (Rect.unit (s := S2048x1024) off' (⟨2, ![len (opp a), 512]⟩ : Shape).size inb') hs')
    (AG X Wo) fd hS hR (cd := pr s (opp a) c) hp.symm hN hN' hdue
    (by rw [es]; show _ ⊢ agAt X Wo (ks s ((opp a).val + 1) c) (len (opp a)) s c; exact .rfl)
    (by
      rw [ed]
      show _ ⊢ agAt X Wo (ks s ((opp a).val + 1) (pr s (opp a) (pr s (opp a) c))) (len (opp a)) s (pr s (opp a) c)
      rw [pr_pr]
      unfold agAt
      refine Entails.of_eq (pointsTo_congr fun i hi => ?_)
      refine (slice_write_apply cc0_scratch6 off' (⟨2, ![len (opp a), 512]⟩ : Shape).size inb' hs' fd _ i).trans ?_
      refine (dif_pos (in_rect hoff' hi)).trans ?_
      refine (slice_read_apply cc0_scratch6 off (⟨2, ![len (opp a), 512]⟩ : Shape).size inb hs (AG X Wo) _).trans ?_
      congr 1
      have hin := in_rect hoff' hi
      subst hoff hoff'
      funext x; apply Fin.ext
      show _ + ((i x).val - _) = (i x).val
      have := hin x
      omega))
  isplitr; · iexact HX
  isplitl [Hr]; · iexact Hr
  isplitr; · rw [hp]; iexact HrR
  isplitl [Hs]; · rw [es]; unfold agAt; iexact Hs
  isplitl [Hd]; · rw [ed]; iexact Hd
  iexact HO

end Cert.KernelIdeal.Body
-- ==== Proof.KernelIdeal.OutBuf.lean ====
/-
  The output buffer through the reduction, the send buffer's preparation, and the gathering buffer's own rows.
-/
module

public import proofs.«01_k».proof.Proof.KernelIdeal.Buffers

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-! ## Reading and writing rows of one half -/

theorem setOn_whole (b : Ref sig .tc) (I : Finset b.ty.shape.Idx) : (Memref.whole b).view.setOn I = I := Finset.map_refl

theorem at2_row {r x : ℕ} (h : r < 2048) : (at2 r x 0).val = r := Nat.mod_eq_of_lt h
theorem at2_col {r x : ℕ} (h : x < 1024) : (at2 r x 1).val = x := Nat.mod_eq_of_lt h
theorem half_at2 {r x : ℕ} {s : Fin 2} (h : x < 1024) (hs : x / 512 = s.val) : half (at2 r x) = s :=
  Fin.ext (by show (at2 r x 1).val / 512 = s.val; rw [at2_col h]; exact hs)
theorem half_cell {r : ℕ} {s : Fin 2} {y : ℕ} (hy : y < 512) : half (at2 r (512 * s.val + y)) = s :=
  half_at2 (by omega) (by omega)

/-- What a load of rows `a … a + l - 1` of half `s` reads. -/
def rdv (a l : ℕ) (s : Fin 2) (f : Vec F S2048x1024 .f32) : Vec F (⟨2, ![l, 512]⟩ : Shape) .f32 := fun j =>
  f (at2 (a + (j 0).val) (512 * s.val + (j 1).val))

theorem rd_eq {a l : ℕ} {s : Fin 2} {off : Fin 2 → ℕ} (hoff : off = ![a, 512 * s.val])
    (inb : ∀ x, off x + (⟨2, ![l, 512]⟩ : Shape).size x ≤ S2048x1024.size x) (f : Vec F S2048x1024 .f32) :
    (Memref.whole cc0_stg5_0).view.readAt (Elt F) (Rect.unit (s := S2048x1024) off (⟨2, ![l, 512]⟩ : Shape).size inb).toLoadRect f = rdv a l s f := by
  subst hoff
  funext j
  refine (readAt_unit_apply cc0_stg5_0 _ _ inb f j).trans ?_
  unfold rdv
  congr 1
  have h0 := ValueIdx.idx2_lt0 j
  have h1 := ValueIdx.idx2_lt1 j
  have hb : a + l ≤ 2048 := inb 0
  funext x
  match x with
  | ⟨0, _⟩ => exact Fin.ext (at2_row (x := 512 * s.val + (j 1).val) (show a + (j 0).val < 2048 by omega)).symm
  | ⟨1, _⟩ => exact Fin.ext (at2_col (r := a + (j 0).val) (show 512 * s.val + (j 1).val < 1024 by omega)).symm

theorem rdv_at {a l : ℕ} {s : Fin 2} {off : Fin 2 → ℕ} (hoff : off = ![a, 512 * s.val]) {i : S2048x1024.Idx} (hi : i ∈ RB 2048 a l s)
    (j : (⟨2, ![l, 512]⟩ : Shape).Idx) (hj : ∀ x : Fin 2, (j x).val = (i x).val - off x) (f : Vec F S2048x1024 .f32) : rdv a l s f j = f i := by
  have hr := mem_RB.mp hi
  have h1 := ValueIdx.idx2_lt1 i
  subst hoff
  unfold rdv
  have e0 : (j 0).val = (i 0).val - a := hj 0
  have e1 : (j 1).val = (i 1).val - 512 * s.val := hj 1
  rw [e0, e1]
  conv_rhs => rw [← at2_self i]
  congr 2 <;> omega

theorem out_load {α : Type} {Q : α → sProp 𝕄} (a l : ℕ) (s : Fin 2) {off : Fin 2 → ℕ} (hoff : off = ![a, 512 * s.val])
    {inb : ∀ x, off x + (⟨2, ![l, 512]⟩ : Shape).size x ≤ S2048x1024.size x} {hl}
    {kk : Vec F (⟨2, ![l, 512]⟩ : Shape) .f32 → Prog (TpuEff nD τ sig (Elt F) Λ₀ .tc) α} (f : Vec F S2048x1024 .f32) :
    pt c cc0_stg5_0 f ⊢ iprop((pt c cc0_stg5_0 f -∗ wp frame (wpE (defs₀ (F := F)) 𝒱₀ c none) Set.univ (kk (rdv a l s f)) Q)
      -∗ wp frame (wpE (defs₀ (F := F)) 𝒱₀ c none) Set.univ (Prog.lift (.load (Memref.whole cc0_stg5_0)
          (Rect.unit (s := S2048x1024) off (⟨2, ![l, 512]⟩ : Shape).size inb).toLoadRect hl) >>= kk) Q) := by
  rw [Prog.bind_lift]
  iintro Hk HK
  iapply (wp_load 𝒱₀ (c : Thread nD τ) none Set.univ (m := Memref.whole cc0_stg5_0) (Finset.subset_univ _)) $$ Hk
  iintro Hk
  rw [rd_eq hoff inb f]
  iapply HK $$ Hk

theorem out_store {α : Type} {Q : α → sProp 𝕄} (a l : ℕ) (s : Fin 2) {off : Fin 2 → ℕ} (hoff : off = ![a, 512 * s.val])
    {inb : ∀ x, off x + (⟨2, ![l, 512]⟩ : Shape).size x ≤ S2048x1024.size x} {hx hm}
    {w : Vec F (⟨2, ![l, 512]⟩ : Shape) .f32}
    {kk : PUnit → Prog (TpuEff nD τ sig (Elt F) Λ₀ .tc) α} (f g : Vec F S2048x1024 .f32)
    (hin : ∀ j, g (at2 (a + (j 0).val) (512 * s.val + (j 1).val)) = w j) (hout : ∀ i, i ∉ RB 2048 a l s → g i = f i) :
    pt c cc0_stg5_0 f ⊢ iprop((pt c cc0_stg5_0 g -∗ wp frame (wpE (defs₀ (F := F)) 𝒱₀ c none) Set.univ (kk ⟨⟩) Q)
      -∗ wp frame (wpE (defs₀ (F := F)) 𝒱₀ c none) Set.univ (Prog.lift (.store (Memref.whole cc0_stg5_0)
          (Rect.unit (s := S2048x1024) off (⟨2, ![l, 512]⟩ : Shape).size inb) w Finset.univ hx hm) >>= kk) Q) := by
  have e : ((Memref.whole cc0_stg5_0).access (Rect.unit (s := S2048x1024) off (⟨2, ![l, 512]⟩ : Shape).size inb)).write (Elt F) f w Finset.univ = g := by
    funext i
    refine (write_unit_apply cc0_stg5_0 off (⟨2, ![l, 512]⟩ : Shape).size inb f w i).trans ?_
    by_cases h : i ∈ RB 2048 a l s
    · refine (dif_pos (in_rect hoff h)).trans ?_
      rw [← hin]
      have hm := mem_RB.mp h
      have h1 := ValueIdx.idx2_lt1 i
      subst hoff
      conv_rhs => rw [← at2_self i]
      congr 1
      show at2 (a + ((i 0).val - a)) (512 * s.val + ((i 1).val - 512 * s.val)) = _
      congr 1 <;> omega
    · refine (dif_neg (fun hh => h (of_in_rect hoff hh))).trans (hout i h).symm
  rw [Prog.bind_lift]
  iintro Hk HK
  iapply (wp_store 𝒱₀ (c : Thread nD τ) none Set.univ (m := Memref.whole cc0_stg5_0) (r := Rect.unit (s := S2048x1024) off (⟨2, ![l, 512]⟩ : Shape).size inb) (S := Finset.univ) (f := f) (Finset.subset_univ _)) $$ Hk
  iintro Hk
  rw [e]
  iapply HK $$ Hk

/-! ## The partial sums in the output buffer -/

/-- The output buffer with half `s` after `v s` steps. -/
def OL (v : Fin 2 → ℕ) (c : Dev nD) : Vec F S2048x1024 .f32 := fun i => O X Wo (v (half i)) c i

theorem OL_in {v v' : Fin 2 → ℕ} {s : Fin 2} {j : Fin 4} (hv : v s = j.val) (hv' : v' s = j.val + 1) {l : ℕ} (hl : l = len j)
    (i : (⟨2, ![l, 512]⟩ : Shape).Idx) :
    OL X Wo v' c (at2 (ks s (j.val + 1) c + (i 0).val) (512 * s.val + (i 1).val))
      = FloatOps.addf (rdv (ks s (j.val + 1) c) l s (OL X Wo v c) i) (ex (tr (O X Wo j.val (pr s j c) (at2 (ks s (j.val + 1) c + (i 0).val) (512 * s.val + (i 1).val))))) := by
  subst hl
  have h0 := ValueIdx.idx2_lt0 i
  have h1 := ValueIdx.idx2_lt1 i
  have hk := ks_le s j c
  show O X Wo (v' (half _)) c _ = FloatOps.addf (O X Wo (v (half (at2 (ks s (j.val + 1) c + (i 0).val) (512 * s.val + (i 1).val)))) c _) _
  rw [half_cell h1, hv', hv, O_succ]
  unfold ostep
  rw [half_cell h1, at2_row (by omega), if_pos ⟨by omega, by omega⟩]

theorem OL_out {v v' : Fin 2 → ℕ} {s : Fin 2} {j : Fin 4} (hv : v s = j.val) (hv' : v' s = j.val + 1) (hne : ∀ s', s' ≠ s → v' s' = v s')
    (i : S2048x1024.Idx) (hi : i ∉ RB 2048 (ks s (j.val + 1) c) (len j) s) : OL X Wo v' c i = OL X Wo v c i := by
  unfold OL
  by_cases h : half i = s
  · rw [h, hv', hv, O_succ]
    unfold ostep
    rw [h, if_neg fun hh => hi (mem_RB.mpr ⟨hh.1, hh.2, congrArg Fin.val h⟩)]
  · rw [hne _ h]

theorem rsb_rd_0 (s : Fin 2) {off : Fin 2 → ℕ} (hoff : off = ![0, 512 * s.val])
    (inb : ∀ a, off a + S1024x512.size a ≤ S1024x1024.size a) (i : S1024x512.Idx) :
    (Memref.whole cc0_scratch2).view.readAt (Elt F) (Rect.unit (s := S1024x1024) off S1024x512.size inb).toLoadRect (RSBc X Wo 0 c) i
      = tr (O X Wo 0 (pr s 0 c) (at2 (ks s 1 c + (i 0).val) (512 * s.val + (i 1).val))) := by
  subst hoff
  refine (readAt_unit_apply cc0_scratch2 _ _ inb (RSBc X Wo 0 c) i).trans ?_
  have h1 := ValueIdx.idx2_lt1 i
  have hh : ∀ p : (⟨2, ![1024, 1024]⟩ : Shape).Idx, (p 0).val = 0 + (i 0).val → (p 1).val = 512 * s.val + (i 1).val →
      RSBc X Wo 0 c p = tr (O X Wo 0 (pr s 0 c) (at2 (ks s 1 c + (i 0).val) (512 * s.val + (i 1).val))) := by
    intro p hp0 hp1
    have e : half p = s := Fin.ext (by show (p 1).val / 512 = s.val; omega)
    unfold RSBc
    rw [e, hp0, hp1, Nat.zero_add]
    rfl
  exact hh _ rfl rfl

/-- Reduction step 0 on the kept rows of half `s`. -/
theorem acc_0 {α : Type} {Q : α → sProp 𝕄} (s : Fin 2) (v v' : Fin 2 → ℕ) (hv : v s = 0) (hv' : v' s = 1) (hne : ∀ s', s' ≠ s → v' s' = v s')
    {off off' : Fin 2 → ℕ} (hoff : off = ![ks s 1 c, 512 * s.val]) (hoff' : off' = ![0, 512 * s.val])
    {inb : ∀ a, off a + S1024x512.size a ≤ S2048x1024.size a} {inb' : ∀ a, off' a + S1024x512.size a ≤ S1024x1024.size a} {hl1 hl2 hl3 hx hm}
    {pay : Vec F S1024x512 .f32 → Vec F S1024x512 .bf16 → Vec F S1024x512 .f32} (hpay : ∀ x y i, pay x y i = FloatOps.addf (x i) (ex (y i)))
    {kk : PUnit → Prog (TpuEff nD τ sig (Elt F) Λ₀ .tc) α} :
    iprop(pt c cc0_stg5_0 (OL X Wo v c) ∗ dmaPay X Wo 1 0 s c)
      ⊢ iprop(((pt c cc0_stg5_0 (OL X Wo v' c) ∗ rsbAt X Wo 0 s c) -∗ wp frame (wpE (defs₀ (F := F)) 𝒱₀ c none) Set.univ (kk ⟨⟩) Q)
      -∗ wp frame (wpE (defs₀ (F := F)) 𝒱₀ c none) Set.univ
        (Prog.lift (.load (Memref.whole cc0_stg5_0) (Rect.unit (s := S2048x1024) off S1024x512.size inb).toLoadRect hl1) >>= fun x =>
          Prog.lift (.load (Memref.whole cc0_scratch2) (Rect.unit (s := S1024x1024) off' S1024x512.size inb').toLoadRect hl2) >>= fun y =>
          Prog.lift (.load (Memref.whole cc0_stg5_0) (Rect.unit (s := S2048x1024) off S1024x512.size inb).toLoadRect hl3) >>= fun _ =>
          Prog.lift (.store (Memref.whole cc0_stg5_0) (Rect.unit (s := S2048x1024) off S1024x512.size inb) (pay x y) Finset.univ hx hm) >>= kk) Q) := by
  iintro ⟨Ho, Hr⟩ HK
  iapply (out_load c (ks s 1 c) 1024 s hoff (OL X Wo v c)) $$ Ho; iintro Ho
  rw [Prog.bind_lift]
  ihave Hr' := (show (dmaPay X Wo 1 0 s c : sProp 𝕄) ⊢ ptOn c cc0_scratch2 (RB 1024 0 1024 s) (RSBc X Wo 0 c) from .rfl) $$ Hr
  iapply (wp_load 𝒱₀ (c : Thread nD τ) none Set.univ (m := Memref.whole cc0_scratch2) (S := RB 1024 0 1024 s)
    (Finset.Subset.trans (Finset.subset_of_eq (setOn_whole _ _)) (Finset.subset_of_eq (rect_set hoff' inb')))) $$ Hr'; iintro Hr
  iapply (out_load c (ks s 1 c) 1024 s hoff (OL X Wo v c)) $$ Ho; iintro Ho
  iapply (out_store c (ks s 1 c) 1024 s hoff (OL X Wo v c) (OL X Wo v' c)
    (fun i => (OL_in X Wo c (s := s) (j := 0) hv hv' rfl i).trans (by rw [hpay, rsb_rd_0 X Wo c s hoff' inb' i]; rfl))
    (fun i hi => OL_out X Wo c (s := s) (j := 0) hv hv' hne i hi)) $$ Ho; iintro Ho
  iapply HK
  isplitl [Ho]; · iexact Ho
  iapply (show (ptOn c cc0_scratch2 (RB 1024 0 1024 s) (RSBc X Wo 0 c) : sProp 𝕄) ⊢ rsbAt X Wo 0 s c from .rfl) $$ Hr

theorem rsb_rd_1 (s : Fin 2) {off : Fin 2 → ℕ} (hoff : off = ![0, 512 * s.val])
    (inb : ∀ a, off a + S512x512.size a ≤ S512x1024.size a) (i : S512x512.Idx) :
    (Memref.whole cc0_scratch3).view.readAt (Elt F) (Rect.unit (s := S512x1024) off S512x512.size inb).toLoadRect (RSBc X Wo 1 c) i
      = tr (O X Wo 1 (pr s 1 c) (at2 (ks s 2 c + (i 0).val) (512 * s.val + (i 1).val))) := by
  subst hoff
  refine (readAt_unit_apply cc0_scratch3 _ _ inb (RSBc X Wo 1 c) i).trans ?_
  have h1 := ValueIdx.idx2_lt1 i
  have hh : ∀ p : (⟨2, ![512, 1024]⟩ : Shape).Idx, (p 0).val = 0 + (i 0).val → (p 1).val = 512 * s.val + (i 1).val →
      RSBc X Wo 1 c p = tr (O X Wo 1 (pr s 1 c) (at2 (ks s 2 c + (i 0).val) (512 * s.val + (i 1).val))) := by
    intro p hp0 hp1
    have e : half p = s := Fin.ext (by show (p 1).val / 512 = s.val; omega)
    unfold RSBc
    rw [e, hp0, hp1, Nat.zero_add]
    rfl
  exact hh _ rfl rfl

/-- Reduction step 1 on the kept rows of half `s`. -/
theorem acc_1 {α : Type} {Q : α → sProp 𝕄} (s : Fin 2) (v v' : Fin 2 → ℕ) (hv : v s = 1) (hv' : v' s = 2) (hne : ∀ s', s' ≠ s → v' s' = v s')
    {off off' : Fin 2 → ℕ} (hoff : off = ![ks s 2 c, 512 * s.val]) (hoff' : off' = ![0, 512 * s.val])
    {inb : ∀ a, off a + S512x512.size a ≤ S2048x1024.size a} {inb' : ∀ a, off' a + S512x512.size a ≤ S512x1024.size a} {hl1 hl2 hl3 hx hm}
    {pay : Vec F S512x512 .f32 → Vec F S512x512 .bf16 → Vec F S512x512 .f32} (hpay : ∀ x y i, pay x y i = FloatOps.addf (x i) (ex (y i)))
    {kk : PUnit → Prog (TpuEff nD τ sig (Elt F) Λ₀ .tc) α} :
    iprop(pt c cc0_stg5_0 (OL X Wo v c) ∗ dmaPay X Wo 1 1 s c)
      ⊢ iprop(((pt c cc0_stg5_0 (OL X Wo v' c) ∗ rsbAt X Wo 1 s c) -∗ wp frame (wpE (defs₀ (F := F)) 𝒱₀ c none) Set.univ (kk ⟨⟩) Q)
      -∗ wp frame (wpE (defs₀ (F := F)) 𝒱₀ c none) Set.univ
        (Prog.lift (.load (Memref.whole cc0_stg5_0) (Rect.unit (s := S2048x1024) off S512x512.size inb).toLoadRect hl1) >>= fun x =>
          Prog.lift (.load (Memref.whole cc0_scratch3) (Rect.unit (s := S512x1024) off' S512x512.size inb').toLoadRect hl2) >>= fun y =>
          Prog.lift (.load (Memref.whole cc0_stg5_0) (Rect.unit (s := S2048x1024) off S512x512.size inb).toLoadRect hl3) >>= fun _ =>
          Prog.lift (.store (Memref.whole cc0_stg5_0) (Rect.unit (s := S2048x1024) off S512x512.size inb) (pay x y) Finset.univ hx hm) >>= kk) Q) := by
  iintro ⟨Ho, Hr⟩ HK
  iapply (out_load c (ks s 2 c) 512 s hoff (OL X Wo v c)) $$ Ho; iintro Ho
  rw [Prog.bind_lift]
  ihave Hr' := (show (dmaPay X Wo 1 1 s c : sProp 𝕄) ⊢ ptOn c cc0_scratch3 (RB 512 0 512 s) (RSBc X Wo 1 c) from .rfl) $$ Hr
  iapply (wp_load 𝒱₀ (c : Thread nD τ) none Set.univ (m := Memref.whole cc0_scratch3) (S := RB 512 0 512 s)
    (Finset.Subset.trans (Finset.subset_of_eq (setOn_whole _ _)) (Finset.subset_of_eq (rect_set hoff' inb')))) $$ Hr'; iintro Hr
  iapply (out_load c (ks s 2 c) 512 s hoff (OL X Wo v c)) $$ Ho; iintro Ho
  iapply (out_store c (ks s 2 c) 512 s hoff (OL X Wo v c) (OL X Wo v' c)
    (fun i => (OL_in X Wo c (s := s) (j := 1) hv hv' rfl i).trans (by rw [hpay, rsb_rd_1 X Wo c s hoff' inb' i]; rfl))
    (fun i hi => OL_out X Wo c (s := s) (j := 1) hv hv' hne i hi)) $$ Ho; iintro Ho
  iapply HK
  isplitl [Ho]; · iexact Ho
  iapply (show (ptOn c cc0_scratch3 (RB 512 0 512 s) (RSBc X Wo 1 c) : sProp 𝕄) ⊢ rsbAt X Wo 1 s c from .rfl) $$ Hr

theorem rsb_rd_2 (s : Fin 2) {off : Fin 2 → ℕ} (hoff : off = ![0, 512 * s.val])
    (inb : ∀ a, off a + S256x512.size a ≤ S256x1024.size a) (i : S256x512.Idx) :
    (Memref.whole cc0_scratch4).view.readAt (Elt F) (Rect.unit (s := S256x1024) off S256x512.size inb).toLoadRect (RSBc X Wo 2 c) i
      = tr (O X Wo 2 (pr s 2 c) (at2 (ks s 3 c + (i 0).val) (512 * s.val + (i 1).val))) := by
  subst hoff
  refine (readAt_unit_apply cc0_scratch4 _ _ inb (RSBc X Wo 2 c) i).trans ?_
  have h1 := ValueIdx.idx2_lt1 i
  have hh : ∀ p : (⟨2, ![256, 1024]⟩ : Shape).Idx, (p 0).val = 0 + (i 0).val → (p 1).val = 512 * s.val + (i 1).val →
      RSBc X Wo 2 c p = tr (O X Wo 2 (pr s 2 c) (at2 (ks s 3 c + (i 0).val) (512 * s.val + (i 1).val))) := by
    intro p hp0 hp1
    have e : half p = s := Fin.ext (by show (p 1).val / 512 = s.val; omega)
    unfold RSBc
    rw [e, hp0, hp1, Nat.zero_add]
    rfl
  exact hh _ rfl rfl

/-- Reduction step 2 on the kept rows of half `s`. -/
theorem acc_2 {α : Type} {Q : α → sProp 𝕄} (s : Fin 2) (v v' : Fin 2 → ℕ) (hv : v s = 2) (hv' : v' s = 3) (hne : ∀ s', s' ≠ s → v' s' = v s')
    {off off' : Fin 2 → ℕ} (hoff : off = ![ks s 3 c, 512 * s.val]) (hoff' : off' = ![0, 512 * s.val])
    {inb : ∀ a, off a + S256x512.size a ≤ S2048x1024.size a} {inb' : ∀ a, off' a + S256x512.size a ≤ S256x1024.size a} {hl1 hl2 hl3 hx hm}
    {pay : Vec F S256x512 .f32 → Vec F S256x512 .bf16 → Vec F S256x512 .f32} (hpay : ∀ x y i, pay x y i = FloatOps.addf (x i) (ex (y i)))
    {kk : PUnit → Prog (TpuEff nD τ sig (Elt F) Λ₀ .tc) α} :
    iprop(pt c cc0_stg5_0 (OL X Wo v c) ∗ dmaPay X Wo 1 2 s c)
      ⊢ iprop(((pt c cc0_stg5_0 (OL X Wo v' c) ∗ rsbAt X Wo 2 s c) -∗ wp frame (wpE (defs₀ (F := F)) 𝒱₀ c none) Set.univ (kk ⟨⟩) Q)
      -∗ wp frame (wpE (defs₀ (F := F)) 𝒱₀ c none) Set.univ
        (Prog.lift (.load (Memref.whole cc0_stg5_0) (Rect.unit (s := S2048x1024) off S256x512.size inb).toLoadRect hl1) >>= fun x =>
          Prog.lift (.load (Memref.whole cc0_scratch4) (Rect.unit (s := S256x1024) off' S256x512.size inb').toLoadRect hl2) >>= fun y =>
          Prog.lift (.load (Memref.whole cc0_stg5_0) (Rect.unit (s := S2048x1024) off S256x512.size inb).toLoadRect hl3) >>= fun _ =>
          Prog.lift (.store (Memref.whole cc0_stg5_0) (Rect.unit (s := S2048x1024) off S256x512.size inb) (pay x y) Finset.univ hx hm) >>= kk) Q) := by
  iintro ⟨Ho, Hr⟩ HK
  iapply (out_load c (ks s 3 c) 256 s hoff (OL X Wo v c)) $$ Ho; iintro Ho
  rw [Prog.bind_lift]
  ihave Hr' := (show (dmaPay X Wo 1 2 s c : sProp 𝕄) ⊢ ptOn c cc0_scratch4 (RB 256 0 256 s) (RSBc X Wo 2 c) from .rfl) $$ Hr
  iapply (wp_load 𝒱₀ (c : Thread nD τ) none Set.univ (m := Memref.whole cc0_scratch4) (S := RB 256 0 256 s)
    (Finset.Subset.trans (Finset.subset_of_eq (setOn_whole _ _)) (Finset.subset_of_eq (rect_set hoff' inb')))) $$ Hr'; iintro Hr
  iapply (out_load c (ks s 3 c) 256 s hoff (OL X Wo v c)) $$ Ho; iintro Ho
  iapply (out_store c (ks s 3 c) 256 s hoff (OL X Wo v c) (OL X Wo v' c)
    (fun i => (OL_in X Wo c (s := s) (j := 2) hv hv' rfl i).trans (by rw [hpay, rsb_rd_2 X Wo c s hoff' inb' i]; rfl))
    (fun i hi => OL_out X Wo c (s := s) (j := 2) hv hv' hne i hi)) $$ Ho; iintro Ho
  iapply HK
  isplitl [Ho]; · iexact Ho
  iapply (show (ptOn c cc0_scratch4 (RB 256 0 256 s) (RSBc X Wo 2 c) : sProp 𝕄) ⊢ rsbAt X Wo 2 s c from .rfl) $$ Hr

theorem rsb_rd_3 (s : Fin 2) {off : Fin 2 → ℕ} (hoff : off = ![0, 512 * s.val])
    (inb : ∀ a, off a + S128x512.size a ≤ S128x1024.size a) (i : S128x512.Idx) :
    (Memref.whole cc0_scratch5).view.readAt (Elt F) (Rect.unit (s := S128x1024) off S128x512.size inb).toLoadRect (RSBc X Wo 3 c) i
      = tr (O X Wo 3 (pr s 3 c) (at2 (ks s 4 c + (i 0).val) (512 * s.val + (i 1).val))) := by
  subst hoff
  refine (readAt_unit_apply cc0_scratch5 _ _ inb (RSBc X Wo 3 c) i).trans ?_
  have h1 := ValueIdx.idx2_lt1 i
  have hh : ∀ p : (⟨2, ![128, 1024]⟩ : Shape).Idx, (p 0).val = 0 + (i 0).val → (p 1).val = 512 * s.val + (i 1).val →
      RSBc X Wo 3 c p = tr (O X Wo 3 (pr s 3 c) (at2 (ks s 4 c + (i 0).val) (512 * s.val + (i 1).val))) := by
    intro p hp0 hp1
    have e : half p = s := Fin.ext (by show (p 1).val / 512 = s.val; omega)
    unfold RSBc
    rw [e, hp0, hp1, Nat.zero_add]
    rfl
  exact hh _ rfl rfl

/-- Reduction step 3 on the kept rows of half `s`. -/
theorem acc_3 {α : Type} {Q : α → sProp 𝕄} (s : Fin 2) (v v' : Fin 2 → ℕ) (hv : v s = 3) (hv' : v' s = 4) (hne : ∀ s', s' ≠ s → v' s' = v s')
    {off off' : Fin 2 → ℕ} (hoff : off = ![ks s 4 c, 512 * s.val]) (hoff' : off' = ![0, 512 * s.val])
    {inb : ∀ a, off a + S128x512.size a ≤ S2048x1024.size a} {inb' : ∀ a, off' a + S128x512.size a ≤ S128x1024.size a} {hl1 hl2 hl3 hx hm}
    {pay : Vec F S128x512 .f32 → Vec F S128x512 .bf16 → Vec F S128x512 .f32} (hpay : ∀ x y i, pay x y i = FloatOps.addf (x i) (ex (y i)))
    {kk : PUnit → Prog (TpuEff nD τ sig (Elt F) Λ₀ .tc) α} :
    iprop(pt c cc0_stg5_0 (OL X Wo v c) ∗ dmaPay X Wo 1 3 s c)
      ⊢ iprop(((pt c cc0_stg5_0 (OL X Wo v' c) ∗ rsbAt X Wo 3 s c) -∗ wp frame (wpE (defs₀ (F := F)) 𝒱₀ c none) Set.univ (kk ⟨⟩) Q)
      -∗ wp frame (wpE (defs₀ (F := F)) 𝒱₀ c none) Set.univ
        (Prog.lift (.load (Memref.whole cc0_stg5_0) (Rect.unit (s := S2048x1024) off S128x512.size inb).toLoadRect hl1) >>= fun x =>
          Prog.lift (.load (Memref.whole cc0_scratch5) (Rect.unit (s := S128x1024) off' S128x512.size inb').toLoadRect hl2) >>= fun y =>
          Prog.lift (.load (Memref.whole cc0_stg5_0) (Rect.unit (s := S2048x1024) off S128x512.size inb).toLoadRect hl3) >>= fun _ =>
          Prog.lift (.store (Memref.whole cc0_stg5_0) (Rect.unit (s := S2048x1024) off S128x512.size inb) (pay x y) Finset.univ hx hm) >>= kk) Q) := by
  iintro ⟨Ho, Hr⟩ HK
  iapply (out_load c (ks s 4 c) 128 s hoff (OL X Wo v c)) $$ Ho; iintro Ho
  rw [Prog.bind_lift]
  ihave Hr' := (show (dmaPay X Wo 1 3 s c : sProp 𝕄) ⊢ ptOn c cc0_scratch5 (RB 128 0 128 s) (RSBc X Wo 3 c) from .rfl) $$ Hr
  iapply (wp_load 𝒱₀ (c : Thread nD τ) none Set.univ (m := Memref.whole cc0_scratch5) (S := RB 128 0 128 s)
    (Finset.Subset.trans (Finset.subset_of_eq (setOn_whole _ _)) (Finset.subset_of_eq (rect_set hoff' inb')))) $$ Hr'; iintro Hr
  iapply (out_load c (ks s 4 c) 128 s hoff (OL X Wo v c)) $$ Ho; iintro Ho
  iapply (out_store c (ks s 4 c) 128 s hoff (OL X Wo v c) (OL X Wo v' c)
    (fun i => (OL_in X Wo c (s := s) (j := 3) hv hv' rfl i).trans (by rw [hpay, rsb_rd_3 X Wo c s hoff' inb' i]; rfl))
    (fun i hi => OL_out X Wo c (s := s) (j := 3) hv hv' hne i hi)) $$ Ho; iintro Ho
  iapply HK
  isplitl [Ho]; · iexact Ho
  iapply (show (ptOn c cc0_scratch5 (RB 128 0 128 s) (RSBc X Wo 3 c) : sProp 𝕄) ⊢ rsbAt X Wo 3 s c from .rfl) $$ Hr

/-! ## The send buffer's preparation -/

theorem len_le (j : Fin 4) : len j ≤ 1024 := by revert j; decide

/-- The rows a device gives away at step `j`, rounded, into the send buffer. -/
theorem prep {α : Type} {Q : α → sProp 𝕄} (s : Fin 2) (j : Fin 4) (l : ℕ) (hl : l = len j) (f : Vec F S2048x1024 .f32)
    (hf : ∀ i : (⟨2, ![l, 512]⟩ : Shape).Idx, f (at2 (ks s (j.val + 1) (pr s j c) + (i 0).val) (512 * s.val + (i 1).val))
      = O X Wo j.val c (at2 (ks s (j.val + 1) (pr s j c) + (i 0).val) (512 * s.val + (i 1).val)))
    {off off' : Fin 2 → ℕ} (hoff : off = ![ks s (j.val + 1) (pr s j c), 512 * s.val]) (hoff' : off' = ![0, 512 * s.val])
    {inb : ∀ a, off a + (⟨2, ![l, 512]⟩ : Shape).size a ≤ S2048x1024.size a} {inb' : ∀ a, off' a + (⟨2, ![l, 512]⟩ : Shape).size a ≤ S1024x1024.size a} {hl1 hl2 hx hm}
    {pay : Vec F (⟨2, ![l, 512]⟩ : Shape) .f32 → Vec F (⟨2, ![l, 512]⟩ : Shape) .bf16} (hpay : ∀ x i, pay x i = tr (x i))
    {kk : PUnit → Prog (TpuEff nD τ sig (Elt F) Λ₀ .tc) α} :
    iprop(pt c cc0_stg5_0 f ∗ sbAny 0 1024 s c)
      ⊢ iprop(((pt c cc0_stg5_0 f ∗ ptOn c cc0_scratch1 (RB 1024 0 l s) (SBc X Wo s j c) ∗ sbAny l (1024 - l) s c)
          -∗ wp frame (wpE (defs₀ (F := F)) 𝒱₀ c none) Set.univ (kk ⟨⟩) Q)
      -∗ wp frame (wpE (defs₀ (F := F)) 𝒱₀ c none) Set.univ
        (Prog.lift (.load (Memref.whole cc0_stg5_0) (Rect.unit (s := S2048x1024) off (⟨2, ![l, 512]⟩ : Shape).size inb).toLoadRect hl1) >>= fun x =>
          Prog.lift (.load (Memref.whole cc0_scratch1) (Rect.unit (s := S1024x1024) off' (⟨2, ![l, 512]⟩ : Shape).size inb').toLoadRect hl2) >>= fun _ =>
          Prog.lift (.store (Memref.whole cc0_scratch1) (Rect.unit (s := S1024x1024) off' (⟨2, ![l, 512]⟩ : Shape).size inb') (pay x) Finset.univ hx hm) >>= kk) Q) := by
  have hle : l ≤ 1024 := hl ▸ len_le j
  have hset : (Rect.unit (s := S1024x1024) off' (⟨2, ![l, 512]⟩ : Shape).size inb').set = RB 1024 0 l s := rect_set hoff' inb'
  have hsub : RB 1024 0 l s ⊆ RB 1024 0 1024 s := fun i hi => by
    have := mem_RB.mp hi; exact mem_RB.mpr ⟨this.1, by omega, this.2.2⟩
  have hun : RB 1024 0 1024 s = RB 1024 0 l s ∪ RB 1024 l (1024 - l) s := by rw [RB_union (by omega), Nat.add_sub_of_le hle]
  unfold sbAny
  iintro ⟨Ho, %g, Hs⟩ HK
  iapply (out_load c (ks s (j.val + 1) (pr s j c)) l s hoff f) $$ Ho; iintro Ho
  rw [Prog.bind_lift]
  iapply (wp_load 𝒱₀ (c : Thread nD τ) none Set.univ (m := Memref.whole cc0_scratch1) (S := RB 1024 0 1024 s)
    (Finset.Subset.trans (Finset.subset_of_eq ((setOn_whole _ _).trans hset)) hsub)) $$ Hs; iintro Hs
  rw [Prog.bind_lift]
  iapply (wp_store 𝒱₀ (c : Thread nD τ) none Set.univ (m := Memref.whole cc0_scratch1) (r := Rect.unit (s := S1024x1024) off' (⟨2, ![l, 512]⟩ : Shape).size inb')
    (S := RB 1024 0 1024 s) (f := g)
    (Finset.Subset.trans (Finset.subset_of_eq ((View.set_slice_whole _ _).trans hset)) hsub)) $$ Hs; iintro Hs
  iapply HK
  isplitl [Ho]; · iexact Ho
  rw [hun]
  ihave Hs' := (ptOn_union c (b := cc0_scratch1) (RB_disjoint (by omega)) _).1 $$ Hs
  icases Hs' with ⟨H1, H2⟩
  isplitl [H1]
  · have e : (ptOn c cc0_scratch1 (RB 1024 0 l s) (((Memref.whole cc0_scratch1).access (Rect.unit (s := S1024x1024) off' (⟨2, ![l, 512]⟩ : Shape).size inb')).write (Elt F) g
        (pay (rdv (ks s (j.val + 1) (pr s j c)) l s f)) Finset.univ) : sProp 𝕄) = ptOn c cc0_scratch1 (RB 1024 0 l s) (SBc X Wo s j c) := by
      refine pointsTo_congr fun i hi => ?_
      refine (write_unit_apply cc0_scratch1 off' (⟨2, ![l, 512]⟩ : Shape).size inb' g _ i).trans ?_
      refine (dif_pos (in_rect hoff' hi)).trans ?_
      refine (hpay _ _).trans ?_
      unfold SBc
      have hf' : ∀ i, rdv (ks s (j.val + 1) (pr s j c)) l s f i = _ := hf
      refine congrArg tr (Eq.trans (hf' _) (congrArg (O X Wo j.val c) ?_))
      have hr := mem_RB.mp hi
      have h1 := ValueIdx.idx2_lt1 i
      subst hoff'
      show at2 (_ + ((i 0).val - 0)) (512 * s.val + ((i 1).val - 512 * s.val)) = _
      congr 1
      omega
    rw [← e]; iexact H1
  · iexists _; iexact H2

/-- What the preparation needs, once the reduction has begun. -/
theorem OL_rows {v : Fin 2 → ℕ} {s : Fin 2} {j : ℕ} (hv : v s = j) (a : ℕ) {l : ℕ} (i : (⟨2, ![l, 512]⟩ : Shape).Idx) :
    OL X Wo v c (at2 (a + (i 0).val) (512 * s.val + (i 1).val)) = O X Wo j c (at2 (a + (i 0).val) (512 * s.val + (i 1).val)) := by
  have h1 := ValueIdx.idx2_lt1 i
  unfold OL
  rw [half_cell h1, hv]

/-! ## The gathering buffer's own rows -/

/-- The finished rows of half `s`, rounded, into the gathering buffer. -/
theorem ag_own {α : Type} {Q : α → sProp 𝕄} (s : Fin 2)
    {off off' : Fin 2 → ℕ} (hoff : off = ![ks s 4 c, 512 * s.val]) (hoff' : off' = ![ks s 4 c, 512 * s.val])
    {inb : ∀ a, off a + S128x512.size a ≤ S2048x1024.size a} {inb' : ∀ a, off' a + S128x512.size a ≤ S2048x1024.size a} {hl1 hl2 hx hm}
    {pay : Vec F S128x512 .f32 → Vec F S128x512 .bf16} (hpay : ∀ x i, pay x i = tr (x i))
    {kk : PUnit → Prog (TpuEff nD τ sig (Elt F) Λ₀ .tc) α} :
    iprop(pt c cc0_stg5_0 (OL X Wo ![4, 4] c) ∗ agAny (ks s 4 c) 128 s c)
      ⊢ iprop(((pt c cc0_stg5_0 (OL X Wo ![4, 4] c) ∗ agAt X Wo (ks s 4 c) 128 s c)
          -∗ wp frame (wpE (defs₀ (F := F)) 𝒱₀ c none) Set.univ (kk ⟨⟩) Q)
      -∗ wp frame (wpE (defs₀ (F := F)) 𝒱₀ c none) Set.univ
        (Prog.lift (.load (Memref.whole cc0_stg5_0) (Rect.unit (s := S2048x1024) off S128x512.size inb).toLoadRect hl1) >>= fun x =>
          Prog.lift (.load (Memref.whole cc0_scratch6) (Rect.unit (s := S2048x1024) off' S128x512.size inb').toLoadRect hl2) >>= fun _ =>
          Prog.lift (.store (Memref.whole cc0_scratch6) (Rect.unit (s := S2048x1024) off' S128x512.size inb') (pay x) Finset.univ hx hm) >>= kk) Q) := by
  have hset : (Rect.unit (s := S2048x1024) off' S128x512.size inb').set = RB 2048 (ks s 4 c) 128 s := rect_set hoff' inb'
  unfold agAny
  iintro ⟨Ho, %g, Hs⟩ HK
  iapply (out_load c (ks s 4 c) 128 s hoff (OL X Wo ![4, 4] c)) $$ Ho; iintro Ho
  rw [Prog.bind_lift]
  iapply (wp_load 𝒱₀ (c : Thread nD τ) none Set.univ (m := Memref.whole cc0_scratch6) (S := RB 2048 (ks s 4 c) 128 s)
    (Finset.subset_of_eq ((setOn_whole _ _).trans hset))) $$ Hs; iintro Hs
  rw [Prog.bind_lift]
  iapply (wp_store 𝒱₀ (c : Thread nD τ) none Set.univ (m := Memref.whole cc0_scratch6) (r := Rect.unit (s := S2048x1024) off' S128x512.size inb')
    (S := RB 2048 (ks s 4 c) 128 s) (f := g)
    (Finset.subset_of_eq ((View.set_slice_whole _ _).trans hset))) $$ Hs; iintro Hs
  iapply HK
  isplitl [Ho]; · iexact Ho
  have e : (ptOn c cc0_scratch6 (RB 2048 (ks s 4 c) 128 s) (((Memref.whole cc0_scratch6).access (Rect.unit (s := S2048x1024) off' S128x512.size inb')).write (Elt F) g
      (pay (rdv (ks s 4 c) 128 s (OL X Wo ![4, 4] c))) Finset.univ) : sProp 𝕄) = agAt X Wo (ks s 4 c) 128 s c := by
    unfold agAt
    refine pointsTo_congr fun i hi => ?_
    refine (write_unit_apply cc0_scratch6 off' S128x512.size inb' g _ i).trans ?_
    refine (dif_pos (in_rect hoff' hi)).trans ?_
    refine (hpay _ _).trans ?_
    have hr := mem_RB.mp hi
    have h1 := ValueIdx.idx2_lt1 i
    have h0 := ValueIdx.idx2_lt0 i
    unfold AG
    rw [half_of_mem hi, own_of_mem hr.1 hr.2.1]
    refine congrArg tr ((rdv_at hoff' hi _ (fun _ => rfl) _).trans ?_)
    unfold OL
    rw [half_of_mem hi]
    match s with
    | 0 => rfl
    | 1 => rfl
  rw [← e]; iexact Hs

end Cert.KernelIdeal.Body
-- ==== Proof.KernelIdeal.Quads.lean ====
/-
  The four quadrants of a device's own product: the two it gives away are computed and sent first.
-/
module

public import proofs.«01_k».proof.Proof.KernelIdeal.OutBuf

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-! ## One quadrant -/

/-- The row block of half `s` a device gives away first. -/
def sbk (s : Fin 2) (c : Dev nD) : Fin 2 := if bitOf (bitIx s 0) c = 0 then 1 else 0

theorem ks_sbk (s : Fin 2) (c : Dev nD) : ks s 1 (pr s 0 c) = 1024 * (sbk s c).val := by revert s c; decide

/-- The output buffer where the quadrants `D` are done. -/
def outD (x : FVec F S2048x1024 .bf16) (w : Vec F S1024x1024 .bf16) (D : Fin 2 → Fin 2 → Prop) : sProp 𝕄 :=
  iprop(∃ f, ⌜∀ i, ∀ b : Fin 2, b.val = (i 0).val / 1024 → D b (half i) → f i = base x w i⌝ ∗ pt c cc0_stg5_0 f)

theorem base_at (x : FVec F S2048x1024 .bf16) (w : Vec F S1024x1024 .bf16) (rb s : Fin 2) (j : S1024x512.Idx) :
    base x w (at2 (1024 * rb.val + (j 0).val) (512 * s.val + (j 1).val)) = k0_pay89 (rowsOf x rb) (colsOf w s) j := by
  have h0 := ValueIdx.idx2_lt0 j
  have h1 := ValueIdx.idx2_lt1 j
  have hr : (at2 (1024 * rb.val + (j 0).val) (512 * s.val + (j 1).val) 0).val = 1024 * rb.val + (j 0).val := at2_row (by omega)
  have hc : (at2 (1024 * rb.val + (j 0).val) (512 * s.val + (j 1).val) 1).val = 512 * s.val + (j 1).val := at2_col (by omega)
  unfold base
  rw [half_cell h1]
  have e1 : (⟨(at2 (1024 * rb.val + (j 0).val) (512 * s.val + (j 1).val) 0).val / 1024, by have := ValueIdx.idx2_lt0 (at2 (1024 * rb.val + (j 0).val) (512 * s.val + (j 1).val)); omega⟩ : Fin 2) = rb :=
    Fin.ext (by show _ / 1024 = rb.val; rw [hr]; omega)
  rw [e1]
  congr 1
  funext a
  match a with
  | ⟨0, _⟩ => exact Fin.ext (by show (at2 _ _ 0).val % 1024 = (j 0).val; rw [hr]; omega)
  | ⟨1, _⟩ => exact Fin.ext (by show (at2 _ _ 1).val % 512 = (j 1).val; rw [hc]; omega)

theorem rows_rd (rb : Fin 2) {off : Fin 2 → ℕ} (hoff : off = ![1024 * rb.val, 0])
    (inb : ∀ a, off a + S1024x1024.size a ≤ S2048x1024.size a) (x : FVec F S2048x1024 .bf16) :
    (Memref.whole cc0_scratch0).view.readAt (Elt F) (Rect.unit (s := S2048x1024) off S1024x1024.size inb).toLoadRect x = rowsOf x rb := by
  subst hoff
  funext j
  refine (readAt_unit_apply cc0_scratch0 _ _ inb x j).trans ?_
  unfold rowsOf
  congr 1
  funext a
  match a with
  | ⟨0, _⟩ => rfl
  | ⟨1, _⟩ => exact Fin.ext (Nat.zero_add _)

theorem cols_rd (s : Fin 2) {off : Fin 2 → ℕ} (hoff : off = ![0, 512 * s.val])
    (inb : ∀ a, off a + S1024x512.size a ≤ S1024x1024.size a) (w : Vec F S1024x1024 .bf16) :
    (Memref.whole cc0_stg4_0).view.readAt (Elt F) (Rect.unit (s := S1024x1024) off S1024x512.size inb).toLoadRect w = colsOf w s := by
  subst hoff
  funext j
  refine (readAt_unit_apply cc0_stg4_0 _ _ inb w j).trans ?_
  unfold colsOf
  congr 1
  funext a
  match a with
  | ⟨0, _⟩ => exact Fin.ext (Nat.zero_add _)
  | ⟨1, _⟩ => rfl

/-- One quadrant of the product, written. -/
theorem quad {α : Type} {Q : α → sProp 𝕄} (x : FVec F S2048x1024 .bf16) (w : Vec F S1024x1024 .bf16) (rb s : Fin 2) (D D' : Fin 2 → Fin 2 → Prop)
    (hD : ∀ b t, D' b t → D b t ∨ (b = rb ∧ t = s))
    {off0 off1 off2 : Fin 2 → ℕ} (h0 : off0 = ![1024 * rb.val, 0]) (h1 : off1 = ![0, 512 * s.val]) (h2 : off2 = ![1024 * rb.val, 512 * s.val])
    {inb0 : ∀ a, off0 a + S1024x1024.size a ≤ S2048x1024.size a} {inb1 : ∀ a, off1 a + S1024x512.size a ≤ S1024x1024.size a}
    {inb2 : ∀ a, off2 a + S1024x512.size a ≤ S2048x1024.size a} {hl0 hl1 hl2 hx hm}
    {pay : Vec F S1024x1024 .bf16 → Vec F S1024x512 .bf16 → FVec F S1024x512 .f32} (hpay : pay (rowsOf x rb) (colsOf w s) = k0_pay89 (rowsOf x rb) (colsOf w s))
    {kk : PUnit → Prog (TpuEff nD τ sig (Elt F) Λ₀ .tc) α} :
    iprop(pt c cc0_scratch0 x ∗ pt c cc0_stg4_0 w ∗ outD c x w D)
      ⊢ iprop(((pt c cc0_scratch0 x ∗ pt c cc0_stg4_0 w ∗ outD c x w D') -∗ wp frame (wpE (defs₀ (F := F)) 𝒱₀ c none) Set.univ (kk ⟨⟩) Q)
      -∗ wp frame (wpE (defs₀ (F := F)) 𝒱₀ c none) Set.univ
        (Prog.lift (.load (Memref.whole cc0_scratch0) (Rect.unit (s := S2048x1024) off0 S1024x1024.size inb0).toLoadRect hl0) >>= fun u =>
          Prog.lift (.load (Memref.whole cc0_stg4_0) (Rect.unit (s := S1024x1024) off1 S1024x512.size inb1).toLoadRect hl1) >>= fun y =>
          Prog.lift (.load (Memref.whole cc0_stg5_0) (Rect.unit (s := S2048x1024) off2 S1024x512.size inb2).toLoadRect hl2) >>= fun _ =>
          Prog.lift (.store (Memref.whole cc0_stg5_0) (Rect.unit (s := S2048x1024) off2 S1024x512.size inb2) (pay u y) Finset.univ hx hm) >>= kk) Q) := by
  unfold outD
  iintro ⟨Hx, Hw, %f, %hf, Ho⟩ HK
  rw [Prog.bind_lift]
  iapply (wp_load 𝒱₀ (c : Thread nD τ) none Set.univ (m := Memref.whole cc0_scratch0) (Finset.subset_univ _)) $$ Hx; iintro Hx
  rw [rows_rd rb h0 inb0 x, Prog.bind_lift]
  iapply (wp_load 𝒱₀ (c : Thread nD τ) none Set.univ (m := Memref.whole cc0_stg4_0) (Finset.subset_univ _)) $$ Hw; iintro Hw
  rw [cols_rd s h1 inb1 w]
  iapply (out_load c (1024 * rb.val) 1024 s h2 f) $$ Ho; iintro Ho
  iapply (out_store c (1024 * rb.val) 1024 s h2 f (fun i => if i ∈ RB 2048 (1024 * rb.val) 1024 s then base x w i else f i)
    (fun j => by
      have j0 := ValueIdx.idx2_lt0 j
      have j1 := ValueIdx.idx2_lt1 j
      have hm : at2 (1024 * rb.val + (j 0).val) (512 * s.val + (j 1).val) ∈ RB 2048 (1024 * rb.val) 1024 s := by
        refine mem_RB.mpr ⟨?_, ?_, ?_⟩
        · rw [at2_row (by omega)]; omega
        · rw [at2_row (by omega)]; omega
        · rw [at2_col (by omega)]; omega
      refine (if_pos hm).trans ?_
      rw [hpay]
      exact base_at x w rb s j)
    (fun i hi => if_neg hi)) $$ Ho; iintro Ho
  iapply HK
  isplitl [Hx]; · iexact Hx
  isplitl [Hw]; · iexact Hw
  iexists (fun i => if i ∈ RB 2048 (1024 * rb.val) 1024 s then base x w i else f i)
  isplitr
  · ipureintro
    intro i b hb hd
    by_cases hi : i ∈ RB 2048 (1024 * rb.val) 1024 s
    · exact if_pos hi
    · refine (if_neg hi).trans ?_
      rcases hD _ _ hd with h | ⟨rfl, rfl⟩
      · exact hf i b hb h
      · exact absurd (mem_RB.mpr ⟨by omega, by omega, rfl⟩) hi
  · iexact Ho

/-! ## The first sends -/

/-- What a device holds for the first send of half `s`. -/
def first (s : Fin 2) (c : Dev nD) : sProp 𝕄 :=
  iprop(ready 0 1 0 s c ∗ reached ER (cell 1 0 s (pr s 0 c)) 0 ∗ rsbAny 0 s (pr s 0 c) ∗ sbAny 0 1024 s c)
/-- What it holds once sent. -/
def firstSent (s : Fin 2) (c : Dev nD) : sProp 𝕄 :=
  iprop(sentS 0 0 s c ∗ (atPos ER (cell 1 0 s c) 0 ∅ 0 ∗ cred (tallyAt (cell 1 0 s c) () (amt 1 0))) ∗ sbAny 1024 0 s c)

theorem qsend {α : Type} {Q : α → sProp 𝕄} (s : Fin 2) (rb : Fin 2) (hrb : sbk s c = rb) (k : ℕ) (D D' : Fin 2 → Fin 2 → Prop)
    (hD : ∀ b t, D' b t → D b t ∨ (b = rb ∧ t = s)) (hD' : D' rb s)
    {off0 off1 off2 off3 off4 off5 : Fin 2 → ℕ} (h0 : off0 = ![1024 * rb.val, 0]) (h1 : off1 = ![0, 512 * s.val]) (h2 : off2 = ![1024 * rb.val, 512 * s.val])
    {inb0 : ∀ a, off0 a + S1024x1024.size a ≤ S2048x1024.size a} {inb1 : ∀ a, off1 a + S1024x512.size a ≤ S1024x1024.size a}
    {inb2 : ∀ a, off2 a + S1024x512.size a ≤ S2048x1024.size a} {hl0 hl1 hl2 hx hm}
    {pay : Vec F S1024x1024 .bf16 → Vec F S1024x512 .bf16 → FVec F S1024x512 .f32} (hpay : pay (rowsOf (X c) rb) (colsOf (Wo c) s) = k0_pay89 (rowsOf (X c) rb) (colsOf (Wo c) s))
    (h3 : off3 = ![0, 512 * s.val]) (h4 : off4 = ![0, 512 * s.val]) (h5 : off5 = ![0, 512 * s.val])
    {inb3 : ∀ a, off3 a + S1024x512.size a ≤ S1024x1024.size a} {hl3 hl4 hx' hm'}
    {pay' : Vec F S1024x512 .f32 → Vec F S1024x512 .bf16} (hpay' : ∀ x i, pay' x i = tr (x i))
    {inb4 : ∀ a, off4 a + S1024x512.size a ≤ S1024x1024.size a} {inb5 : ∀ a, off5 a + S1024x512.size a ≤ S1024x1024.size a} {hs hs'}
    {cd : Dev nD} {sS sR : DmaSem sig} {hsc g1 g2 g3} {kk : PUnit → Prog (TpuEff nD τ sig (Elt F) Λ₀ .tc) α}
    (hS : sS = dsem 0 0 s) (hR : sR = dsem 1 0 s) (hcd : cd = pr s 0 c)
    (hdue : ((duePeer k c : Thread nD τ), dueSem k, dueAmt k) = ((peer 1 0 s c : Thread nD τ), .dma (dsem 1 0 s), amt 1 0)) :
    iprop(ctx0 X Wo K ∗ first s c ∗ ow c (k + 1) ∗ pt c cc0_scratch0 (X c) ∗ pt c cc0_stg4_0 (Wo c) ∗ outD c (X c) (Wo c) D)
      ⊢ iprop(((firstSent s c ∗ ow c k ∗ pt c cc0_scratch0 (X c) ∗ pt c cc0_stg4_0 (Wo c) ∗ outD c (X c) (Wo c) D')
          -∗ wp frame (wpE (defs₀ (F := F)) 𝒱₀ c none) Set.univ (kk ⟨⟩) Q)
      -∗ wp frame (wpE (defs₀ (F := F)) 𝒱₀ c none) Set.univ
        (Prog.lift (.load (Memref.whole cc0_scratch0) (Rect.unit (s := S2048x1024) off0 S1024x1024.size inb0).toLoadRect hl0) >>= fun u =>
          Prog.lift (.load (Memref.whole cc0_stg4_0) (Rect.unit (s := S1024x1024) off1 S1024x512.size inb1).toLoadRect hl1) >>= fun y =>
          Prog.lift (.load (Memref.whole cc0_stg5_0) (Rect.unit (s := S2048x1024) off2 S1024x512.size inb2).toLoadRect hl2) >>= fun _ =>
          Prog.lift (.store (Memref.whole cc0_stg5_0) (Rect.unit (s := S2048x1024) off2 S1024x512.size inb2) (pay u y) Finset.univ hx hm) >>= fun _ =>
          Prog.lift (.load (Memref.whole cc0_stg5_0) (Rect.unit (s := S2048x1024) off2 S1024x512.size inb2).toLoadRect hl3) >>= fun z =>
          Prog.lift (.load (Memref.whole cc0_scratch1) (Rect.unit (s := S1024x1024) off3 S1024x512.size inb3).toLoadRect hl4) >>= fun _ =>
          Prog.lift (.store (Memref.whole cc0_scratch1) (Rect.unit (s := S1024x1024) off3 S1024x512.size inb3) (pay' z) Finset.univ hx' hm') >>= fun _ =>
          Prog.lift (.enqueueDma ((Memref.whole cc0_scratch1).slice (Rect.unit (s := S1024x1024) off4 S1024x512.size inb4) hs)
            (.remote (Dev.tc cd : Thread nD τ) ((Memref.whole cc0_scratch2).slice (Rect.unit (s := S1024x1024) off5 S1024x512.size inb5) hs') (.dma sS) hsc) (.dma sR) g1 g2 g3) >>= kk) Q) := by
  unfold first firstSent
  iintro ⟨#HX, ⟨Hr, #HrR, Hb, Hs⟩, HO, Hx, Hw, Ho⟩ HK
  iapply (quad c (X c) (Wo c) rb s D D' hD h0 h1 h2 hpay) $$ [Hx Hw Ho]
  · isplitl [Hx]; · iexact Hx
    isplitl [Hw] <;> iassumption
  iintro ⟨Hx, Hw, Ho⟩
  unfold outD
  icases Ho with ⟨%f, %hf, Ho⟩
  have hks : ks s 1 (pr s 0 c) = 1024 * rb.val := by rw [ks_sbk, hrb]
  iapply (prep X Wo c s 0 1024 rfl f (fun i => by
      have j0 := ValueIdx.idx2_lt0 i
      have j1 := ValueIdx.idx2_lt1 i
      have hks' : ks s ((0 : Fin 4).val + 1) (pr s 0 c) = 1024 * rb.val := hks
      rw [hks']
      refine (hf _ rb ?_ ?_).trans rfl
      · rw [at2_row (by omega)]; omega
      · rw [half_cell j1]; exact hD') (h2.trans (by rw [← hks]; rfl)) h3 hpay') $$ [Ho Hs]
  · isplitl [Ho] <;> iassumption
  iintro ⟨Ho, Hs, Hs'⟩
  iapply (rs_send_0 X Wo K c s k h4 h5 hS hR hcd hdue) $$ [Hr Hb Hs HO]
  · isplitr; · iexact HX
    isplitl [Hr]; · iexact Hr
    isplitr; · iexact HrR
    isplitl [Hs]; · iexact Hs
    isplitl [Hb] <;> iassumption
  iintro ⟨Hsent, Hpos, HO⟩
  iapply HK
  isplitl [Hsent Hpos Hs']
  · isplitl [Hsent]; · iexact Hsent
    isplitl [Hpos] <;> iassumption
  isplitl [HO]; · iexact HO
  isplitl [Hx]; · iexact Hx
  isplitl [Hw]; · iexact Hw
  iexists f
  isplitr; · ipureintro; exact hf
  iexact Ho

end Cert.KernelIdeal.Body
-- ==== Proof.KernelIdeal.Pays.lean ====
/-
  What the body's payloads are, element by element, and which semaphores and dues its exchanges name.
-/
module

public import proofs.«01_k».proof.Proof.KernelIdeal.OutBuf

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

theorem pay81_eq (x : Vec F S1024x1024 .bf16) (w : Vec F S1024x512 .bf16) : k0_pay81 x w = k0_pay89 x w := by
  unfold k0_pay81 k0_pay89; exact rfl
theorem pay83_eq (x : Vec F S1024x1024 .bf16) (w : Vec F S1024x512 .bf16) : k0_pay83 x w = k0_pay89 x w := by
  unfold k0_pay83 k0_pay89; exact rfl
theorem pay85_eq (x : Vec F S1024x1024 .bf16) (w : Vec F S1024x512 .bf16) : k0_pay85 x w = k0_pay89 x w := by
  unfold k0_pay85 k0_pay89; exact rfl
theorem pay87_eq (x : Vec F S1024x1024 .bf16) (w : Vec F S1024x512 .bf16) : k0_pay87 x w = k0_pay89 x w := by
  unfold k0_pay87 k0_pay89; exact rfl
theorem pay90_eq (x : Vec F S1024x1024 .bf16) (w : Vec F S1024x512 .bf16) : k0_pay90 x w = k0_pay89 x w := by
  unfold k0_pay90 k0_pay89; exact rfl
theorem pay91_eq (x : Vec F S1024x1024 .bf16) (w : Vec F S1024x512 .bf16) : k0_pay91 x w = k0_pay89 x w := by
  unfold k0_pay91 k0_pay89; exact rfl
theorem pay92_eq (x : Vec F S1024x1024 .bf16) (w : Vec F S1024x512 .bf16) : k0_pay92 x w = k0_pay89 x w := by
  unfold k0_pay92 k0_pay89; exact rfl
theorem pay82_eq (x : Vec F S1024x512 .f32) (i : S1024x512.Idx) : k0_pay82 x i = tr (x i) := by
  unfold k0_pay82; rw [shapeCast_self, shapeCast_self]; exact rfl
theorem pay84_eq (x : Vec F S1024x512 .f32) (i : S1024x512.Idx) : k0_pay84 x i = tr (x i) := by
  unfold k0_pay84; rw [shapeCast_self, shapeCast_self]; exact rfl
theorem pay86_eq (x : Vec F S1024x512 .f32) (i : S1024x512.Idx) : k0_pay86 x i = tr (x i) := by
  unfold k0_pay86; rw [shapeCast_self, shapeCast_self]; exact rfl
theorem pay88_eq (x : Vec F S1024x512 .f32) (i : S1024x512.Idx) : k0_pay88 x i = tr (x i) := by
  unfold k0_pay88; rw [shapeCast_self, shapeCast_self]; exact rfl
theorem pay95_eq (x : Vec F S512x512 .f32) (i : S512x512.Idx) : k0_pay95 x i = tr (x i) := by
  unfold k0_pay95; rw [shapeCast_self, shapeCast_self]; exact rfl
theorem pay96_eq (x : Vec F S512x512 .f32) (i : S512x512.Idx) : k0_pay96 x i = tr (x i) := by
  unfold k0_pay96; rw [shapeCast_self, shapeCast_self]; exact rfl
theorem pay99_eq (x : Vec F S256x512 .f32) (i : S256x512.Idx) : k0_pay99 x i = tr (x i) := by
  unfold k0_pay99; rw [shapeCast_self, shapeCast_self]; exact rfl
theorem pay100_eq (x : Vec F S256x512 .f32) (i : S256x512.Idx) : k0_pay100 x i = tr (x i) := by
  unfold k0_pay100; rw [shapeCast_self, shapeCast_self]; exact rfl
theorem pay103_eq (x : Vec F S128x512 .f32) (i : S128x512.Idx) : k0_pay103 x i = tr (x i) := by
  unfold k0_pay103; rw [shapeCast_self, shapeCast_self]; exact rfl
theorem pay104_eq (x : Vec F S128x512 .f32) (i : S128x512.Idx) : k0_pay104 x i = tr (x i) := by
  unfold k0_pay104; rw [shapeCast_self, shapeCast_self]; exact rfl
theorem pay107_eq (x : Vec F S128x512 .f32) (i : S128x512.Idx) : k0_pay107 x i = tr (x i) := by
  unfold k0_pay107; rw [shapeCast_self, shapeCast_self]; exact rfl
theorem pay108_eq (x : Vec F S128x512 .f32) (i : S128x512.Idx) : k0_pay108 x i = tr (x i) := by
  unfold k0_pay108; rw [shapeCast_self, shapeCast_self]; exact rfl
theorem pay93_eq (x : Vec F S1024x512 .f32) (y : Vec F S1024x512 .bf16) (i : S1024x512.Idx) : k0_pay93 x y i = FloatOps.addf (x i) (ex (y i)) := by
  unfold k0_pay93; rw [shapeCast_self]; exact rfl
theorem pay94_eq (x : Vec F S1024x512 .f32) (y : Vec F S1024x512 .bf16) (i : S1024x512.Idx) : k0_pay94 x y i = FloatOps.addf (x i) (ex (y i)) := by
  unfold k0_pay94; rw [shapeCast_self]; exact rfl
theorem pay97_eq (x : Vec F S512x512 .f32) (y : Vec F S512x512 .bf16) (i : S512x512.Idx) : k0_pay97 x y i = FloatOps.addf (x i) (ex (y i)) := by
  unfold k0_pay97; rw [shapeCast_self]; exact rfl
theorem pay98_eq (x : Vec F S512x512 .f32) (y : Vec F S512x512 .bf16) (i : S512x512.Idx) : k0_pay98 x y i = FloatOps.addf (x i) (ex (y i)) := by
  unfold k0_pay98; rw [shapeCast_self]; exact rfl
theorem pay101_eq (x : Vec F S256x512 .f32) (y : Vec F S256x512 .bf16) (i : S256x512.Idx) : k0_pay101 x y i = FloatOps.addf (x i) (ex (y i)) := by
  unfold k0_pay101; rw [shapeCast_self]; exact rfl
theorem pay102_eq (x : Vec F S256x512 .f32) (y : Vec F S256x512 .bf16) (i : S256x512.Idx) : k0_pay102 x y i = FloatOps.addf (x i) (ex (y i)) := by
  unfold k0_pay102; rw [shapeCast_self]; exact rfl
theorem pay105_eq (x : Vec F S128x512 .f32) (y : Vec F S128x512 .bf16) (i : S128x512.Idx) : k0_pay105 x y i = FloatOps.addf (x i) (ex (y i)) := by
  unfold k0_pay105; rw [shapeCast_self]; exact rfl
theorem pay106_eq (x : Vec F S128x512 .f32) (y : Vec F S128x512 .bf16) (i : S128x512.Idx) : k0_pay106 x y i = FloatOps.addf (x i) (ex (y i)) := by
  unfold k0_pay106; rw [shapeCast_self]; exact rfl
theorem sem000 : ((cc0_scratch7.slice (Rect.unit (s := S4x2) ![0, 0] S1x1.size inb_S4x2_S1x1_0_0)).squeeze S_ squeezes_S1x1_S_).sem = dsem 0 0 0 := by decide
theorem sem001 : ((cc0_scratch7.slice (Rect.unit (s := S4x2) ![0, 1] S1x1.size inb_S4x2_S1x1_0_1)).squeeze S_ squeezes_S1x1_S_).sem = dsem 0 0 1 := by decide
theorem sem010 : ((cc0_scratch7.slice (Rect.unit (s := S4x2) ![1, 0] S1x1.size inb_S4x2_S1x1_1_0)).squeeze S_ squeezes_S1x1_S_).sem = dsem 0 1 0 := by decide
theorem sem011 : ((cc0_scratch7.slice (Rect.unit (s := S4x2) ![1, 1] S1x1.size inb_S4x2_S1x1_1_1)).squeeze S_ squeezes_S1x1_S_).sem = dsem 0 1 1 := by decide
theorem sem020 : ((cc0_scratch7.slice (Rect.unit (s := S4x2) ![2, 0] S1x1.size inb_S4x2_S1x1_2_0)).squeeze S_ squeezes_S1x1_S_).sem = dsem 0 2 0 := by decide
theorem sem021 : ((cc0_scratch7.slice (Rect.unit (s := S4x2) ![2, 1] S1x1.size inb_S4x2_S1x1_2_1)).squeeze S_ squeezes_S1x1_S_).sem = dsem 0 2 1 := by decide
theorem sem030 : ((cc0_scratch7.slice (Rect.unit (s := S4x2) ![3, 0] S1x1.size inb_S4x2_S1x1_3_0)).squeeze S_ squeezes_S1x1_S_).sem = dsem 0 3 0 := by decide
theorem sem031 : ((cc0_scratch7.slice (Rect.unit (s := S4x2) ![3, 1] S1x1.size inb_S4x2_S1x1_3_1)).squeeze S_ squeezes_S1x1_S_).sem = dsem 0 3 1 := by decide
theorem sem100 : ((cc0_scratch8.slice (Rect.unit (s := S4x2) ![0, 0] S1x1.size inb_S4x2_S1x1_0_0)).squeeze S_ squeezes_S1x1_S_).sem = dsem 1 0 0 := by decide
theorem sem101 : ((cc0_scratch8.slice (Rect.unit (s := S4x2) ![0, 1] S1x1.size inb_S4x2_S1x1_0_1)).squeeze S_ squeezes_S1x1_S_).sem = dsem 1 0 1 := by decide
theorem sem110 : ((cc0_scratch8.slice (Rect.unit (s := S4x2) ![1, 0] S1x1.size inb_S4x2_S1x1_1_0)).squeeze S_ squeezes_S1x1_S_).sem = dsem 1 1 0 := by decide
theorem sem111 : ((cc0_scratch8.slice (Rect.unit (s := S4x2) ![1, 1] S1x1.size inb_S4x2_S1x1_1_1)).squeeze S_ squeezes_S1x1_S_).sem = dsem 1 1 1 := by decide
theorem sem120 : ((cc0_scratch8.slice (Rect.unit (s := S4x2) ![2, 0] S1x1.size inb_S4x2_S1x1_2_0)).squeeze S_ squeezes_S1x1_S_).sem = dsem 1 2 0 := by decide
theorem sem121 : ((cc0_scratch8.slice (Rect.unit (s := S4x2) ![2, 1] S1x1.size inb_S4x2_S1x1_2_1)).squeeze S_ squeezes_S1x1_S_).sem = dsem 1 2 1 := by decide
theorem sem130 : ((cc0_scratch8.slice (Rect.unit (s := S4x2) ![3, 0] S1x1.size inb_S4x2_S1x1_3_0)).squeeze S_ squeezes_S1x1_S_).sem = dsem 1 3 0 := by decide
theorem sem131 : ((cc0_scratch8.slice (Rect.unit (s := S4x2) ![3, 1] S1x1.size inb_S4x2_S1x1_3_1)).squeeze S_ squeezes_S1x1_S_).sem = dsem 1 3 1 := by decide
theorem sem200 : ((cc0_scratch9.slice (Rect.unit (s := S4x2) ![0, 0] S1x1.size inb_S4x2_S1x1_0_0)).squeeze S_ squeezes_S1x1_S_).sem = dsem 2 0 0 := by decide
theorem sem201 : ((cc0_scratch9.slice (Rect.unit (s := S4x2) ![0, 1] S1x1.size inb_S4x2_S1x1_0_1)).squeeze S_ squeezes_S1x1_S_).sem = dsem 2 0 1 := by decide
theorem sem210 : ((cc0_scratch9.slice (Rect.unit (s := S4x2) ![1, 0] S1x1.size inb_S4x2_S1x1_1_0)).squeeze S_ squeezes_S1x1_S_).sem = dsem 2 1 0 := by decide
theorem sem211 : ((cc0_scratch9.slice (Rect.unit (s := S4x2) ![1, 1] S1x1.size inb_S4x2_S1x1_1_1)).squeeze S_ squeezes_S1x1_S_).sem = dsem 2 1 1 := by decide
theorem sem220 : ((cc0_scratch9.slice (Rect.unit (s := S4x2) ![2, 0] S1x1.size inb_S4x2_S1x1_2_0)).squeeze S_ squeezes_S1x1_S_).sem = dsem 2 2 0 := by decide
theorem sem221 : ((cc0_scratch9.slice (Rect.unit (s := S4x2) ![2, 1] S1x1.size inb_S4x2_S1x1_2_1)).squeeze S_ squeezes_S1x1_S_).sem = dsem 2 2 1 := by decide
theorem sem230 : ((cc0_scratch9.slice (Rect.unit (s := S4x2) ![3, 0] S1x1.size inb_S4x2_S1x1_3_0)).squeeze S_ squeezes_S1x1_S_).sem = dsem 2 3 0 := by decide
theorem sem231 : ((cc0_scratch9.slice (Rect.unit (s := S4x2) ![3, 1] S1x1.size inb_S4x2_S1x1_3_1)).squeeze S_ squeezes_S1x1_S_).sem = dsem 2 3 1 := by decide
theorem sem300 : ((cc0_scratch10.slice (Rect.unit (s := S4x2) ![0, 0] S1x1.size inb_S4x2_S1x1_0_0)).squeeze S_ squeezes_S1x1_S_).sem = dsem 3 0 0 := by decide
theorem sem301 : ((cc0_scratch10.slice (Rect.unit (s := S4x2) ![0, 1] S1x1.size inb_S4x2_S1x1_0_1)).squeeze S_ squeezes_S1x1_S_).sem = dsem 3 0 1 := by decide
theorem sem310 : ((cc0_scratch10.slice (Rect.unit (s := S4x2) ![1, 0] S1x1.size inb_S4x2_S1x1_1_0)).squeeze S_ squeezes_S1x1_S_).sem = dsem 3 1 0 := by decide
theorem sem311 : ((cc0_scratch10.slice (Rect.unit (s := S4x2) ![1, 1] S1x1.size inb_S4x2_S1x1_1_1)).squeeze S_ squeezes_S1x1_S_).sem = dsem 3 1 1 := by decide
theorem sem320 : ((cc0_scratch10.slice (Rect.unit (s := S4x2) ![2, 0] S1x1.size inb_S4x2_S1x1_2_0)).squeeze S_ squeezes_S1x1_S_).sem = dsem 3 2 0 := by decide
theorem sem321 : ((cc0_scratch10.slice (Rect.unit (s := S4x2) ![2, 1] S1x1.size inb_S4x2_S1x1_2_1)).squeeze S_ squeezes_S1x1_S_).sem = dsem 3 2 1 := by decide
theorem sem330 : ((cc0_scratch10.slice (Rect.unit (s := S4x2) ![3, 0] S1x1.size inb_S4x2_S1x1_3_0)).squeeze S_ squeezes_S1x1_S_).sem = dsem 3 3 0 := by decide
theorem sem331 : ((cc0_scratch10.slice (Rect.unit (s := S4x2) ![3, 1] S1x1.size inb_S4x2_S1x1_3_1)).squeeze S_ squeezes_S1x1_S_).sem = dsem 3 3 1 := by decide
theorem due100 (c : Dev nD) : ((duePeer 15 c : Thread nD τ), dueSem 15, dueAmt 15) = ((peer 1 0 0 c : Thread nD τ), .dma (dsem 1 0 0), amt 1 0) := rfl
theorem due101 (c : Dev nD) : ((duePeer 14 c : Thread nD τ), dueSem 14, dueAmt 14) = ((peer 1 0 1 c : Thread nD τ), .dma (dsem 1 0 1), amt 1 0) := rfl
theorem due110 (c : Dev nD) : ((duePeer 13 c : Thread nD τ), dueSem 13, dueAmt 13) = ((peer 1 1 0 c : Thread nD τ), .dma (dsem 1 1 0), amt 1 1) := rfl
theorem due111 (c : Dev nD) : ((duePeer 12 c : Thread nD τ), dueSem 12, dueAmt 12) = ((peer 1 1 1 c : Thread nD τ), .dma (dsem 1 1 1), amt 1 1) := rfl
theorem due120 (c : Dev nD) : ((duePeer 11 c : Thread nD τ), dueSem 11, dueAmt 11) = ((peer 1 2 0 c : Thread nD τ), .dma (dsem 1 2 0), amt 1 2) := rfl
theorem due121 (c : Dev nD) : ((duePeer 10 c : Thread nD τ), dueSem 10, dueAmt 10) = ((peer 1 2 1 c : Thread nD τ), .dma (dsem 1 2 1), amt 1 2) := rfl
theorem due130 (c : Dev nD) : ((duePeer 9 c : Thread nD τ), dueSem 9, dueAmt 9) = ((peer 1 3 0 c : Thread nD τ), .dma (dsem 1 3 0), amt 1 3) := rfl
theorem due131 (c : Dev nD) : ((duePeer 8 c : Thread nD τ), dueSem 8, dueAmt 8) = ((peer 1 3 1 c : Thread nD τ), .dma (dsem 1 3 1), amt 1 3) := rfl
theorem due300 (c : Dev nD) : ((duePeer 7 c : Thread nD τ), dueSem 7, dueAmt 7) = ((peer 3 0 0 c : Thread nD τ), .dma (dsem 3 0 0), amt 3 0) := rfl
theorem due301 (c : Dev nD) : ((duePeer 6 c : Thread nD τ), dueSem 6, dueAmt 6) = ((peer 3 0 1 c : Thread nD τ), .dma (dsem 3 0 1), amt 3 0) := rfl
theorem due310 (c : Dev nD) : ((duePeer 5 c : Thread nD τ), dueSem 5, dueAmt 5) = ((peer 3 1 0 c : Thread nD τ), .dma (dsem 3 1 0), amt 3 1) := rfl
theorem due311 (c : Dev nD) : ((duePeer 4 c : Thread nD τ), dueSem 4, dueAmt 4) = ((peer 3 1 1 c : Thread nD τ), .dma (dsem 3 1 1), amt 3 1) := rfl
theorem due320 (c : Dev nD) : ((duePeer 3 c : Thread nD τ), dueSem 3, dueAmt 3) = ((peer 3 2 0 c : Thread nD τ), .dma (dsem 3 2 0), amt 3 2) := rfl
theorem due321 (c : Dev nD) : ((duePeer 2 c : Thread nD τ), dueSem 2, dueAmt 2) = ((peer 3 2 1 c : Thread nD τ), .dma (dsem 3 2 1), amt 3 2) := rfl
theorem due330 (c : Dev nD) : ((duePeer 1 c : Thread nD τ), dueSem 1, dueAmt 1) = ((peer 3 3 0 c : Thread nD τ), .dma (dsem 3 3 0), amt 3 3) := rfl
theorem due331 (c : Dev nD) : ((duePeer 0 c : Thread nD τ), dueSem 0, dueAmt 0) = ((peer 3 3 1 c : Thread nD τ), .dma (dsem 3 3 1), amt 3 3) := rfl

end Cert.KernelIdeal.Body
-- ==== Proof.KernelIdeal.Part25.lean ====
/-
  The part of the body that computes the four quadrants and makes the first two sends.
-/
module

public import proofs.«01_k».proof.Proof.KernelIdeal.Quads
public import proofs.«01_k».proof.Proof.KernelIdeal.Pays

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-- The device's number as the body reads it. -/
abbrev nbW (c : Dev nD) : BitVec 32 := Scalar.remsi (Scalar.divsi (Dev.word c) 1#32) 16#32
abbrev b0W (c : Dev nD) : BitVec 32 := Scalar.andi (Scalar.shrsi (nbW c) 0#32) 1#32
abbrev b2W (c : Dev nD) : BitVec 32 := Scalar.andi (Scalar.shrsi (nbW c) 2#32) 1#32

theorem b0_zero (c : Dev nD) : Scalar.cmpi .ne (Scalar.extui (Scalar.cmpi .eq (b0W c) 0#32)) 0#32 = 1#1 ↔ bitOf 0 c = 0 := by revert c; decide
theorem b0_one (c : Dev nD) : Scalar.cmpi .ne (Scalar.extui (Scalar.cmpi .eq (b0W c) 1#32)) 0#32 = 1#1 ↔ ¬ bitOf 0 c = 0 := by revert c; decide
theorem b2_zero (c : Dev nD) : Scalar.cmpi .ne (Scalar.extui (Scalar.cmpi .eq (b2W c) 0#32)) 0#32 = 1#1 ↔ bitOf 2 c = 0 := by revert c; decide
theorem b2_one (c : Dev nD) : Scalar.cmpi .ne (Scalar.extui (Scalar.cmpi .eq (b2W c) 1#32)) 0#32 = 1#1 ↔ ¬ bitOf 2 c = 0 := by revert c; decide

/-- Nothing done; then the two given away, first half then second; then the kept one of the first half. -/
def D0 (_ _ : Fin 2) : Prop := False
def D1 (c : Dev nD) (b t : Fin 2) : Prop := t = 0 ∧ b = sbk 0 c
def D2 (c : Dev nD) (b t : Fin 2) : Prop := b = sbk t c
def D3 (c : Dev nD) (b t : Fin 2) : Prop := b = sbk t c ∨ t = 0
def D4 (_ _ : Fin 2) : Prop := True

theorem stepD1 (rb : Fin 2) (e : sbk 0 c = rb) : ∀ b t, D1 c b t → D0 b t ∨ (b = rb ∧ t = 0) := fun _ _ h => .inr ⟨h.2.trans e, h.1⟩
theorem stepD2 (rb : Fin 2) (h : sbk 1 c = rb) : ∀ b t, D2 c b t → D1 c b t ∨ (b = rb ∧ t = 1) := by unfold D2 D1; revert h; revert c rb; decide
theorem stepD3 (rb : Fin 2) (h : sbk 0 c ≠ rb) : ∀ b t, D3 c b t → D2 c b t ∨ (b = rb ∧ t = 0) := by unfold D3 D2; revert h; revert c rb; decide
theorem stepD4 (rb : Fin 2) (h : sbk 1 c ≠ rb) : ∀ b t, D4 b t → D3 c b t ∨ (b = rb ∧ t = 1) := by unfold D4 D3; revert h; revert c rb; decide

theorem outD_none (x : FVec F S2048x1024 .bf16) (w : Vec F S1024x1024 .bf16) : iprop(∃ f, pt c cc0_stg5_0 f) ⊢ outD c x w D0 := by
  unfold outD
  iintro ⟨%f, H⟩
  iexists f
  isplitr; · ipureintro; exact fun i b _ h => h.elim
  iexact H
theorem outD_all : outD c (X c) (Wo c) D4 ⊢ (pt c cc0_stg5_0 (OL X Wo ![0, 0] c) : sProp 𝕄) := by
  unfold outD
  iintro ⟨%f, %hf, H⟩
  have e : f = OL X Wo ![0, 0] c := by
    funext i
    have h0 := ValueIdx.idx2_lt0 i
    refine (hf i ⟨(i 0).val / 1024, by omega⟩ rfl trivial).trans ?_
    unfold OL
    generalize half i = t
    match t with
    | 0 => rfl
    | 1 => rfl
  rw [← e]; iexact H

set_option maxHeartbeats 1000000 in
/-- Part 25: the quadrants. -/
theorem b_part25 {Kt : _ → sProp 𝕄} :
    iprop(ctx0 X Wo K ∗ first 0 c ∗ first 1 c ∗ ow c 16 ∗ pt c cc0_scratch0 (X c) ∗ pt c cc0_stg4_0 (Wo c) ∗ outD c (X c) (Wo c) D0
        ∗ ((firstSent 0 c ∗ firstSent 1 c ∗ ow c 14 ∗ pt c cc0_scratch0 (X c) ∗ pt c cc0_stg4_0 (Wo c) ∗ pt c cc0_stg5_0 (OL X Wo ![0, 0] c))
          -∗ Kt ⟨Scalar.muli (b0W c) 1024#32, Scalar.muli (b2W c) 1024#32, Scalar.xori (nbW c) 1#32⟩))
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (nbW c) (b0W c) (b2W c)) Kt := by
  rw [k0_part25_eq_skeleton]; unfold k0_part25_skel
  dsimp only
  by_cases h0 : bitOf 0 c = 0 <;> by_cases h2 : bitOf 2 c = 0
  · have e0 : sbk 0 c = 1 := (by unfold sbk; exact if_pos h0)
    have e1 : sbk 1 c = 1 := (by unfold sbk; exact if_pos h2)
    rw [dif_pos ((cond1_iff c).mpr h0), dif_neg (fun hh => (cond2_iff c).mp hh h0), dif_pos ((cond3_iff c).mpr h2), dif_neg (fun hh => (cond4_iff c).mp hh h2), dif_pos ((b0_zero c).mpr h0), dif_neg (fun hh => (b0_one c).mp hh h0), dif_pos ((b2_zero c).mpr h2), dif_neg (fun hh => (b2_one c).mp hh h2)]
    iintro ⟨#HX, Hf0, Hf1, HO, Hx, Hw, Ho, HK⟩
    iapply (qsend X Wo K c 0 1 e0 15 D0 (D1 c) (stepD1 c _ e0) ⟨rfl, e0.symm⟩ rfl rfl rfl (pay81_eq _ _) rfl rfl rfl (pay82_eq) sem000 sem100 (dev5_eq c ((cond1_iff c).mpr h0)) (due100 c)) $$ [Hf0 HO Hx Hw Ho]
    · isplitr; · iexact HX
      isplitl [Hf0]; · iexact Hf0
      isplitl [HO]; · iexact HO
      isplitl [Hx]; · iexact Hx
      isplitl [Hw] <;> iassumption
    iintro ⟨Hs0, HO, Hx, Hw, Ho⟩
    iapply (qsend X Wo K c 1 1 e1 14 (D1 c) (D2 c) (stepD2 c _ e1) e1.symm rfl rfl rfl (pay85_eq _ _) rfl rfl rfl (pay86_eq) sem001 sem101 (dev7_eq c ((cond3_iff c).mpr h2)) (due101 c)) $$ [Hf1 HO Hx Hw Ho]
    · isplitr; · iexact HX
      isplitl [Hf1]; · iexact Hf1
      isplitl [HO]; · iexact HO
      isplitl [Hx]; · iexact Hx
      isplitl [Hw] <;> iassumption
    iintro ⟨Hs1, HO, Hx, Hw, Ho⟩
    iapply (quad c (X c) (Wo c) 0 0 (D2 c) (D3 c) (stepD3 c 0 (by rw [e0]; decide)) rfl rfl rfl rfl) $$ [Hx Hw Ho]
    · isplitl [Hx]; · iexact Hx
      isplitl [Hw] <;> iassumption
    iintro ⟨Hx, Hw, Ho⟩
    iapply (quad c (X c) (Wo c) 0 1 (D3 c) D4 (stepD4 c 0 (by rw [e1]; decide)) rfl rfl rfl (pay91_eq _ _)) $$ [Hx Hw Ho]
    · isplitl [Hx]; · iexact Hx
      isplitl [Hw] <;> iassumption
    iintro ⟨Hx, Hw, Ho⟩
    ihave Ho := (outD_all X Wo c) $$ Ho
    iapply (wp_pure_intro c)
    iapply HK
    isplitl [Hs0]; · iexact Hs0
    isplitl [Hs1]; · iexact Hs1
    isplitl [HO]; · iexact HO
    isplitl [Hx]; · iexact Hx
    isplitl [Hw] <;> iassumption
  · have e0 : sbk 0 c = 1 := (by unfold sbk; exact if_pos h0)
    have e1 : sbk 1 c = 0 := (by unfold sbk; exact if_neg h2)
    rw [dif_pos ((cond1_iff c).mpr h0), dif_neg (fun hh => (cond2_iff c).mp hh h0), dif_neg (fun hh => h2 ((cond3_iff c).mp hh)), dif_pos ((cond4_iff c).mpr h2), dif_pos ((b0_zero c).mpr h0), dif_neg (fun hh => (b0_one c).mp hh h0), dif_neg (fun hh => h2 ((b2_zero c).mp hh)), dif_pos ((b2_one c).mpr h2)]
    iintro ⟨#HX, Hf0, Hf1, HO, Hx, Hw, Ho, HK⟩
    iapply (qsend X Wo K c 0 1 e0 15 D0 (D1 c) (stepD1 c _ e0) ⟨rfl, e0.symm⟩ rfl rfl rfl (pay81_eq _ _) rfl rfl rfl (pay82_eq) sem000 sem100 (dev5_eq c ((cond1_iff c).mpr h0)) (due100 c)) $$ [Hf0 HO Hx Hw Ho]
    · isplitr; · iexact HX
      isplitl [Hf0]; · iexact Hf0
      isplitl [HO]; · iexact HO
      isplitl [Hx]; · iexact Hx
      isplitl [Hw] <;> iassumption
    iintro ⟨Hs0, HO, Hx, Hw, Ho⟩
    iapply (qsend X Wo K c 1 0 e1 14 (D1 c) (D2 c) (stepD2 c _ e1) e1.symm rfl rfl rfl (pay87_eq _ _) rfl rfl rfl (pay88_eq) sem001 sem101 (dev8_eq c ((cond4_iff c).mpr h2)) (due101 c)) $$ [Hf1 HO Hx Hw Ho]
    · isplitr; · iexact HX
      isplitl [Hf1]; · iexact Hf1
      isplitl [HO]; · iexact HO
      isplitl [Hx]; · iexact Hx
      isplitl [Hw] <;> iassumption
    iintro ⟨Hs1, HO, Hx, Hw, Ho⟩
    iapply (quad c (X c) (Wo c) 0 0 (D2 c) (D3 c) (stepD3 c 0 (by rw [e0]; decide)) rfl rfl rfl rfl) $$ [Hx Hw Ho]
    · isplitl [Hx]; · iexact Hx
      isplitl [Hw] <;> iassumption
    iintro ⟨Hx, Hw, Ho⟩
    iapply (quad c (X c) (Wo c) 1 1 (D3 c) D4 (stepD4 c 1 (by rw [e1]; decide)) rfl rfl rfl (pay92_eq _ _)) $$ [Hx Hw Ho]
    · isplitl [Hx]; · iexact Hx
      isplitl [Hw] <;> iassumption
    iintro ⟨Hx, Hw, Ho⟩
    ihave Ho := (outD_all X Wo c) $$ Ho
    iapply (wp_pure_intro c)
    iapply HK
    isplitl [Hs0]; · iexact Hs0
    isplitl [Hs1]; · iexact Hs1
    isplitl [HO]; · iexact HO
    isplitl [Hx]; · iexact Hx
    isplitl [Hw] <;> iassumption
  · have e0 : sbk 0 c = 0 := (by unfold sbk; exact if_neg h0)
    have e1 : sbk 1 c = 1 := (by unfold sbk; exact if_pos h2)
    rw [dif_neg (fun hh => h0 ((cond1_iff c).mp hh)), dif_pos ((cond2_iff c).mpr h0), dif_pos ((cond3_iff c).mpr h2), dif_neg (fun hh => (cond4_iff c).mp hh h2), dif_neg (fun hh => h0 ((b0_zero c).mp hh)), dif_pos ((b0_one c).mpr h0), dif_pos ((b2_zero c).mpr h2), dif_neg (fun hh => (b2_one c).mp hh h2)]
    iintro ⟨#HX, Hf0, Hf1, HO, Hx, Hw, Ho, HK⟩
    iapply (qsend X Wo K c 0 0 e0 15 D0 (D1 c) (stepD1 c _ e0) ⟨rfl, e0.symm⟩ rfl rfl rfl (pay83_eq _ _) rfl rfl rfl (pay84_eq) sem000 sem100 (dev6_eq c ((cond2_iff c).mpr h0)) (due100 c)) $$ [Hf0 HO Hx Hw Ho]
    · isplitr; · iexact HX
      isplitl [Hf0]; · iexact Hf0
      isplitl [HO]; · iexact HO
      isplitl [Hx]; · iexact Hx
      isplitl [Hw] <;> iassumption
    iintro ⟨Hs0, HO, Hx, Hw, Ho⟩
    iapply (qsend X Wo K c 1 1 e1 14 (D1 c) (D2 c) (stepD2 c _ e1) e1.symm rfl rfl rfl (pay85_eq _ _) rfl rfl rfl (pay86_eq) sem001 sem101 (dev7_eq c ((cond3_iff c).mpr h2)) (due101 c)) $$ [Hf1 HO Hx Hw Ho]
    · isplitr; · iexact HX
      isplitl [Hf1]; · iexact Hf1
      isplitl [HO]; · iexact HO
      isplitl [Hx]; · iexact Hx
      isplitl [Hw] <;> iassumption
    iintro ⟨Hs1, HO, Hx, Hw, Ho⟩
    iapply (quad c (X c) (Wo c) 1 0 (D2 c) (D3 c) (stepD3 c 1 (by rw [e0]; decide)) rfl rfl rfl (pay90_eq _ _)) $$ [Hx Hw Ho]
    · isplitl [Hx]; · iexact Hx
      isplitl [Hw] <;> iassumption
    iintro ⟨Hx, Hw, Ho⟩
    iapply (quad c (X c) (Wo c) 0 1 (D3 c) D4 (stepD4 c 0 (by rw [e1]; decide)) rfl rfl rfl (pay91_eq _ _)) $$ [Hx Hw Ho]
    · isplitl [Hx]; · iexact Hx
      isplitl [Hw] <;> iassumption
    iintro ⟨Hx, Hw, Ho⟩
    ihave Ho := (outD_all X Wo c) $$ Ho
    iapply (wp_pure_intro c)
    iapply HK
    isplitl [Hs0]; · iexact Hs0
    isplitl [Hs1]; · iexact Hs1
    isplitl [HO]; · iexact HO
    isplitl [Hx]; · iexact Hx
    isplitl [Hw] <;> iassumption
  · have e0 : sbk 0 c = 0 := (by unfold sbk; exact if_neg h0)
    have e1 : sbk 1 c = 0 := (by unfold sbk; exact if_neg h2)
    rw [dif_neg (fun hh => h0 ((cond1_iff c).mp hh)), dif_pos ((cond2_iff c).mpr h0), dif_neg (fun hh => h2 ((cond3_iff c).mp hh)), dif_pos ((cond4_iff c).mpr h2), dif_neg (fun hh => h0 ((b0_zero c).mp hh)), dif_pos ((b0_one c).mpr h0), dif_neg (fun hh => h2 ((b2_zero c).mp hh)), dif_pos ((b2_one c).mpr h2)]
    iintro ⟨#HX, Hf0, Hf1, HO, Hx, Hw, Ho, HK⟩
    iapply (qsend X Wo K c 0 0 e0 15 D0 (D1 c) (stepD1 c _ e0) ⟨rfl, e0.symm⟩ rfl rfl rfl (pay83_eq _ _) rfl rfl rfl (pay84_eq) sem000 sem100 (dev6_eq c ((cond2_iff c).mpr h0)) (due100 c)) $$ [Hf0 HO Hx Hw Ho]
    · isplitr; · iexact HX
      isplitl [Hf0]; · iexact Hf0
      isplitl [HO]; · iexact HO
      isplitl [Hx]; · iexact Hx
      isplitl [Hw] <;> iassumption
    iintro ⟨Hs0, HO, Hx, Hw, Ho⟩
    iapply (qsend X Wo K c 1 0 e1 14 (D1 c) (D2 c) (stepD2 c _ e1) e1.symm rfl rfl rfl (pay87_eq _ _) rfl rfl rfl (pay88_eq) sem001 sem101 (dev8_eq c ((cond4_iff c).mpr h2)) (due101 c)) $$ [Hf1 HO Hx Hw Ho]
    · isplitr; · iexact HX
      isplitl [Hf1]; · iexact Hf1
      isplitl [HO]; · iexact HO
      isplitl [Hx]; · iexact Hx
      isplitl [Hw] <;> iassumption
    iintro ⟨Hs1, HO, Hx, Hw, Ho⟩
    iapply (quad c (X c) (Wo c) 1 0 (D2 c) (D3 c) (stepD3 c 1 (by rw [e0]; decide)) rfl rfl rfl (pay90_eq _ _)) $$ [Hx Hw Ho]
    · isplitl [Hx]; · iexact Hx
      isplitl [Hw] <;> iassumption
    iintro ⟨Hx, Hw, Ho⟩
    iapply (quad c (X c) (Wo c) 1 1 (D3 c) D4 (stepD4 c 1 (by rw [e1]; decide)) rfl rfl rfl (pay92_eq _ _)) $$ [Hx Hw Ho]
    · isplitl [Hx]; · iexact Hx
      isplitl [Hw] <;> iassumption
    iintro ⟨Hx, Hw, Ho⟩
    ihave Ho := (outD_all X Wo c) $$ Ho
    iapply (wp_pure_intro c)
    iapply HK
    isplitl [Hs0]; · iexact Hs0
    isplitl [Hs1]; · iexact Hs1
    isplitl [HO]; · iexact HO
    isplitl [Hx]; · iexact Hx
    isplitl [Hw] <;> iassumption

end Cert.KernelIdeal.Body
-- ==== Proof.KernelIdeal.Part1.lean ====
/-
  The barrier: each device signals its four neighbours, handing each the buffers that neighbour will write, and waits for its own four.
-/
module

public import proofs.«01_k».proof.Proof.KernelIdeal.Part25

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-- What a device holds to signal its neighbour along bit `k`. -/
def sig1 (k : Fin 4) (c : Dev nD) : sProp 𝕄 :=
  iprop(dutyTok ER (barCell (px k c)) 0 k ∗ reached ER (barCell (px k c)) 0 ∗ barPay k (px k c))

theorem signal {α : Type} {Q : α → sProp 𝕄} (k : Fin 4) (i : ℕ) {dst : Dev nD} {sem : Sem sig}
    {kk : PUnit → Prog (TpuEff nD τ sig (Elt F) Λ₀ .tc) α} (hd : dst = px k c) (hs : sem = barS)
    (hdue : ((duePeer i c : Thread nD τ), dueSem i, dueAmt i) = ((px k c : Thread nD τ), .reg barS, 1)) :
    iprop(ctx0 X Wo K ∗ sig1 k c ∗ ow c (i + 1))
      ⊢ iprop((ow c i -∗ wp frame (wpE (defs₀ (F := F)) 𝒱₀ c none) Set.univ (kk ⟨⟩) Q)
        -∗ wp frame (wpE (defs₀ (F := F)) 𝒱₀ c none) Set.univ (semSignalWord dst sem 1#32 >>= kk) Q) := by
  subst hd hs
  unfold sig1 ow
  iintro ⟨#HX, ⟨Ht, #Hr, Hp⟩, ⟨%W, HO⟩⟩ HK
  have ew : (semSignalWord (px k c) barS 1#32 >>= kk : Prog (TpuEff nD τ sig (Elt F) Λ₀ .tc) α)
      = .op (.semSignal (px k c : Thread nD τ) barS ((1 : ℕ) : ℤ)) kk := rfl
  rw [ew]
  iapply (Rounds.wp_signal 𝒱₀ ER (talkRd X Wo) (c : Thread nD τ) none (dst := (px k c : Thread nD τ)) (sem := barS) (r := 0) (d := k) (κ := K (barCell (px k c)))
      (by rw [duties_bar]; exact Finset.mem_univ _) (amount_bar X Wo (px k c) k) () (owe c i)
      (by
        have e1 : ((duePeer i c : Thread nD τ)) = (px k c : Thread nD τ) := congrArg Prod.fst hdue
        have e2 : dueSem i = .reg barS := congrArg (fun x => x.2.1) hdue
        have e3 : dueAmt i = 1 := congrArg (fun x => x.2.2) hdue
        show owe c i + tallyAt ((duePeer i c : Thread nD τ), dueSem i) () (dueAmt i) = _
        rw [e1, e2, e3]) (W := W)) $$ [HO Ht Hp]
  · isplitr; · iapply (inv_at X Wo K (px k c) none); iexact HX
    isplitl [HO]; · iexact HO
    isplitl [Ht]; · iexact Ht
    isplitl [Hp]
    · rw [payload_bar]; iexact Hp
    · iexact Hr
  iintro HO
  iapply HK
  iexists W; iexact HO

theorem barrier {α : Type} {Q : α → sProp 𝕄} {sem : Sem sig}
    {kk : PUnit → Prog (TpuEff nD τ sig (Elt F) Λ₀ .tc) α} (hs : sem = barS) :
    iprop(ctx0 X Wo K ∗ cred (tallyAt (barCell c) () 4) ∗ atPos ER (barCell c) 0 ∅ 0 ∗ ow c 16)
      ⊢ iprop(((atPos ER (barCell c) 1 ∅ 0 ∗ (barPay 0 c ∗ barPay 1 c ∗ barPay 2 c ∗ barPay 3 c) ∗ ow c 16)
            -∗ wp frame (wpE (defs₀ (F := F)) 𝒱₀ c none) Set.univ (kk ⟨⟩) Q)
        -∗ wp frame (wpE (defs₀ (F := F)) 𝒱₀ c none) Set.univ (semWaitWord sem 4#32 >>= kk) Q) := by
  subst hs
  unfold ow
  iintro ⟨#HX, Hc, Hat, ⟨%W, HO⟩⟩ HK
  have ew : (semWaitWord barS 4#32 >>= kk : Prog (TpuEff nD τ sig (Elt F) Λ₀ .tc) α) = .op (.semWait barS ((4 : ℕ) : ℤ)) kk := rfl
  rw [ew]
  iapply (Rounds.wp_wait_rest_token 𝒱₀ ER (talkRd X Wo) (c : Thread nD τ) none (κ := K (barCell c))
      (wpE_semWait_eq 𝒱₀ (c : Thread nD τ) none Set.univ) (Set.mem_univ _) () (O := owe c 16) (W := W) (R := 0) (m := 0) (T := ∅)
      ((Nat.zero_add 4).trans (expect_bar X Wo c).symm)) $$ [Hc HO Hat]
  · isplitr; · iapply (inv_at X Wo K c none); iexact HX
    isplitl [Hc]; · iexact Hc
    isplitl [HO]; · iexact HO
    isplitr; · iapply (mayWait c (.reg barS) 16 (by decide)); iapply (lev_at X Wo K); iexact HX
    iexact Hat
  iintro ⟨HO, Hat, -, Hpay⟩
  ihave Hp := (Entails.of_eq (rest_bar X Wo c)) $$ Hpay
  iapply HK
  isplitl [Hat]; · iexact Hat
  isplitl [Hp]; · iexact Hp
  iexists _; iexact HO

/-- Reading a whole staged block. -/
theorem read0 (b : Ref sig .tc) (off : Fin b.ty.shape.rank → ℕ) (h : off = fun _ => 0) (inb) (f : b.ty.Contents (Elt F)) :
    (Memref.whole b).view.readAt (Elt F) (Rect.unit off b.ty.shape.size inb).toLoadRect f = f := by
  subst h
  funext j
  refine (readAt_unit_apply b _ _ inb f j).trans ?_
  congr 1
  funext a
  exact Fin.ext (Nat.zero_add _)

/-- Part 1: the barrier, and the queries. -/
theorem b_part1 (x : Vec F S2048x1024 .bf16) (wq : Vec F S1024x1024 .bf16) {Kt : _ → sProp 𝕄} :
    iprop(ctx0 X Wo K ∗ sig1 0 c ∗ sig1 1 c ∗ sig1 2 c ∗ sig1 3 c ∗ cred (tallyAt (barCell c) () 4) ∗ atPos ER (barCell c) 0 ∅ 0 ∗ ow c 20
        ∗ pt c cc0_stg0_0 x ∗ pt c cc0_stg1_0 wq
        ∗ ((atPos ER (barCell c) 1 ∅ 0 ∗ (barPay 0 c ∗ barPay 1 c ∗ barPay 2 c ∗ barPay 3 c) ∗ ow c 16 ∗ pt c cc0_stg0_0 x ∗ pt c cc0_stg1_0 wq)
          -∗ Kt ⟨c, nbW c, k0_pay2 x wq, k0_pay3⟩))
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt := by
  rw [k0_part1_eq_skeleton]; unfold k0_part1_skel
  rw [Prog.bind_lift, wp_deviceId]
  iintro ⟨#HX, H0, H1, H2, H3, Hc, Hat, HO, Hx, Hw, HK⟩
  iapply (signal X Wo K c 0 19 (dev1_eq c) rfl rfl) $$ [H0 HO]
  · isplitr; · iexact HX
    isplitl [H0] <;> iassumption
  iintro HO
  iapply (signal X Wo K c 1 18 (dev2_eq c) rfl rfl) $$ [H1 HO]
  · isplitr; · iexact HX
    isplitl [H1] <;> iassumption
  iintro HO
  iapply (signal X Wo K c 2 17 (dev3_eq c) rfl rfl) $$ [H2 HO]
  · isplitr; · iexact HX
    isplitl [H2] <;> iassumption
  iintro HO
  iapply (signal X Wo K c 3 16 (dev4_eq c) rfl rfl) $$ [H3 HO]
  · isplitr; · iexact HX
    isplitl [H3] <;> iassumption
  iintro HO
  iapply (barrier X Wo K c rfl) $$ [Hc Hat HO]
  · isplitr; · iexact HX
    isplitl [Hc]; · iexact Hc
    isplitl [Hat] <;> iassumption
  iintro ⟨Hat, Hp, HO⟩
  rw [Prog.bind_lift]
  iapply (wp_load 𝒱₀ (c : Thread nD τ) none Set.univ (m := Memref.whole cc0_stg0_0) (Finset.subset_univ _)) $$ Hx; iintro Hx
  rw [Prog.bind_lift]
  iapply (wp_load 𝒱₀ (c : Thread nD τ) none Set.univ (m := Memref.whole cc0_stg1_0) (Finset.subset_univ _)) $$ Hw; iintro Hw
  have ex : (Memref.whole cc0_stg0_0).view.readAt (Elt F) (Rect.unit (s := S2048x1024) ![0, 0] S2048x1024.size inb_S2048x1024_S2048x1024_0_0).toLoadRect x = x :=
    read0 cc0_stg0_0 ![0, 0] (by decide) inb_S2048x1024_S2048x1024_0_0 x
  have ew : (Memref.whole cc0_stg1_0).view.readAt (Elt F) (Rect.unit (s := S1024x1024) ![0, 0] S1024x1024.size inb_S1024x1024_S1024x1024_0_0).toLoadRect wq = wq :=
    read0 cc0_stg1_0 ![0, 0] (by decide) inb_S1024x1024_S1024x1024_0_0 wq
  rw [ex, ew]
  iapply (wp_pure_intro c)
  iapply HK
  isplitl [Hat]; · iexact Hat
  isplitl [Hp]; · iexact Hp
  isplitl [HO]; · iexact HO
  isplitl [Hx] <;> iassumption

end Cert.KernelIdeal.Body
-- ==== Proof.KernelIdeal.Ops.lean ====
/-
  What a device holds before each of its sends, and the joins of what its waits hand back.
-/
module

public import proofs.«01_k».proof.Proof.KernelIdeal.Part1

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-- What a device holds for the reduction's send of step `j`, half `s`. -/
def rsPre (j : Fin 4) (s : Fin 2) (c : Dev nD) : sProp 𝕄 :=
  iprop(ready 0 1 j s c ∗ reached ER (cell 1 j s (pr s j c)) 0 ∗ rsbAny j s (pr s j c))
/-- What a device holds for the gathering's send of step `a`, half `s`. -/
def agPre (a : Fin 4) (s : Fin 2) (c : Dev nD) : sProp 𝕄 :=
  iprop(ready 2 3 a s c ∗ reached ER (cell 3 a s (pr s (opp a) c)) 0 ∗ agAny (ks s ((opp a).val + 1) c) (len (opp a)) s (pr s (opp a) c))

theorem sentS_intro (κ j : Fin 4) (s : Fin 2) :
    iprop(atPos ER (cell κ j s c) 0 ∅ 0 ∗ cred (tallyAt (cell κ j s c) () (amt κ j))) ⊢ (sentS κ j s c : sProp 𝕄) := .rfl

theorem wait_for {α : Type} {Q : α → sProp 𝕄} (κ j : Fin 4) (s : Fin 2) (k : ℕ) {sh : Shape} {sem : DmaSem sig}
    {src dst : Memref sig .tc .vmem sh .bf16} {h1 : src.view.WordExact} {h2 : dst.view.WordExact}
    {kk : PUnit → Prog (TpuEff nD τ sig (Elt F) Λ₀ .tc) α}
    (hsem : sem = dsem κ j s) (hN : dst.view.dmaCredit = amt κ j) (hlev : ∀ i, i < k → semLv (.dma (dsem κ j s)) < dueLv i) :
    iprop(ctx0 X Wo K ∗ sentS κ j s c ∗ ow c k)
      ⊢ iprop(((past κ j s c ∗ dmaPay X Wo κ j s c ∗ ow c k) -∗ wp frame (wpE (defs₀ (F := F)) 𝒱₀ c none) Set.univ (kk ⟨⟩) Q)
        -∗ wp frame (wpE (defs₀ (F := F)) 𝒱₀ c none) Set.univ (Prog.lift (.waitDma2 sem src dst h1 h2) >>= kk) Q) := by
  unfold sentS
  iintro ⟨#HX, ⟨Ha, Hc⟩, HO⟩ HK
  iapply (stage_wait X Wo K c κ j s k hsem hN hlev) $$ [Ha Hc HO]
  · isplitr; · iexact HX
    isplitl [Hc]; · iexact Hc
    isplitl [Ha] <;> iassumption
  iexact HK

theorem sb_back (j : Fin 4) (s : Fin 2) (l : ℕ) (hl : l = len j) : iprop(dmaPay X Wo 0 j s c ∗ sbAny l (1024 - l) s c) ⊢ (sbAny 0 1024 s c : sProp 𝕄) := by
  subst hl
  exact sb_join c (len j) (len_le j) s

theorem ag_back (a : Fin 4) (s : Fin 2) (m l : ℕ) (hm : m = (opp a).val) (hl : l = len (opp a) + len (opp a)) :
    iprop(dmaPay X Wo 2 a s c ∗ dmaPay X Wo 3 a s c) ⊢ (agAt X Wo (ks s m c) l s c : sProp 𝕄) := by
  subst hm hl
  exact ag_join X Wo c s (opp a)

theorem ag_at (a : Fin 4) (s : Fin 2) (m l : ℕ) (hm : m = (opp a).val + 1) (hl : l = len (opp a)) :
    (agAt X Wo (ks s m c) l s c : sProp 𝕄) ⊢ agAt X Wo (ks s ((opp a).val + 1) c) (len (opp a)) s c := by
  subst hm hl; exact .rfl

end Cert.KernelIdeal.Body
-- ==== Proof.KernelIdeal.Reduce.lean ====
/-
  The reduction: parts 26 to 35 of the body.
-/
module

public import proofs.«01_k».proof.Proof.KernelIdeal.Ops

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-- Part 26. -/
theorem b_part26 (v2 : BitVec 32) (v944 : BitVec 32) (v946 : BitVec 32) {Kt : _ → sProp 𝕄} :
    iprop(ctx0 X Wo K ∗ sentS 0 0 0 c ∗ ow c 14 ∗ sbAny 1024 (1024 - 1024) 0 c ∗ sentS 1 0 0 c ∗ pt c cc0_stg5_0 (OL X Wo ![0, 0] c) ∗ sentS 0 0 1 c ∗ sbAny 1024 (1024 - 1024) 1 c
        ∗ (∀ r, (ow c 14 ∗ pt c cc0_stg5_0 (OL X Wo ![1, 0] c) ∗ past 0 0 0 c ∗ sbAny 0 1024 0 c ∗ past 1 0 0 c ∗ rsbAt X Wo 0 0 c ∗ past 0 0 1 c ∗ sbAny 0 1024 1 c) -∗ Kt r))
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v944 v946) Kt := by
  rw [k0_part26_eq_skeleton]; unfold k0_part26_skel
  iintro ⟨#HX, W000, HO, T0, W100, Ho, W001, T1, HK⟩
  iapply (wait_for X Wo K c 0 0 0 14 sem000 (by show RefSig.tileCredit ⟨2, ![1024, 512]⟩ .bf16 = _; decide) (by decide)) $$ [W000 HO]
  · isplitr; · iexact HX
    isplitl [W000] <;> iassumption
  iintro ⟨P000, Hd000, HO⟩
  ihave S0 := (sb_back X Wo c 0 0 1024 rfl) $$ [Hd000 T0]
  · isplitl [Hd000] <;> iassumption
  iapply (wait_for X Wo K c 1 0 0 14 sem100 (by show RefSig.tileCredit ⟨2, ![1024, 512]⟩ .bf16 = _; decide) (by decide)) $$ [W100 HO]
  · isplitr; · iexact HX
    isplitl [W100] <;> iassumption
  iintro ⟨P100, Hd100, HO⟩
  iapply (acc_0 X Wo c 0 ![0, 0] ![1, 0] rfl rfl (by decide) (off1_eq c) rfl pay93_eq) $$ [Ho Hd100]
  · isplitl [Ho] <;> iassumption
  iintro ⟨Ho, B00⟩
  iapply (wait_for X Wo K c 0 0 1 14 sem001 (by show RefSig.tileCredit ⟨2, ![1024, 512]⟩ .bf16 = _; decide) (by decide)) $$ [W001 HO]
  · isplitr; · iexact HX
    isplitl [W001] <;> iassumption
  iintro ⟨P001, Hd001, HO⟩
  ihave S1 := (sb_back X Wo c 0 1 1024 rfl) $$ [Hd001 T1]
  · isplitl [Hd001] <;> iassumption
  iapply (wp_pure_intro c)
  iapply HK
  isplitl [HO]; · iexact HO
  isplitl [Ho]; · iexact Ho
  isplitl [P000]; · iexact P000
  isplitl [S0]; · iexact S0
  isplitl [P100]; · iexact P100
  isplitl [B00]; · iexact B00
  isplitl [P001]; · iexact P001
  iexact S1

/-- Part 27. -/
theorem b_part27 (v2 : BitVec 32) (v944 : BitVec 32) (v945 : BitVec 32) (v970 : BitVec 32) {Kt : _ → sProp 𝕄} :
    iprop(ctx0 X Wo K ∗ sentS 1 0 1 c ∗ ow c 14 ∗ pt c cc0_stg5_0 (OL X Wo ![1, 0] c) ∗ sbAny 0 1024 0 c
        ∗ (∀ r, (ow c 14 ∗ pt c cc0_stg5_0 (OL X Wo ![1, 1] c) ∗ past 1 0 1 c ∗ rsbAt X Wo 0 1 c ∗ ptOn c cc0_scratch1 (RB 1024 0 512 0) (SBc X Wo 0 1 c) ∗ sbAny 512 (1024 - 512) 0 c) -∗ Kt r))
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v944 v945 v970) Kt := by
  rw [k0_part27_eq_skeleton]; unfold k0_part27_skel
  iintro ⟨#HX, W101, HO, Ho, S0, HK⟩
  iapply (wait_for X Wo K c 1 0 1 14 sem101 (by show RefSig.tileCredit ⟨2, ![1024, 512]⟩ .bf16 = _; decide) (by decide)) $$ [W101 HO]
  · isplitr; · iexact HX
    isplitl [W101] <;> iassumption
  iintro ⟨P101, Hd101, HO⟩
  iapply (acc_0 X Wo c 1 ![1, 0] ![1, 1] rfl rfl (by decide) (off2_eq c) rfl pay94_eq) $$ [Ho Hd101]
  · isplitl [Ho] <;> iassumption
  iintro ⟨Ho, B01⟩
  iapply (prep X Wo c 0 1 512 rfl (OL X Wo ![1, 1] c) (fun i => OL_rows X Wo c (v := ![1, 1]) (s := 0) (j := 1) rfl _ i) (off3_eq c) rfl pay95_eq) $$ [Ho S0]
  · isplitl [Ho] <;> iassumption
  iintro ⟨Ho, Q0, T0⟩
  iapply (wp_pure_intro c)
  iapply HK
  isplitl [HO]; · iexact HO
  isplitl [Ho]; · iexact Ho
  isplitl [P101]; · iexact P101
  isplitl [B01]; · iexact B01
  isplitl [Q0]; · iexact Q0
  iexact T0

/-- Part 28. -/
theorem b_part28 (v2 : BitVec 32) (v945 : BitVec 32) {Kt : _ → sProp 𝕄} :
    iprop(ctx0 X Wo K ∗ rsPre 1 0 c ∗ ptOn c cc0_scratch1 (RB 1024 0 512 0) (SBc X Wo 0 1 c) ∗ ow c 14 ∗ pt c cc0_stg5_0 (OL X Wo ![1, 1] c) ∗ sbAny 0 1024 1 c ∗ rsPre 1 1 c
        ∗ (∀ r, (ow c 12 ∗ pt c cc0_stg5_0 (OL X Wo ![1, 1] c) ∗ sentS 0 1 0 c ∗ sentS 1 1 0 c ∗ sbAny 512 (1024 - 512) 1 c ∗ sentS 0 1 1 c ∗ sentS 1 1 1 c) -∗ Kt r))
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v945) Kt := by
  rw [k0_part28_eq_skeleton]; unfold k0_part28_skel
  unfold rsPre
  iintro ⟨#HX, ⟨Hr10, #Hc10, Hb10⟩, Q0, HO, Ho, S1, ⟨Hr11, #Hc11, Hb11⟩, HK⟩
  iapply (rs_send_1 X Wo K c 0 13 rfl rfl sem010 sem110 (dev9_eq c) (due110 c)) $$ [Hr10 Hb10 Q0 HO]
  · isplitr; · iexact HX
    isplitl [Hr10]; · iexact Hr10
    isplitr; · iexact Hc10
    isplitl [Q0]; · iexact Q0
    isplitl [Hb10] <;> iassumption
  iintro ⟨W010, W110, HO⟩
  ihave W110 := (sentS_intro c 1 1 0) $$ W110
  iapply (prep X Wo c 1 1 512 rfl (OL X Wo ![1, 1] c) (fun i => OL_rows X Wo c (v := ![1, 1]) (s := 1) (j := 1) rfl _ i) (off4_eq c) rfl pay96_eq) $$ [Ho S1]
  · isplitl [Ho] <;> iassumption
  iintro ⟨Ho, Q1, T1⟩
  iapply (rs_send_1 X Wo K c 1 12 rfl rfl sem011 sem111 (dev10_eq c) (due111 c)) $$ [Hr11 Hb11 Q1 HO]
  · isplitr; · iexact HX
    isplitl [Hr11]; · iexact Hr11
    isplitr; · iexact Hc11
    isplitl [Q1]; · iexact Q1
    isplitl [Hb11] <;> iassumption
  iintro ⟨W011, W111, HO⟩
  ihave W111 := (sentS_intro c 1 1 1) $$ W111
  iapply (wp_pure_intro c)
  iapply HK
  isplitl [HO]; · iexact HO
  isplitl [Ho]; · iexact Ho
  isplitl [W010]; · iexact W010
  isplitl [W110]; · iexact W110
  isplitl [T1]; · iexact T1
  isplitl [W011]; · iexact W011
  iexact W111

/-- Part 29. -/
theorem b_part29 (v984 : BitVec 32) (v991 : BitVec 32) (v1007 : BitVec 32) {Kt : _ → sProp 𝕄} :
    iprop(ctx0 X Wo K ∗ sentS 0 1 0 c ∗ ow c 12 ∗ sbAny 512 (1024 - 512) 0 c ∗ sentS 1 1 0 c ∗ pt c cc0_stg5_0 (OL X Wo ![1, 1] c) ∗ sentS 0 1 1 c ∗ sbAny 512 (1024 - 512) 1 c
        ∗ (∀ r, (ow c 12 ∗ pt c cc0_stg5_0 (OL X Wo ![2, 1] c) ∗ past 0 1 0 c ∗ sbAny 0 1024 0 c ∗ past 1 1 0 c ∗ rsbAt X Wo 1 0 c ∗ past 0 1 1 c ∗ sbAny 0 1024 1 c) -∗ Kt r))
      ⊢ wp frame (wpE (defs₀ (F := F)) 𝒱₀ c none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v984 v991 v1007) Kt := by
  rw [k0_part29_eq_skeleton]; unfold k0_part29_skel
  iintro ⟨#HX, W010, HO, T0, W110, Ho, W011, T1, HK⟩
  iapply (wait_for X Wo K c 0 1 0 12 sem010 (by show RefSig.tileCredit ⟨2, ![512, 512]⟩ .bf16 = _; decide) (by decide)) $$ [W010 HO]
  · isplitr; · iexact HX
    isplitl [W010] <;> iassumption
  iintro ⟨P010, Hd010, HO⟩
  ihave S0 := (sb_back X Wo c 1 0 512 rfl) $$ [Hd010 T0]
  · isplitl [Hd010] <;> iassumption
  iapply (wait_for X Wo K c 1 1 0 12 sem110 (by show RefSig.tileCredit ⟨2, ![512, 512]⟩ .bf16 = _; decide) (by decide)) $$ [W110 HO]
  · isplitr; · iexact HX
    isplitl [W110] <;> iassumption
  iintro ⟨P110, Hd110, HO⟩
  iapply (acc_1 X Wo c 0 ![1, 1] ![2, 1] rfl rfl (by decide) (off5_eq c) rfl pay97_eq) $$ [Ho Hd110]
  · isplitl [Ho] <;> iassumption
  iintro ⟨Ho, B10⟩
  iapply (wait_for X Wo K c 0 1 1 12 sem011 (by show RefSig.tileCredit ⟨2, ![512, 512]⟩ .bf16 = _; decide) (by decide)) $$ [W011 HO]
  · isplitr; · iexact HX
    isplitl [W011] <;> iassumption
  iintro ⟨P011, Hd011, HO⟩
  ihave S1 := (sb_back X Wo c 1 1 512 rfl) $$ [Hd011 T1]
  · isplitl [Hd011] <;> iassumption
  iapply (wp_pure_intro c)
  iapply HK
  isplitl [HO]; · iexact HO
  isplitl [Ho]; · iexact Ho
  isplitl [P010]; · iexact P010
  isplitl [S0]; · iexact S0
  isplitl [P110]; · iexact P110
  isplitl [B10]; · iexact B10
  isplitl [P011]; · iexact P011
  iexact S1

/-- Part 30. -/
theorem b_part30 (v2 : BitVec 32) (v991 : BitVec 32) (v1014 : BitVec 32) {Kt : _ → sProp 𝕄} :
    iprop(ctx0 X Wo K ∗ sentS 1 1 1 c ∗ ow c 12 ∗ pt c cc0_stg5_0 (OL X Wo ![2, 1] c) ∗ sbAny 0 1024 0 c
        ∗ (∀ r, (ow c 12 ∗ pt c cc0_stg5_0 (OL X Wo ![2, 2] c) ∗ past 1 1 1 c ∗ rsbAt X Wo 1 1 c ∗ ptOn c cc0_scratch1 (RB 1024 0 256 0) (SBc X Wo 0 2 c) ∗ sbAny 256 (1024 - 256) 0 c) -∗ Kt r))
      ⊢ wp frame (wpE (defs₀ (F := F)) 𝒱₀ c none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v991 v1014) Kt := by
  rw [k0_part30_eq_skeleton]; unfold k0_part30_skel
  iintro ⟨#HX, W111, HO, Ho, S0, HK⟩
  iapply (wait_for X Wo K c 1 1 1 12 sem111 (by show RefSig.tileCredit ⟨2, ![512, 512]⟩ .bf16 = _; decide) (by decide)) $$ [W111 HO]
  · isplitr; · iexact HX
    isplitl [W111] <;> iassumption
  iintro ⟨P111, Hd111, HO⟩
  iapply (acc_1 X Wo c 1 ![2, 1] ![2, 2] rfl rfl (by decide) (off6_eq c) rfl pay98_eq) $$ [Ho Hd111]
  · isplitl [Ho] <;> iassumption
  iintro ⟨Ho, B11⟩
  iapply (prep X Wo c 0 2 256 rfl (OL X Wo ![2, 2] c) (fun i => OL_rows X Wo c (v := ![2, 2]) (s := 0) (j := 2) rfl _ i) (off7_eq c) rfl pay99_eq) $$ [Ho S0]
  · isplitl [Ho] <;> iassumption
  iintro ⟨Ho, Q0, T0⟩
  iapply (wp_pure_intro c)
  iapply HK
  isplitl [HO]; · iexact HO
  isplitl [Ho]; · iexact Ho
  isplitl [P111]; · iexact P111
  isplitl [B11]; · iexact B11
  isplitl [Q0]; · iexact Q0
  iexact T0

/-- Part 31. -/
theorem b_part31 (v2 : BitVec 32) (v1014 : BitVec 32) {Kt : _ → sProp 𝕄} :
    iprop(ctx0 X Wo K ∗ rsPre 2 0 c ∗ ptOn c cc0_scratch1 (RB 1024 0 256 0) (SBc X Wo 0 2 c) ∗ ow c 12 ∗ pt c cc0_stg5_0 (OL X Wo ![2, 2] c) ∗ sbAny 0 1024 1 c ∗ rsPre 2 1 c
        ∗ (∀ r, (ow c 10 ∗ pt c cc0_stg5_0 (OL X Wo ![2, 2] c) ∗ sentS 0 2 0 c ∗ sentS 1 2 0 c ∗ sbAny 256 (1024 - 256) 1 c ∗ sentS 0 2 1 c ∗ sentS 1 2 1 c) -∗ Kt r))
      ⊢ wp frame (wpE (defs₀ (F := F)) 𝒱₀ c none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1014) Kt := by
  rw [k0_part31_eq_skeleton]; unfold k0_part31_skel
  unfold rsPre
  iintro ⟨#HX, ⟨Hr20, #Hc20, Hb20⟩, Q0, HO, Ho, S1, ⟨Hr21, #Hc21, Hb21⟩, HK⟩
  iapply (rs_send_2 X Wo K c 0 11 rfl rfl sem020 sem120 (dev11_eq c) (due120 c)) $$ [Hr20 Hb20 Q0 HO]
  · isplitr; · iexact HX
    isplitl [Hr20]; · iexact Hr20
    isplitr; · iexact Hc20
    isplitl [Q0]; · iexact Q0
    isplitl [Hb20] <;> iassumption
  iintro ⟨W020, W120, HO⟩
  ihave W120 := (sentS_intro c 1 2 0) $$ W120
  iapply (prep X Wo c 1 2 256 rfl (OL X Wo ![2, 2] c) (fun i => OL_rows X Wo c (v := ![2, 2]) (s := 1) (j := 2) rfl _ i) (off8_eq c) rfl pay100_eq) $$ [Ho S1]
  · isplitl [Ho] <;> iassumption
  iintro ⟨Ho, Q1, T1⟩
  iapply (rs_send_2 X Wo K c 1 10 rfl rfl sem021 sem121 (dev12_eq c) (due121 c)) $$ [Hr21 Hb21 Q1 HO]
  · isplitr; · iexact HX
    isplitl [Hr21]; · iexact Hr21
    isplitr; · iexact Hc21
    isplitl [Q1]; · iexact Q1
    isplitl [Hb21] <;> iassumption
  iintro ⟨W021, W121, HO⟩
  ihave W121 := (sentS_intro c 1 2 1) $$ W121
  iapply (wp_pure_intro c)
  iapply HK
  isplitl [HO]; · iexact HO
  isplitl [Ho]; · iexact Ho
  isplitl [W020]; · iexact W020
  isplitl [W120]; · iexact W120
  isplitl [T1]; · iexact T1
  isplitl [W021]; · iexact W021
  iexact W121

/-- Part 32. -/
theorem b_part32 (v1066 : BitVec 32) (v1073 : BitVec 32) (v1089 : BitVec 32) {Kt : _ → sProp 𝕄} :
    iprop(ctx0 X Wo K ∗ sentS 0 2 0 c ∗ ow c 10 ∗ sbAny 256 (1024 - 256) 0 c ∗ sentS 1 2 0 c ∗ pt c cc0_stg5_0 (OL X Wo ![2, 2] c) ∗ sentS 0 2 1 c ∗ sbAny 256 (1024 - 256) 1 c
        ∗ (∀ r, (ow c 10 ∗ pt c cc0_stg5_0 (OL X Wo ![3, 2] c) ∗ past 0 2 0 c ∗ sbAny 0 1024 0 c ∗ past 1 2 0 c ∗ rsbAt X Wo 2 0 c ∗ past 0 2 1 c ∗ sbAny 0 1024 1 c) -∗ Kt r))
      ⊢ wp frame (wpE (defs₀ (F := F)) 𝒱₀ c none) Set.univ (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v1066 v1073 v1089) Kt := by
  rw [k0_part32_eq_skeleton]; unfold k0_part32_skel
  iintro ⟨#HX, W020, HO, T0, W120, Ho, W021, T1, HK⟩
  iapply (wait_for X Wo K c 0 2 0 10 sem020 (by show RefSig.tileCredit ⟨2, ![256, 512]⟩ .bf16 = _; decide) (by decide)) $$ [W020 HO]
  · isplitr; · iexact HX
    isplitl [W020] <;> iassumption
  iintro ⟨P020, Hd020, HO⟩
  ihave S0 := (sb_back X Wo c 2 0 256 rfl) $$ [Hd020 T0]
  · isplitl [Hd020] <;> iassumption
  iapply (wait_for X Wo K c 1 2 0 10 sem120 (by show RefSig.tileCredit ⟨2, ![256, 512]⟩ .bf16 = _; decide) (by decide)) $$ [W120 HO]
  · isplitr; · iexact HX
    isplitl [W120] <;> iassumption
  iintro ⟨P120, Hd120, HO⟩
  iapply (acc_2 X Wo c 0 ![2, 2] ![3, 2] rfl rfl (by decide) (off9_eq c) rfl pay101_eq) $$ [Ho Hd120]
  · isplitl [Ho] <;> iassumption
  iintro ⟨Ho, B20⟩
  iapply (wait_for X Wo K c 0 2 1 10 sem021 (by show RefSig.tileCredit ⟨2, ![256, 512]⟩ .bf16 = _; decide) (by decide)) $$ [W021 HO]
  · isplitr; · iexact HX
    isplitl [W021] <;> iassumption
  iintro ⟨P021, Hd021, HO⟩
  ihave S1 := (sb_back X Wo c 2 1 256 rfl) $$ [Hd021 T1]
  · isplitl [Hd021] <;> iassumption
  iapply (wp_pure_intro c)
  iapply HK
  isplitl [HO]; · iexact HO
  isplitl [Ho]; · iexact Ho
  isplitl [P020]; · iexact P020
  isplitl [S0]; · iexact S0
  isplitl [P120]; · iexact P120
  isplitl [B20]; · iexact B20
  isplitl [P021]; · iexact P021
  iexact S1

/-- Part 33. -/
theorem b_part33 (v2 : BitVec 32) (v1073 : BitVec 32) (v1096 : BitVec 32) {Kt : _ → sProp 𝕄} :
    iprop(ctx0 X Wo K ∗ sentS 1 2 1 c ∗ ow c 10 ∗ pt c cc0_stg5_0 (OL X Wo ![3, 2] c) ∗ sbAny 0 1024 0 c ∗ rsPre 3 0 c
        ∗ (∀ r, (ow c 9 ∗ pt c cc0_stg5_0 (OL X Wo ![3, 3] c) ∗ past 1 2 1 c ∗ rsbAt X Wo 2 1 c ∗ sbAny 128 (1024 - 128) 0 c ∗ sentS 0 3 0 c ∗ sentS 1 3 0 c) -∗ Kt r))
      ⊢ wp frame (wpE (defs₀ (F := F)) 𝒱₀ c none) Set.univ (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1073 v1096) Kt := by
  rw [k0_part33_eq_skeleton]; unfold k0_part33_skel
  unfold rsPre
  iintro ⟨#HX, W121, HO, Ho, S0, ⟨Hr30, #Hc30, Hb30⟩, HK⟩
  iapply (wait_for X Wo K c 1 2 1 10 sem121 (by show RefSig.tileCredit ⟨2, ![256, 512]⟩ .bf16 = _; decide) (by decide)) $$ [W121 HO]
  · isplitr; · iexact HX
    isplitl [W121] <;> iassumption
  iintro ⟨P121, Hd121, HO⟩
  iapply (acc_2 X Wo c 1 ![3, 2] ![3, 3] rfl rfl (by decide) (off10_eq c) rfl pay102_eq) $$ [Ho Hd121]
  · isplitl [Ho] <;> iassumption
  iintro ⟨Ho, B21⟩
  iapply (prep X Wo c 0 3 128 rfl (OL X Wo ![3, 3] c) (fun i => OL_rows X Wo c (v := ![3, 3]) (s := 0) (j := 3) rfl _ i) (off11_eq c) rfl pay103_eq) $$ [Ho S0]
  · isplitl [Ho] <;> iassumption
  iintro ⟨Ho, Q0, T0⟩
  iapply (rs_send_3 X Wo K c 0 9 rfl rfl sem030 sem130 (dev13_eq c) (due130 c)) $$ [Hr30 Hb30 Q0 HO]
  · isplitr; · iexact HX
    isplitl [Hr30]; · iexact Hr30
    isplitr; · iexact Hc30
    isplitl [Q0]; · iexact Q0
    isplitl [Hb30] <;> iassumption
  iintro ⟨W030, W130, HO⟩
  ihave W130 := (sentS_intro c 1 3 0) $$ W130
  iapply (wp_pure_intro c)
  iapply HK
  isplitl [HO]; · iexact HO
  isplitl [Ho]; · iexact Ho
  isplitl [P121]; · iexact P121
  isplitl [B21]; · iexact B21
  isplitl [T0]; · iexact T0
  isplitl [W030]; · iexact W030
  iexact W130

/-- Part 34. -/
theorem b_part34 (v2 : BitVec 32) (v1096 : BitVec 32) {Kt : _ → sProp 𝕄} :
    iprop(ctx0 X Wo K ∗ pt c cc0_stg5_0 (OL X Wo ![3, 3] c) ∗ sbAny 0 1024 1 c ∗ rsPre 3 1 c ∗ ow c 9 ∗ sentS 0 3 0 c ∗ sbAny 128 (1024 - 128) 0 c
        ∗ (∀ r, (ow c 8 ∗ pt c cc0_stg5_0 (OL X Wo ![3, 3] c) ∗ sbAny 128 (1024 - 128) 1 c ∗ sentS 0 3 1 c ∗ sentS 1 3 1 c ∗ past 0 3 0 c ∗ sbAny 0 1024 0 c) -∗ Kt r))
      ⊢ wp frame (wpE (defs₀ (F := F)) 𝒱₀ c none) Set.univ (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1096) Kt := by
  rw [k0_part34_eq_skeleton]; unfold k0_part34_skel
  unfold rsPre
  iintro ⟨#HX, Ho, S1, ⟨Hr31, #Hc31, Hb31⟩, HO, W030, T0, HK⟩
  iapply (prep X Wo c 1 3 128 rfl (OL X Wo ![3, 3] c) (fun i => OL_rows X Wo c (v := ![3, 3]) (s := 1) (j := 3) rfl _ i) (off12_eq c) rfl pay104_eq) $$ [Ho S1]
  · isplitl [Ho] <;> iassumption
  iintro ⟨Ho, Q1, T1⟩
  iapply (rs_send_3 X Wo K c 1 8 rfl rfl sem031 sem131 (dev14_eq c) (due131 c)) $$ [Hr31 Hb31 Q1 HO]
  · isplitr; · iexact HX
    isplitl [Hr31]; · iexact Hr31
    isplitr; · iexact Hc31
    isplitl [Q1]; · iexact Q1
    isplitl [Hb31] <;> iassumption
  iintro ⟨W031, W131, HO⟩
  ihave W131 := (sentS_intro c 1 3 1) $$ W131
  iapply (wait_for X Wo K c 0 3 0 8 sem030 (by show RefSig.tileCredit ⟨2, ![128, 512]⟩ .bf16 = _; decide) (by decide)) $$ [W030 HO]
  · isplitr; · iexact HX
    isplitl [W030] <;> iassumption
  iintro ⟨P030, Hd030, HO⟩
  ihave S0 := (sb_back X Wo c 3 0 128 rfl) $$ [Hd030 T0]
  · isplitl [Hd030] <;> iassumption
  iapply (wp_pure_intro c)
  iapply HK
  isplitl [HO]; · iexact HO
  isplitl [Ho]; · iexact Ho
  isplitl [T1]; · iexact T1
  isplitl [W031]; · iexact W031
  isplitl [W131]; · iexact W131
  isplitl [P030]; · iexact P030
  iexact S0

/-- Part 35. -/
theorem b_part35 (v1148 : BitVec 32) (v1155 : BitVec 32) (v1171 : BitVec 32) (v1178 : BitVec 32) {Kt : _ → sProp 𝕄} :
    iprop(ctx0 X Wo K ∗ sentS 1 3 0 c ∗ ow c 8 ∗ pt c cc0_stg5_0 (OL X Wo ![3, 3] c) ∗ sentS 0 3 1 c ∗ sbAny 128 (1024 - 128) 1 c ∗ sentS 1 3 1 c
        ∗ (∀ r, (ow c 8 ∗ pt c cc0_stg5_0 (OL X Wo ![4, 3] c) ∗ past 1 3 0 c ∗ rsbAt X Wo 3 0 c ∗ past 0 3 1 c ∗ sbAny 0 1024 1 c ∗ past 1 3 1 c ∗ dmaPay X Wo 1 3 1 c) -∗ Kt r))
      ⊢ wp frame (wpE (defs₀ (F := F)) 𝒱₀ c none) Set.univ (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v1148 v1155 v1171 v1178) Kt := by
  rw [k0_part35_eq_skeleton]; unfold k0_part35_skel
  iintro ⟨#HX, W130, HO, Ho, W031, T1, W131, HK⟩
  iapply (wait_for X Wo K c 1 3 0 8 sem130 (by show RefSig.tileCredit ⟨2, ![128, 512]⟩ .bf16 = _; decide) (by decide)) $$ [W130 HO]
  · isplitr; · iexact HX
    isplitl [W130] <;> iassumption
  iintro ⟨P130, Hd130, HO⟩
  iapply (acc_3 X Wo c 0 ![3, 3] ![4, 3] rfl rfl (by decide) (off13_eq c) rfl pay105_eq) $$ [Ho Hd130]
  · isplitl [Ho] <;> iassumption
  iintro ⟨Ho, B30⟩
  iapply (wait_for X Wo K c 0 3 1 8 sem031 (by show RefSig.tileCredit ⟨2, ![128, 512]⟩ .bf16 = _; decide) (by decide)) $$ [W031 HO]
  · isplitr; · iexact HX
    isplitl [W031] <;> iassumption
  iintro ⟨P031, Hd031, HO⟩
  ihave S1 := (sb_back X Wo c 3 1 128 rfl) $$ [Hd031 T1]
  · isplitl [Hd031] <;> iassumption
  iapply (wait_for X Wo K c 1 3 1 8 sem131 (by show RefSig.tileCredit ⟨2, ![128, 512]⟩ .bf16 = _; decide) (by decide)) $$ [W131 HO]
  · isplitr; · iexact HX
    isplitl [W131] <;> iassumption
  iintro ⟨P131, Hd131, HO⟩
  iapply (wp_pure_intro c)
  iapply HK
  isplitl [HO]; · iexact HO
  isplitl [Ho]; · iexact Ho
  isplitl [P130]; · iexact P130
  isplitl [B30]; · iexact B30
  isplitl [P031]; · iexact P031
  isplitl [S1]; · iexact S1
  isplitl [P131]; · iexact P131
  iexact Hd131

end Cert.KernelIdeal.Body
-- ==== Proof.KernelIdeal.Gather.lean ====
/-
  The gathering: parts 36 to 42 of the body.
-/
module

public import proofs.«01_k».proof.Proof.KernelIdeal.Ops

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-- Part 36. -/
theorem b_part36 (v2 : BitVec 32) (v1155 : BitVec 32) (v1178 : BitVec 32) {Kt : _ → sProp 𝕄} :
    iprop(ctx0 X Wo K ∗ pt c cc0_stg5_0 (OL X Wo ![4, 3] c) ∗ dmaPay X Wo 1 3 1 c ∗ agAny (ks 0 4 c) 128 0 c ∗ agAny (ks 1 4 c) 128 1 c ∗ agPre 0 0 c ∗ ow c 8
        ∗ (∀ r, (ow c 7 ∗ pt c cc0_stg5_0 (OL X Wo ![4, 4] c) ∗ agAt X Wo (ks 1 4 c) 128 1 c ∗ rsbAt X Wo 3 1 c ∗ sentS 2 0 0 c ∗ sentS 3 0 0 c) -∗ Kt r))
      ⊢ wp frame (wpE (defs₀ (F := F)) 𝒱₀ c none) Set.univ (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1155 v1178) Kt := by
  rw [k0_part36_eq_skeleton]; unfold k0_part36_skel
  unfold agPre
  iintro ⟨#HX, Ho, Hd131, A0, A1, ⟨Hr00, #Hc00, Hb00⟩, HO, HK⟩
  iapply (acc_3 X Wo c 1 ![4, 3] ![4, 4] rfl rfl (by decide) (off14_eq c) rfl pay106_eq) $$ [Ho Hd131]
  · isplitl [Ho] <;> iassumption
  iintro ⟨Ho, B31⟩
  iapply (ag_own X Wo c 0 (off13_eq c) (off13_eq c) pay107_eq) $$ [Ho A0]
  · isplitl [Ho] <;> iassumption
  iintro ⟨Ho, A0⟩
  iapply (ag_own X Wo c 1 (off14_eq c) (off14_eq c) pay108_eq) $$ [Ho A1]
  · isplitl [Ho] <;> iassumption
  iintro ⟨Ho, A1⟩
  ihave A0 := (ag_at X Wo c 0 0 4 128 rfl rfl) $$ A0
  iapply (ag_send X Wo K c 0 0 7 128 rfl (off15_eq c) (off15_eq c) sem200 sem300 (dev15_eq c)
    (by show RefSig.tileCredit ⟨2, ![128, 512]⟩ .bf16 = _; decide) rfl rfl (due300 c)) $$ [Hr00 Hb00 A0 HO]
  · isplitr; · iexact HX
    isplitl [Hr00]; · iexact Hr00
    isplitr; · iexact Hc00
    isplitl [A0]; · iexact A0
    isplitl [Hb00] <;> iassumption
  iintro ⟨W200, W300, HO⟩
  ihave W300 := (sentS_intro c 3 0 0) $$ W300
  iapply (wp_pure_intro c)
  iapply HK
  isplitl [HO]; · iexact HO
  isplitl [Ho]; · iexact Ho
  isplitl [A1]; · iexact A1
  isplitl [B31]; · iexact B31
  isplitl [W200]; · iexact W200
  iexact W300

/-- Part 37. -/
theorem b_part37 (v2 : BitVec 32) (v1155 : BitVec 32) (v1246 : BitVec 32) (v1255 : BitVec 32) (c1_i32_786 : BitVec 32) {Kt : _ → sProp 𝕄} :
    iprop(ctx0 X Wo K ∗ agPre 0 1 c ∗ agAt X Wo (ks 1 4 c) 128 1 c ∗ ow c 7 ∗ sentS 2 0 0 c ∗ sentS 3 0 0 c
        ∗ (∀ r, (ow c 6 ∗ sentS 3 0 1 c ∗ past 2 0 0 c ∗ past 3 0 0 c ∗ agAt X Wo (ks 0 3 c) 256 0 c ∗ past 2 0 1 c ∗ dmaPay X Wo 2 0 1 c) -∗ Kt r))
      ⊢ wp frame (wpE (defs₀ (F := F)) 𝒱₀ c none) Set.univ (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1155 v1246 v1255 c1_i32_786) Kt := by
  rw [k0_part37_eq_skeleton]; unfold k0_part37_skel
  unfold agPre
  iintro ⟨#HX, ⟨Hr01, #Hc01, Hb01⟩, A1, HO, W200, W300, HK⟩
  ihave A1 := (ag_at X Wo c 0 1 4 128 rfl rfl) $$ A1
  iapply (ag_send X Wo K c 0 1 6 128 rfl (off16_eq c) (off16_eq c) sem201 sem301 (dev16_eq c)
    (by show RefSig.tileCredit ⟨2, ![128, 512]⟩ .bf16 = _; decide) rfl rfl (due301 c)) $$ [Hr01 Hb01 A1 HO]
  · isplitr; · iexact HX
    isplitl [Hr01]; · iexact Hr01
    isplitr; · iexact Hc01
    isplitl [A1]; · iexact A1
    isplitl [Hb01] <;> iassumption
  iintro ⟨W201, W301, HO⟩
  ihave W301 := (sentS_intro c 3 0 1) $$ W301
  iapply (wait_for X Wo K c 2 0 0 6 sem200 (by show RefSig.tileCredit ⟨2, ![128, 512]⟩ .bf16 = _; decide) (by decide)) $$ [W200 HO]
  · isplitr; · iexact HX
    isplitl [W200] <;> iassumption
  iintro ⟨P200, Hd200, HO⟩
  iapply (wait_for X Wo K c 3 0 0 6 sem300 (by show RefSig.tileCredit ⟨2, ![128, 512]⟩ .bf16 = _; decide) (by decide)) $$ [W300 HO]
  · isplitr; · iexact HX
    isplitl [W300] <;> iassumption
  iintro ⟨P300, Hd300, HO⟩
  ihave A0 := (ag_back X Wo c 0 0 3 256 rfl rfl) $$ [Hd200 Hd300]
  · isplitl [Hd200] <;> iassumption
  iapply (wait_for X Wo K c 2 0 1 6 sem201 (by show RefSig.tileCredit ⟨2, ![128, 512]⟩ .bf16 = _; decide) (by decide)) $$ [W201 HO]
  · isplitr; · iexact HX
    isplitl [W201] <;> iassumption
  iintro ⟨P201, Hd201, HO⟩
  iapply (wp_pure_intro c)
  iapply HK
  isplitl [HO]; · iexact HO
  isplitl [W301]; · iexact W301
  isplitl [P200]; · iexact P200
  isplitl [P300]; · iexact P300
  isplitl [A0]; · iexact A0
  isplitl [P201]; · iexact P201
  iexact Hd201

/-- Part 38. -/
theorem b_part38 (v2 : BitVec 32) (v1178 : BitVec 32) (v1255 : BitVec 32) {Kt : _ → sProp 𝕄} :
    iprop(ctx0 X Wo K ∗ sentS 3 0 1 c ∗ ow c 6 ∗ dmaPay X Wo 2 0 1 c ∗ agPre 1 0 c ∗ agAt X Wo (ks 0 3 c) 256 0 c ∗ agPre 1 1 c
        ∗ (∀ r, (ow c 4 ∗ past 3 0 1 c ∗ sentS 2 1 0 c ∗ sentS 3 1 0 c ∗ sentS 2 1 1 c ∗ sentS 3 1 1 c) -∗ Kt r))
      ⊢ wp frame (wpE (defs₀ (F := F)) 𝒱₀ c none) Set.univ (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1178 v1255) Kt := by
  rw [k0_part38_eq_skeleton]; unfold k0_part38_skel
  unfold agPre
  iintro ⟨#HX, W301, HO, Hd201, ⟨Hr10, #Hc10, Hb10⟩, A0, ⟨Hr11, #Hc11, Hb11⟩, HK⟩
  iapply (wait_for X Wo K c 3 0 1 6 sem301 (by show RefSig.tileCredit ⟨2, ![128, 512]⟩ .bf16 = _; decide) (by decide)) $$ [W301 HO]
  · isplitr; · iexact HX
    isplitl [W301] <;> iassumption
  iintro ⟨P301, Hd301, HO⟩
  ihave A1 := (ag_back X Wo c 0 1 3 256 rfl rfl) $$ [Hd201 Hd301]
  · isplitl [Hd201] <;> iassumption
  ihave A0 := (ag_at X Wo c 1 0 3 256 rfl rfl) $$ A0
  iapply (ag_send X Wo K c 1 0 5 256 rfl (off17_eq c) (off17_eq c) sem210 sem310 (dev17_eq c)
    (by show RefSig.tileCredit ⟨2, ![256, 512]⟩ .bf16 = _; decide) rfl rfl (due310 c)) $$ [Hr10 Hb10 A0 HO]
  · isplitr; · iexact HX
    isplitl [Hr10]; · iexact Hr10
    isplitr; · iexact Hc10
    isplitl [A0]; · iexact A0
    isplitl [Hb10] <;> iassumption
  iintro ⟨W210, W310, HO⟩
  ihave W310 := (sentS_intro c 3 1 0) $$ W310
  ihave A1 := (ag_at X Wo c 1 1 3 256 rfl rfl) $$ A1
  iapply (ag_send X Wo K c 1 1 4 256 rfl (off18_eq c) (off18_eq c) sem211 sem311 (dev18_eq c)
    (by show RefSig.tileCredit ⟨2, ![256, 512]⟩ .bf16 = _; decide) rfl rfl (due311 c)) $$ [Hr11 Hb11 A1 HO]
  · isplitr; · iexact HX
    isplitl [Hr11]; · iexact Hr11
    isplitr; · iexact Hc11
    isplitl [A1]; · iexact A1
    isplitl [Hb11] <;> iassumption
  iintro ⟨W211, W311, HO⟩
  ihave W311 := (sentS_intro c 3 1 1) $$ W311
  iapply (wp_pure_intro c)
  iapply HK
  isplitl [HO]; · iexact HO
  isplitl [P301]; · iexact P301
  isplitl [W210]; · iexact W210
  isplitl [W310]; · iexact W310
  isplitl [W211]; · iexact W211
  iexact W311

/-- Part 39. -/
theorem b_part39 (v2 : BitVec 32) (v1277 : BitVec 32) (v1292 : BitVec 32) (v1301 : BitVec 32) {Kt : _ → sProp 𝕄} :
    iprop(ctx0 X Wo K ∗ sentS 2 1 0 c ∗ ow c 4 ∗ sentS 3 1 0 c ∗ sentS 2 1 1 c ∗ sentS 3 1 1 c
        ∗ (∀ r, (ow c 4 ∗ past 2 1 0 c ∗ past 3 1 0 c ∗ agAt X Wo (ks 0 2 c) 512 0 c ∗ past 2 1 1 c ∗ past 3 1 1 c ∗ agAt X Wo (ks 1 2 c) 512 1 c) -∗ Kt r))
      ⊢ wp frame (wpE (defs₀ (F := F)) 𝒱₀ c none) Set.univ (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1277 v1292 v1301) Kt := by
  rw [k0_part39_eq_skeleton]; unfold k0_part39_skel
  iintro ⟨#HX, W210, HO, W310, W211, W311, HK⟩
  iapply (wait_for X Wo K c 2 1 0 4 sem210 (by show RefSig.tileCredit ⟨2, ![256, 512]⟩ .bf16 = _; decide) (by decide)) $$ [W210 HO]
  · isplitr; · iexact HX
    isplitl [W210] <;> iassumption
  iintro ⟨P210, Hd210, HO⟩
  iapply (wait_for X Wo K c 3 1 0 4 sem310 (by show RefSig.tileCredit ⟨2, ![256, 512]⟩ .bf16 = _; decide) (by decide)) $$ [W310 HO]
  · isplitr; · iexact HX
    isplitl [W310] <;> iassumption
  iintro ⟨P310, Hd310, HO⟩
  ihave A0 := (ag_back X Wo c 1 0 2 512 rfl rfl) $$ [Hd210 Hd310]
  · isplitl [Hd210] <;> iassumption
  iapply (wait_for X Wo K c 2 1 1 4 sem211 (by show RefSig.tileCredit ⟨2, ![256, 512]⟩ .bf16 = _; decide) (by decide)) $$ [W211 HO]
  · isplitr; · iexact HX
    isplitl [W211] <;> iassumption
  iintro ⟨P211, Hd211, HO⟩
  iapply (wait_for X Wo K c 3 1 1 4 sem311 (by show RefSig.tileCredit ⟨2, ![256, 512]⟩ .bf16 = _; decide) (by decide)) $$ [W311 HO]
  · isplitr; · iexact HX
    isplitl [W311] <;> iassumption
  iintro ⟨P311, Hd311, HO⟩
  ihave A1 := (ag_back X Wo c 1 1 2 512 rfl rfl) $$ [Hd211 Hd311]
  · isplitl [Hd211] <;> iassumption
  iapply (wp_pure_intro c)
  iapply HK
  isplitl [HO]; · iexact HO
  isplitl [P210]; · iexact P210
  isplitl [P310]; · iexact P310
  isplitl [A0]; · iexact A0
  isplitl [P211]; · iexact P211
  isplitl [P311]; · iexact P311
  iexact A1

/-- Part 40. -/
theorem b_part40 (v2 : BitVec 32) (v1291 : BitVec 32) (c3_i32_877 : BitVec 32) {Kt : _ → sProp 𝕄} :
    iprop(ctx0 X Wo K ∗ agPre 2 0 c ∗ agAt X Wo (ks 0 2 c) 512 0 c ∗ ow c 4 ∗ agPre 2 1 c ∗ agAt X Wo (ks 1 2 c) 512 1 c
        ∗ (∀ r, (ow c 2 ∗ sentS 3 2 0 c ∗ sentS 2 2 1 c ∗ sentS 3 2 1 c ∗ past 2 2 0 c ∗ dmaPay X Wo 2 2 0 c) -∗ Kt r))
      ⊢ wp frame (wpE (defs₀ (F := F)) 𝒱₀ c none) Set.univ (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1291 c3_i32_877) Kt := by
  rw [k0_part40_eq_skeleton]; unfold k0_part40_skel
  unfold agPre
  iintro ⟨#HX, ⟨Hr20, #Hc20, Hb20⟩, A0, HO, ⟨Hr21, #Hc21, Hb21⟩, A1, HK⟩
  ihave A0 := (ag_at X Wo c 2 0 2 512 rfl rfl) $$ A0
  iapply (ag_send X Wo K c 2 0 3 512 rfl (off19_eq c) (off19_eq c) sem220 sem320 (dev19_eq c)
    (by show RefSig.tileCredit ⟨2, ![512, 512]⟩ .bf16 = _; decide) rfl rfl (due320 c)) $$ [Hr20 Hb20 A0 HO]
  · isplitr; · iexact HX
    isplitl [Hr20]; · iexact Hr20
    isplitr; · iexact Hc20
    isplitl [A0]; · iexact A0
    isplitl [Hb20] <;> iassumption
  iintro ⟨W220, W320, HO⟩
  ihave W320 := (sentS_intro c 3 2 0) $$ W320
  ihave A1 := (ag_at X Wo c 2 1 2 512 rfl rfl) $$ A1
  iapply (ag_send X Wo K c 2 1 2 512 rfl (off20_eq c) (off20_eq c) sem221 sem321 (dev20_eq c)
    (by show RefSig.tileCredit ⟨2, ![512, 512]⟩ .bf16 = _; decide) rfl rfl (due321 c)) $$ [Hr21 Hb21 A1 HO]
  · isplitr; · iexact HX
    isplitl [Hr21]; · iexact Hr21
    isplitr; · iexact Hc21
    isplitl [A1]; · iexact A1
    isplitl [Hb21] <;> iassumption
  iintro ⟨W221, W321, HO⟩
  ihave W321 := (sentS_intro c 3 2 1) $$ W321
  iapply (wait_for X Wo K c 2 2 0 2 sem220 (by show RefSig.tileCredit ⟨2, ![512, 512]⟩ .bf16 = _; decide) (by decide)) $$ [W220 HO]
  · isplitr; · iexact HX
    isplitl [W220] <;> iassumption
  iintro ⟨P220, Hd220, HO⟩
  iapply (wp_pure_intro c)
  iapply HK
  isplitl [HO]; · iexact HO
  isplitl [W320]; · iexact W320
  isplitl [W221]; · iexact W221
  isplitl [W321]; · iexact W321
  isplitl [P220]; · iexact P220
  iexact Hd220

/-- Part 41. -/
theorem b_part41 (v2 : BitVec 32) (v1323 : BitVec 32) (v1337 : BitVec 32) (v1338 : BitVec 32) (v1347 : BitVec 32) {Kt : _ → sProp 𝕄} :
    iprop(ctx0 X Wo K ∗ sentS 3 2 0 c ∗ ow c 2 ∗ dmaPay X Wo 2 2 0 c ∗ sentS 2 2 1 c ∗ sentS 3 2 1 c
        ∗ (∀ r, (ow c 2 ∗ past 3 2 0 c ∗ agAt X Wo (ks 0 1 c) 1024 0 c ∗ past 2 2 1 c ∗ past 3 2 1 c ∗ agAt X Wo (ks 1 1 c) 1024 1 c) -∗ Kt r))
      ⊢ wp frame (wpE (defs₀ (F := F)) 𝒱₀ c none) Set.univ (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1323 v1337 v1338 v1347) Kt := by
  rw [k0_part41_eq_skeleton]; unfold k0_part41_skel
  iintro ⟨#HX, W320, HO, Hd220, W221, W321, HK⟩
  iapply (wait_for X Wo K c 3 2 0 2 sem320 (by show RefSig.tileCredit ⟨2, ![512, 512]⟩ .bf16 = _; decide) (by decide)) $$ [W320 HO]
  · isplitr; · iexact HX
    isplitl [W320] <;> iassumption
  iintro ⟨P320, Hd320, HO⟩
  ihave A0 := (ag_back X Wo c 2 0 1 1024 rfl rfl) $$ [Hd220 Hd320]
  · isplitl [Hd220] <;> iassumption
  iapply (wait_for X Wo K c 2 2 1 2 sem221 (by show RefSig.tileCredit ⟨2, ![512, 512]⟩ .bf16 = _; decide) (by decide)) $$ [W221 HO]
  · isplitr; · iexact HX
    isplitl [W221] <;> iassumption
  iintro ⟨P221, Hd221, HO⟩
  iapply (wait_for X Wo K c 3 2 1 2 sem321 (by show RefSig.tileCredit ⟨2, ![512, 512]⟩ .bf16 = _; decide) (by decide)) $$ [W321 HO]
  · isplitr; · iexact HX
    isplitl [W321] <;> iassumption
  iintro ⟨P321, Hd321, HO⟩
  ihave A1 := (ag_back X Wo c 2 1 1 1024 rfl rfl) $$ [Hd221 Hd321]
  · isplitl [Hd221] <;> iassumption
  iapply (wp_pure_intro c)
  iapply HK
  isplitl [HO]; · iexact HO
  isplitl [P320]; · iexact P320
  isplitl [A0]; · iexact A0
  isplitl [P221]; · iexact P221
  isplitl [P321]; · iexact P321
  iexact A1

/-- Part 42. -/
theorem b_part42 (v2 : BitVec 32) (v1384 : BitVec 32) (v1385 : BitVec 32) {Kt : _ → sProp 𝕄} :
    iprop(ctx0 X Wo K ∗ agPre 3 0 c ∗ agAt X Wo (ks 0 1 c) 1024 0 c ∗ ow c 2 ∗ agPre 3 1 c ∗ agAt X Wo (ks 1 1 c) 1024 1 c
        ∗ (∀ r, (ow c 0 ∗ sentS 2 3 1 c ∗ sentS 3 3 1 c ∗ past 2 3 0 c ∗ past 3 3 0 c ∗ agAt X Wo (ks 0 0 c) 2048 0 c) -∗ Kt r))
      ⊢ wp frame (wpE (defs₀ (F := F)) 𝒱₀ c none) Set.univ (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v1384 v1385) Kt := by
  rw [k0_part42_eq_skeleton]; unfold k0_part42_skel
  unfold agPre
  iintro ⟨#HX, ⟨Hr30, #Hc30, Hb30⟩, A0, HO, ⟨Hr31, #Hc31, Hb31⟩, A1, HK⟩
  ihave A0 := (ag_at X Wo c 3 0 1 1024 rfl rfl) $$ A0
  iapply (ag_send X Wo K c 3 0 1 1024 rfl (off21_eq c) (off21_eq c) sem230 sem330 (dev21_eq c)
    (by show RefSig.tileCredit ⟨2, ![1024, 512]⟩ .bf16 = _; decide) rfl rfl (due330 c)) $$ [Hr30 Hb30 A0 HO]
  · isplitr; · iexact HX
    isplitl [Hr30]; · iexact Hr30
    isplitr; · iexact Hc30
    isplitl [A0]; · iexact A0
    isplitl [Hb30] <;> iassumption
  iintro ⟨W230, W330, HO⟩
  ihave W330 := (sentS_intro c 3 3 0) $$ W330
  ihave A1 := (ag_at X Wo c 3 1 1 1024 rfl rfl) $$ A1
  iapply (ag_send X Wo K c 3 1 0 1024 rfl (off22_eq c) (off22_eq c) sem231 sem331 (dev22_eq c)
    (by show RefSig.tileCredit ⟨2, ![1024, 512]⟩ .bf16 = _; decide) rfl rfl (due331 c)) $$ [Hr31 Hb31 A1 HO]
  · isplitr; · iexact HX
    isplitl [Hr31]; · iexact Hr31
    isplitr; · iexact Hc31
    isplitl [A1]; · iexact A1
    isplitl [Hb31] <;> iassumption
  iintro ⟨W231, W331, HO⟩
  ihave W331 := (sentS_intro c 3 3 1) $$ W331
  iapply (wait_for X Wo K c 2 3 0 0 sem230 (by show RefSig.tileCredit ⟨2, ![1024, 512]⟩ .bf16 = _; decide) (by decide)) $$ [W230 HO]
  · isplitr; · iexact HX
    isplitl [W230] <;> iassumption
  iintro ⟨P230, Hd230, HO⟩
  iapply (wait_for X Wo K c 3 3 0 0 sem330 (by show RefSig.tileCredit ⟨2, ![1024, 512]⟩ .bf16 = _; decide) (by decide)) $$ [W330 HO]
  · isplitr; · iexact HX
    isplitl [W330] <;> iassumption
  iintro ⟨P330, Hd330, HO⟩
  ihave A0 := (ag_back X Wo c 3 0 0 2048 rfl rfl) $$ [Hd230 Hd330]
  · isplitl [Hd230] <;> iassumption
  iapply (wp_pure_intro c)
  iapply HK
  isplitl [HO]; · iexact HO
  isplitl [W231]; · iexact W231
  isplitl [W331]; · iexact W331
  isplitl [P230]; · iexact P230
  isplitl [P330]; · iexact P330
  iexact A0

end Cert.KernelIdeal.Body
-- ==== Proof.KernelIdeal.Body.lean ====
/-
  The body of the kernel, run whole: what each device holds before it and after it.
-/
module

public import proofs.«01_k».proof.Proof.KernelIdeal.Reduce
public import proofs.«01_k».proof.Proof.KernelIdeal.Gather

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-! ## What a device grants, and what it is granted -/

/-- The rounds a device knows begun: those of its own cells. -/
def known (c : Dev nD) : sProp 𝕄 := bigSep Finset.univ fun x : Fin 4 × Fin 4 × Fin 2 => reached ER (cell x.1 x.2.1 x.2.2 c) 0
instance known_persistent : Persistent (known (F := F) c) := by unfold known; infer_instance

theorem known_rs (j : Fin 4) (s : Fin 2) : (known c : sProp 𝕄) ⊢ reached ER (cell 1 j s c) 0 := by
  have h : (bigSep Finset.univ fun x : Fin 4 × Fin 4 × Fin 2 => (reached ER (cell x.1 x.2.1 x.2.2 c) 0 : sProp 𝕄)) ⊢ reached ER (cell 1 j s c) 0 :=
    bigSep_elim (Finset.mem_univ ((1 : Fin 4), j, s))
  exact h
theorem known_ag (j : Fin 4) (s : Fin 2) : (known c : sProp 𝕄) ⊢ reached ER (cell 3 j s c) 0 := by
  have h : (bigSep Finset.univ fun x : Fin 4 × Fin 4 × Fin 2 => (reached ER (cell x.1 x.2.1 x.2.2 c) 0 : sProp 𝕄)) ⊢ reached ER (cell 3 j s c) 0 :=
    bigSep_elim (Finset.mem_univ ((3 : Fin 4), j, s))
  exact h

theorem grant_make (j : Fin 4) (s : Fin 2) :
    iprop(known c ∗ rsbAny j s c ∗ agAny (ks s (j.val + 1) (pr s j c)) (len j) s c) ⊢ (grant (bitIx s j) s c (pr s j c) : sProp 𝕄) := by
  unfold grant
  rw [stepIx_bitIx]
  iintro ⟨#Hk, Hr, Ha⟩
  isplitl [Hr]; · iexact Hr
  isplitl [Ha]; · iexact Ha
  isplitr
  · iapply (known_rs c j s); iexact Hk
  · iapply (known_ag c (opp j) s); iexact Hk

theorem grant_open (j : Fin 4) (s : Fin 2) : (grant (bitIx s j) s (pr s j c) c : sProp 𝕄)
    ⊢ iprop(rsbAny j s (pr s j c) ∗ agAny (ks s (j.val + 1) c) (len j) s (pr s j c) ∗ reached ER (cell 1 j s (pr s j c)) 0 ∗ reached ER (cell 3 (opp j) s (pr s j c)) 0) := by
  unfold grant
  rw [stepIx_bitIx]

theorem barPay_make (k : Fin 4) (j0 j1 : Fin 4) (h0 : bitIx 0 j0 = k) (h1 : bitIx 1 j1 = k) :
    iprop(grant (bitIx 0 j0) 0 c (pr 0 j0 c) ∗ grant (bitIx 1 j1) 1 c (pr 1 j1 c)) ⊢ (barPay k (px k c) : sProp 𝕄) := by
  subst h0
  unfold barPay pr
  rw [h1, px_px]

theorem barPay_open (k : Fin 4) (j0 j1 : Fin 4) (h0 : bitIx 0 j0 = k) (h1 : bitIx 1 j1 = k) :
    (barPay k c : sProp 𝕄) ⊢ iprop(grant (bitIx 0 j0) 0 (pr 0 j0 c) c ∗ grant (bitIx 1 j1) 1 (pr 1 j1 c) c) := by
  subst h0
  unfold barPay pr
  rw [h1]

/-- The rows of the gathering buffer a device keeps and those it grants, step by step. -/
theorem ag_grants (s : Fin 2) : (agAny (F := F) 0 2048 s c : sProp 𝕄)
    ⊢ iprop(agAny (ks s 4 c) 128 s c ∗ agAny (ks s 1 (pr s 0 c)) (len 0) s c ∗ agAny (ks s 2 (pr s 1 c)) (len 1) s c
        ∗ agAny (ks s 3 (pr s 2 c)) (len 2) s c ∗ agAny (ks s 4 (pr s 3 c)) (len 3) s c) := by
  have h0 : (agAny (F := F) 0 2048 s c : sProp 𝕄) ⊢ iprop(agAny (ks s 1 c) (len 1 + len 1) s c ∗ agAny (ks s 1 (pr s 0 c)) (len 0) s c) := ag_split c s 0
  have h1 : (agAny (F := F) (ks s 1 c) (len 1 + len 1) s c : sProp 𝕄) ⊢ iprop(agAny (ks s 2 c) (len 2 + len 2) s c ∗ agAny (ks s 2 (pr s 1 c)) (len 1) s c) := ag_split c s 1
  have h2 : (agAny (F := F) (ks s 2 c) (len 2 + len 2) s c : sProp 𝕄) ⊢ iprop(agAny (ks s 3 c) (len 3 + len 3) s c ∗ agAny (ks s 3 (pr s 2 c)) (len 2) s c) := ag_split c s 2
  have h3 : (agAny (F := F) (ks s 3 c) (len 3 + len 3) s c : sProp 𝕄) ⊢ iprop(agAny (ks s 4 c) 128 s c ∗ agAny (ks s 4 (pr s 3 c)) (len 3) s c) := ag_split c s 3
  iintro H
  ihave H := h0 $$ H
  icases H with ⟨H, H0⟩
  ihave H := h1 $$ H
  icases H with ⟨H, H1⟩
  ihave H := h2 $$ H
  icases H with ⟨H, H2⟩
  ihave H := h3 $$ H
  icases H with ⟨H, H3⟩
  isplitl [H]; · iexact H
  isplitl [H0]; · iexact H0
  isplitl [H1]; · iexact H1
  isplitl [H2] <;> iassumption

/-- The buffers the neighbours write, as the four grants, and the rows a device keeps for itself. -/
theorem grants : iprop(known c ∗ (∃ f, pt c cc0_scratch2 f) ∗ (∃ f, pt c cc0_scratch3 f) ∗ (∃ f, pt c cc0_scratch4 f) ∗ (∃ f, pt c cc0_scratch5 f) ∗ (∃ f, pt c cc0_scratch6 f))
    ⊢ iprop(barPay 0 (px 0 c) ∗ barPay 1 (px 1 c) ∗ barPay 2 (px 2 c) ∗ barPay 3 (px 3 c) ∗ agAny (ks 0 4 c) 128 0 c ∗ agAny (F := F) (ks 1 4 c) 128 1 c) := by
  iintro ⟨#Hk, ⟨%f0, H0⟩, ⟨%f1, H1⟩, ⟨%f2, H2⟩, ⟨%f3, H3⟩, ⟨%fa, Ha⟩⟩
  ihave H0 := (rsb_halves_0 c f0) $$ H0
  icases H0 with ⟨R00, R01⟩
  ihave H1 := (rsb_halves_1 c f1) $$ H1
  icases H1 with ⟨R10, R11⟩
  ihave H2 := (rsb_halves_2 c f2) $$ H2
  icases H2 with ⟨R20, R21⟩
  ihave H3 := (rsb_halves_3 c f3) $$ H3
  icases H3 with ⟨R30, R31⟩
  ihave Ha := (ag_halves c fa) $$ Ha
  icases Ha with ⟨Ha0, Ha1⟩
  ihave Ha0 := (ag_grants c 0) $$ Ha0
  icases Ha0 with ⟨A0, G00, G10, G20, G30⟩
  ihave Ha1 := (ag_grants c 1) $$ Ha1
  icases Ha1 with ⟨A1, G01, G11, G21, G31⟩
  ihave R00 := (show iprop(known c ∗ rsbAny 0 0 c ∗ agAny (ks 0 1 (pr 0 0 c)) (len 0) 0 c) ⊢ (grant (bitIx 0 0) 0 c (pr 0 0 c) : sProp 𝕄) from grant_make c 0 0) $$ [R00 G00]
  · isplitr; · iexact Hk
    isplitl [R00] <;> iassumption
  ihave R01 := (show iprop(known c ∗ rsbAny 0 1 c ∗ agAny (ks 1 1 (pr 1 0 c)) (len 0) 1 c) ⊢ (grant (bitIx 1 0) 1 c (pr 1 0 c) : sProp 𝕄) from grant_make c 0 1) $$ [R01 G01]
  · isplitr; · iexact Hk
    isplitl [R01] <;> iassumption
  ihave R10 := (show iprop(known c ∗ rsbAny 1 0 c ∗ agAny (ks 0 2 (pr 0 1 c)) (len 1) 0 c) ⊢ (grant (bitIx 0 1) 0 c (pr 0 1 c) : sProp 𝕄) from grant_make c 1 0) $$ [R10 G10]
  · isplitr; · iexact Hk
    isplitl [R10] <;> iassumption
  ihave R11 := (show iprop(known c ∗ rsbAny 1 1 c ∗ agAny (ks 1 2 (pr 1 1 c)) (len 1) 1 c) ⊢ (grant (bitIx 1 1) 1 c (pr 1 1 c) : sProp 𝕄) from grant_make c 1 1) $$ [R11 G11]
  · isplitr; · iexact Hk
    isplitl [R11] <;> iassumption
  ihave R20 := (show iprop(known c ∗ rsbAny 2 0 c ∗ agAny (ks 0 3 (pr 0 2 c)) (len 2) 0 c) ⊢ (grant (bitIx 0 2) 0 c (pr 0 2 c) : sProp 𝕄) from grant_make c 2 0) $$ [R20 G20]
  · isplitr; · iexact Hk
    isplitl [R20] <;> iassumption
  ihave R21 := (show iprop(known c ∗ rsbAny 2 1 c ∗ agAny (ks 1 3 (pr 1 2 c)) (len 2) 1 c) ⊢ (grant (bitIx 1 2) 1 c (pr 1 2 c) : sProp 𝕄) from grant_make c 2 1) $$ [R21 G21]
  · isplitr; · iexact Hk
    isplitl [R21] <;> iassumption
  ihave R30 := (show iprop(known c ∗ rsbAny 3 0 c ∗ agAny (ks 0 4 (pr 0 3 c)) (len 3) 0 c) ⊢ (grant (bitIx 0 3) 0 c (pr 0 3 c) : sProp 𝕄) from grant_make c 3 0) $$ [R30 G30]
  · isplitr; · iexact Hk
    isplitl [R30] <;> iassumption
  ihave R31 := (show iprop(known c ∗ rsbAny 3 1 c ∗ agAny (ks 1 4 (pr 1 3 c)) (len 3) 1 c) ⊢ (grant (bitIx 1 3) 1 c (pr 1 3 c) : sProp 𝕄) from grant_make c 3 1) $$ [R31 G31]
  · isplitr; · iexact Hk
    isplitl [R31] <;> iassumption
  isplitl [R00 R11]
  · iapply (barPay_make c 0 0 1 rfl rfl)
    isplitl [R00] <;> iassumption
  isplitl [R20 R31]
  · iapply (barPay_make c 1 2 3 rfl rfl)
    isplitl [R20] <;> iassumption
  isplitl [R10 R01]
  · iapply (barPay_make c 2 1 0 rfl rfl)
    isplitl [R10] <;> iassumption
  isplitl [R30 R21]
  · iapply (barPay_make c 3 3 2 rfl rfl)
    isplitl [R30] <;> iassumption
  isplitl [A0] <;> iassumption

/-! ## The whole body -/

/-- The tokens, positions and credits a device starts with. -/
def start (c : Dev nD) : sProp 𝕄 :=
  iprop(known c ∗ ((dutyTok ER (barCell (px 0 c)) 0 0 ∗ reached ER (barCell (px 0 c)) 0) ∗ (dutyTok ER (barCell (px 1 c)) 0 1 ∗ reached ER (barCell (px 1 c)) 0) ∗ (dutyTok ER (barCell (px 2 c)) 0 2 ∗ reached ER (barCell (px 2 c)) 0) ∗ (dutyTok ER (barCell (px 3 c)) 0 3 ∗ reached ER (barCell (px 3 c)) 0)) ∗ cred (tallyAt (barCell c) () 4) ∗ atPos ER (barCell c) 0 ∅ 0
    ∗ (ready 0 1 0 0 c ∗ ready 0 1 0 1 c ∗ ready 0 1 1 0 c ∗ ready 0 1 1 1 c ∗ ready 0 1 2 0 c ∗ ready 0 1 2 1 c ∗ ready 0 1 3 0 c ∗ ready 0 1 3 1 c) ∗ (ready 2 3 0 0 c ∗ ready 2 3 0 1 c ∗ ready 2 3 1 0 c ∗ ready 2 3 1 1 c ∗ ready 2 3 2 0 c ∗ ready 2 3 2 1 c ∗ ready 2 3 3 0 c ∗ ready 2 3 3 1 c))
/-- The positions it ends with. -/
def done (c : Dev nD) : sProp 𝕄 := iprop(atPos ER (barCell c) 1 ∅ 0 ∗ past 0 0 0 c ∗ past 0 0 1 c ∗ past 0 1 0 c ∗ past 0 1 1 c ∗ past 0 2 0 c ∗ past 0 2 1 c ∗ past 0 3 0 c ∗ past 0 3 1 c ∗ past 1 0 0 c ∗ past 1 0 1 c ∗ past 1 1 0 c ∗ past 1 1 1 c ∗ past 1 2 0 c ∗ past 1 2 1 c ∗ past 1 3 0 c ∗ past 1 3 1 c ∗ past 2 0 0 c ∗ past 2 0 1 c ∗ past 2 1 0 c ∗ past 2 1 1 c ∗ past 2 2 0 c ∗ past 2 2 1 c ∗ past 2 3 0 c ∗ past 2 3 1 c ∗ past 3 0 0 c ∗ past 3 0 1 c ∗ past 3 1 0 c ∗ past 3 1 1 c ∗ past 3 2 0 c ∗ past 3 2 1 c ∗ past 3 3 0 c ∗ past 3 3 1 c)

/-- The scratch buffers, at contents not chosen. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f)
    ∗ (∃ f, pt c cc0_scratch5 f) ∗ (∃ f, pt (F := F) c cc0_scratch6 f))

/-- What the output block holds at the end. -/
def result : FVec F S2048x1024 .f32 := fun i => ex (AG X Wo i)

theorem sig1_intro (k : Fin 4) : iprop(dutyTok ER (barCell (px k c)) 0 k ∗ reached ER (barCell (px k c)) 0 ∗ barPay k (px k c)) ⊢ (sig1 k c : sProp 𝕄) := .rfl
theorem first_intro (s : Fin 2) : iprop(ready 0 1 0 s c ∗ reached ER (cell 1 0 s (pr s 0 c)) 0 ∗ rsbAny 0 s (pr s 0 c) ∗ sbAny 0 1024 s c) ⊢ (first s c : sProp 𝕄) := .rfl
theorem rsPre_intro (j : Fin 4) (s : Fin 2) : iprop(ready 0 1 j s c ∗ reached ER (cell 1 j s (pr s j c)) 0 ∗ rsbAny j s (pr s j c)) ⊢ (rsPre j s c : sProp 𝕄) := .rfl
theorem agPre_intro (a : Fin 4) (s : Fin 2) : iprop(ready 2 3 a s c ∗ reached ER (cell 3 a s (pr s (opp a) c)) 0
    ∗ agAny (ks s ((opp a).val + 1) c) (len (opp a)) s (pr s (opp a) c)) ⊢ (agPre a s c : sProp 𝕄) := .rfl
theorem attRes_intro (q : FVec F S2048x1024 .bf16) (k v : Vec F S8x2048x128 .bf16) (f : FVec F S2048x1024 .bf16) :
    iprop(pt c cc0_stg2_0 k ∗ pt c cc0_stg3_0 v ∗ pt c cc0_scratch0 f) ⊢ (attRes c q k v 0 : sProp 𝕄) := by
  unfold attRes
  iintro ⟨Hk, Hv, Hf⟩
  isplitl [Hk]; · iexact Hk
  isplitl [Hv]; · iexact Hv
  iexists f
  isplitr; · ipureintro; exact fun i h => absurd h (Nat.not_lt_zero _)
  iexact Hf
theorem attRes_elim (q : FVec F S2048x1024 .bf16) (k v : Vec F S8x2048x128 .bf16) :
    attRes c q k v 32 ⊢ (iprop(pt c cc0_stg2_0 k ∗ pt c cc0_stg3_0 v ∗ pt c cc0_scratch0 (ctxOf q k v)) : sProp 𝕄) := by
  unfold attRes
  iintro ⟨Hk, Hv, %f, %hf, Hf⟩
  isplitl [Hk]; · iexact Hk
  isplitl [Hv]; · iexact Hv
  rw [← agrees_full hf]; iexact Hf

theorem final_out (f : Vec F S2048x1024 .f32) :
    ((Memref.whole cc0_stg5_0).access (Rect.unit (s := S2048x1024) ![0, 0] S2048x1024.size inb_S2048x1024_S2048x1024_0_0)).write (Elt F) f
      (k0_pay1 ((Memref.whole cc0_scratch6).view.readAt (Elt F) (Rect.unit (s := S2048x1024) ![0, 0] S2048x1024.size inb_S2048x1024_S2048x1024_0_0).toLoadRect (AG X Wo))) Finset.univ
      = result X Wo := by
  rw [show (Memref.whole cc0_scratch6).view.readAt (Elt F) (Rect.unit (s := S2048x1024) ![0, 0] S2048x1024.size inb_S2048x1024_S2048x1024_0_0).toLoadRect (AG X Wo) = AG X Wo from
    read0 cc0_scratch6 ![0, 0] (by decide) inb_S2048x1024_S2048x1024_0_0 (AG X Wo)]
  funext i
  have h0 := ValueIdx.idx2_lt0 i
  have h1 := ValueIdx.idx2_lt1 i
  refine (write_unit_apply cc0_stg5_0 _ _ inb_S2048x1024_S2048x1024_0_0 f _ i).trans ?_
  refine (dif_pos (fun a => ?_)).trans ?_
  · match a with
    | ⟨0, _⟩ => exact ⟨Nat.zero_le _, by show (i 0).val < 0 + 2048; omega⟩
    | ⟨1, _⟩ => exact ⟨Nat.zero_le _, by show (i 1).val < 0 + 1024; omega⟩
  · unfold k0_pay1 result
    show ex (AG X Wo _) = ex (AG X Wo i)
    congr 2
    funext a
    match a with
    | ⟨0, _⟩ => rfl
    | ⟨1, _⟩ => rfl

set_option maxHeartbeats 8000000 in
/-- The body, run: the tokens are spent, the staged blocks unchanged, and the output block holds the sums. -/
theorem b_body (x : Vec F S2048x1024 .bf16) (wq : Vec F S1024x1024 .bf16) (k v : Vec F S8x2048x128 .bf16) (hX : X c = ctxOf (k0_pay2 x wq) k v) {Kt : _ → sProp 𝕄} :
    iprop(ctx0 X Wo K ∗ start c ∗ ow c 20 ∗ pt c cc0_stg0_0 x ∗ pt c cc0_stg1_0 wq ∗ pt c cc0_stg2_0 k ∗ pt c cc0_stg3_0 v ∗ pt c cc0_stg4_0 (Wo c)
        ∗ (∃ f, pt c cc0_stg5_0 f) ∗ scratch c
        ∗ ((done c ∗ ow c 0 ∗ pt c cc0_stg0_0 x ∗ pt c cc0_stg1_0 wq ∗ pt c cc0_stg2_0 k ∗ pt c cc0_stg3_0 v ∗ pt c cc0_stg4_0 (Wo c)
          ∗ pt c cc0_stg5_0 (result X Wo) ∗ scratch c) -∗ Kt ⟨⟩))
      ⊢ wp frame (wpE (defs₀ (F := F)) 𝒱₀ c none) Set.univ (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt := by
  rw [cc0__body_eq_skeleton]; unfold cc0__body_skel
  rw [k0_part43_eq_skeleton]; unfold k0_part43_skel
  rw [wp_bind, wp_bind]
  unfold start scratch
  iintro ⟨#HX, ⟨#Hk, ⟨⟨Ht0, #Hq0⟩, ⟨Ht1, #Hq1⟩, ⟨Ht2, #Hq2⟩, ⟨Ht3, #Hq3⟩⟩, Hbc, Hba, ⟨N00, N01, N10, N11, N20, N21, N30, N31⟩, ⟨M00, M01, M10, M11, M20, M21, M30, M31⟩⟩, HO,
    Hx, Hwq, Hkk, Hv, Hwo, ⟨%fo, Ho⟩, ⟨⟨%fc, Hc⟩, ⟨%fs, Hs⟩, Hr0, Hr1, Hr2, Hr3, Hag⟩, HK⟩
  ihave Hg := (grants c) $$ [Hr0 Hr1 Hr2 Hr3 Hag]
  · isplitr; · iexact Hk
    isplitl [Hr0]; · iexact Hr0
    isplitl [Hr1]; · iexact Hr1
    isplitl [Hr2]; · iexact Hr2
    isplitl [Hr3] <;> iassumption
  icases Hg with ⟨Hp0, Hp1, Hp2, Hp3, A0, A1⟩
  ihave Hs := (sb_halves c fs) $$ Hs
  icases Hs with ⟨S0, S1⟩
  ihave Z0 := (sig1_intro c 0) $$ [Ht0 Hp0]
  · isplitl [Ht0]; · iexact Ht0
    isplitr; · iexact Hq0
    iexact Hp0
  ihave Z1 := (sig1_intro c 1) $$ [Ht1 Hp1]
  · isplitl [Ht1]; · iexact Ht1
    isplitr; · iexact Hq1
    iexact Hp1
  ihave Z2 := (sig1_intro c 2) $$ [Ht2 Hp2]
  · isplitl [Ht2]; · iexact Ht2
    isplitr; · iexact Hq2
    iexact Hp2
  ihave Z3 := (sig1_intro c 3) $$ [Ht3 Hp3]
  · isplitl [Ht3]; · iexact Ht3
    isplitr; · iexact Hq3
    iexact Hp3
  iapply (b_part1 X Wo K c x wq)
  isplitr; · iexact HX
  isplitl [Z0]; · iexact Z0
  isplitl [Z1]; · iexact Z1
  isplitl [Z2]; · iexact Z2
  isplitl [Z3]; · iexact Z3
  isplitl [Hbc]; · iexact Hbc
  isplitl [Hba]; · iexact Hba
  isplitl [HO]; · iexact HO
  isplitl [Hx]; · iexact Hx
  isplitl [Hwq]; · iexact Hwq
  iintro ⟨Hba, ⟨Hp0, Hp1, Hp2, Hp3⟩, HO, Hx, Hwq⟩
  ihave Hp0 := (barPay_open c 0 0 1 rfl rfl) $$ Hp0
  icases Hp0 with ⟨E00, E11⟩
  ihave Hp1 := (barPay_open c 1 2 3 rfl rfl) $$ Hp1
  icases Hp1 with ⟨E20, E31⟩
  ihave Hp2 := (barPay_open c 2 1 0 rfl rfl) $$ Hp2
  icases Hp2 with ⟨E10, E01⟩
  ihave Hp3 := (barPay_open c 3 3 2 rfl rfl) $$ Hp3
  icases Hp3 with ⟨E30, E21⟩
  ihave E00 := (grant_open c 0 0) $$ E00
  icases E00 with ⟨Eb00, Eg00, #Er00, #Es00⟩
  ihave E01 := (grant_open c 0 1) $$ E01
  icases E01 with ⟨Eb01, Eg01, #Er01, #Es01⟩
  ihave E10 := (grant_open c 1 0) $$ E10
  icases E10 with ⟨Eb10, Eg10, #Er10, #Es10⟩
  ihave E11 := (grant_open c 1 1) $$ E11
  icases E11 with ⟨Eb11, Eg11, #Er11, #Es11⟩
  ihave E20 := (grant_open c 2 0) $$ E20
  icases E20 with ⟨Eb20, Eg20, #Er20, #Es20⟩
  ihave E21 := (grant_open c 2 1) $$ E21
  icases E21 with ⟨Eb21, Eg21, #Er21, #Es21⟩
  ihave E30 := (grant_open c 3 0) $$ E30
  icases E30 with ⟨Eb30, Eg30, #Er30, #Es30⟩
  ihave E31 := (grant_open c 3 1) $$ E31
  icases E31 with ⟨Eb31, Eg31, #Er31, #Es31⟩
  ihave F0 := (first_intro c 0) $$ [N00 Eb00 S0]
  · isplitl [N00]; · iexact N00
    isplitr; · iexact Er00
    isplitl [Eb00] <;> iassumption
  ihave F1 := (first_intro c 1) $$ [N01 Eb01 S1]
  · isplitl [N01]; · iexact N01
    isplitr; · iexact Er01
    isplitl [Eb01] <;> iassumption
  ihave R10 := (rsPre_intro c 1 0) $$ [N10 Eb10]
  · isplitl [N10]; · iexact N10
    isplitr; · iexact Er10
    iexact Eb10
  ihave R11 := (rsPre_intro c 1 1) $$ [N11 Eb11]
  · isplitl [N11]; · iexact N11
    isplitr; · iexact Er11
    iexact Eb11
  ihave R20 := (rsPre_intro c 2 0) $$ [N20 Eb20]
  · isplitl [N20]; · iexact N20
    isplitr; · iexact Er20
    iexact Eb20
  ihave R21 := (rsPre_intro c 2 1) $$ [N21 Eb21]
  · isplitl [N21]; · iexact N21
    isplitr; · iexact Er21
    iexact Eb21
  ihave R30 := (rsPre_intro c 3 0) $$ [N30 Eb30]
  · isplitl [N30]; · iexact N30
    isplitr; · iexact Er30
    iexact Eb30
  ihave R31 := (rsPre_intro c 3 1) $$ [N31 Eb31]
  · isplitl [N31]; · iexact N31
    isplitr; · iexact Er31
    iexact Eb31
  ihave G00 := (agPre_intro c 0 0) $$ [M00 Eg30]
  · isplitl [M00]; · iexact M00
    isplitr; · iexact Es30
    iexact Eg30
  ihave G01 := (agPre_intro c 0 1) $$ [M01 Eg31]
  · isplitl [M01]; · iexact M01
    isplitr; · iexact Es31
    iexact Eg31
  ihave G10 := (agPre_intro c 1 0) $$ [M10 Eg20]
  · isplitl [M10]; · iexact M10
    isplitr; · iexact Es20
    iexact Eg20
  ihave G11 := (agPre_intro c 1 1) $$ [M11 Eg21]
  · isplitl [M11]; · iexact M11
    isplitr; · iexact Es21
    iexact Eg21
  ihave G20 := (agPre_intro c 2 0) $$ [M20 Eg10]
  · isplitl [M20]; · iexact M20
    isplitr; · iexact Es10
    iexact Eg10
  ihave G21 := (agPre_intro c 2 1) $$ [M21 Eg11]
  · isplitl [M21]; · iexact M21
    isplitr; · iexact Es11
    iexact Eg11
  ihave G30 := (agPre_intro c 3 0) $$ [M30 Eg00]
  · isplitl [M30]; · iexact M30
    isplitr; · iexact Es00
    iexact Eg00
  ihave G31 := (agPre_intro c 3 1) $$ [M31 Eg01]
  · isplitl [M31]; · iexact M31
    isplitr; · iexact Es01
    iexact Eg01
  ihave H := (attRes_intro c (k0_pay2 x wq) k v fc) $$ [Hkk Hv Hc]
  · isplitl [Hkk]; · iexact Hkk
    isplitl [Hv] <;> iassumption
  rw [wp_bind]
  iapply (att_part2 c (k0_pay2 x wq) k v)
  isplitl [H]; · iexact H
  iintro H
  rw [wp_bind]
  iapply (att_part3 c (k0_pay2 x wq) k v)
  isplitl [H]; · iexact H
  iintro H
  rw [wp_bind]
  iapply (att_part4 c (k0_pay2 x wq) k v)
  isplitl [H]; · iexact H
  iintro H
  rw [wp_bind]
  iapply (att_part5 c (k0_pay2 x wq) k v)
  isplitl [H]; · iexact H
  iintro H
  rw [wp_bind]
  iapply (att_part6 c (k0_pay2 x wq) k v)
  isplitl [H]; · iexact H
  iintro H
  rw [wp_bind]
  iapply (att_part7 c (k0_pay2 x wq) k v)
  isplitl [H]; · iexact H
  iintro H
  rw [wp_bind]
  iapply (att_part8 c (k0_pay2 x wq) k v)
  isplitl [H]; · iexact H
  iintro H
  rw [wp_bind]
  iapply (att_part9 c (k0_pay2 x wq) k v)
  isplitl [H]; · iexact H
  iintro H
  rw [wp_bind]
  iapply (att_part10 c (k0_pay2 x wq) k v)
  isplitl [H]; · iexact H
  iintro H
  rw [wp_bind]
  iapply (att_part11 c (k0_pay2 x wq) k v)
  isplitl [H]; · iexact H
  iintro H
  rw [wp_bind]
  iapply (att_part12 c (k0_pay2 x wq) k v)
  isplitl [H]; · iexact H
  iintro H
  rw [wp_bind]
  iapply (att_part13 c (k0_pay2 x wq) k v)
  isplitl [H]; · iexact H
  iintro H
  rw [wp_bind]
  iapply (att_part14 c (k0_pay2 x wq) k v)
  isplitl [H]; · iexact H
  iintro H
  rw [wp_bind]
  iapply (att_part15 c (k0_pay2 x wq) k v)
  isplitl [H]; · iexact H
  iintro H
  rw [wp_bind]
  iapply (att_part16 c (k0_pay2 x wq) k v)
  isplitl [H]; · iexact H
  iintro H
  rw [wp_bind]
  iapply (att_part17 c (k0_pay2 x wq) k v)
  isplitl [H]; · iexact H
  iintro H
  rw [wp_bind]
  iapply (att_part18 c (k0_pay2 x wq) k v)
  isplitl [H]; · iexact H
  iintro H
  rw [wp_bind]
  iapply (att_part19 c (k0_pay2 x wq) k v)
  isplitl [H]; · iexact H
  iintro H
  rw [wp_bind]
  iapply (att_part20 c (k0_pay2 x wq) k v)
  isplitl [H]; · iexact H
  iintro H
  rw [wp_bind]
  iapply (att_part21 c (k0_pay2 x wq) k v)
  isplitl [H]; · iexact H
  iintro H
  rw [wp_bind]
  iapply (att_part22 c (k0_pay2 x wq) k v)
  isplitl [H]; · iexact H
  iintro H
  rw [wp_bind]
  iapply (att_part23 c (k0_pay2 x wq) k v)
  isplitl [H]; · iexact H
  iintro H
  rw [wp_bind]
  iapply (att_part24 c (k0_pay2 x wq) k v (nbW c))
  isplitl [H]; · iexact H
  iintro H
  ihave H := (attRes_elim c (k0_pay2 x wq) k v) $$ H
  icases H with ⟨Hkk, Hv, Hc⟩
  rw [← hX]
  ihave Ho := (outD_none c (X c) (Wo c)) $$ [Ho]
  · iexists fo; iexact Ho
  rw [wp_bind]
  iapply (b_part25 X Wo K c)
  isplitr; · iexact HX
  isplitl [F0]; · iexact F0
  isplitl [F1]; · iexact F1
  isplitl [HO]; · iexact HO
  isplitl [Hc]; · iexact Hc
  isplitl [Hwo]; · iexact Hwo
  isplitl [Ho]; · iexact Ho
  unfold firstSent
  iintro ⟨⟨W000, W100, T0⟩, ⟨W001, W101, T1⟩, HO, Hc, Hwo, Ho⟩
  ihave W100 := (sentS_intro c 1 0 0) $$ W100
  ihave W101 := (sentS_intro c 1 0 1) $$ W101
  rw [wp_bind]
  iapply (b_part26 X Wo K c)
  isplitr; · iexact HX
  isplitl [W000]; · iexact W000
  isplitl [HO]; · iexact HO
  isplitl [T0]; · iexact T0
  isplitl [W100]; · iexact W100
  isplitl [Ho]; · iexact Ho
  isplitl [W001]; · iexact W001
  isplitl [T1]; · iexact T1
  iintro %r26 ⟨HO, Ho, P000, S0, P100, B00, P001, S1⟩
  rw [wp_bind]
  iapply (b_part27 X Wo K c)
  isplitr; · iexact HX
  isplitl [W101]; · iexact W101
  isplitl [HO]; · iexact HO
  isplitl [Ho]; · iexact Ho
  isplitl [S0]; · iexact S0
  iintro %r27 ⟨HO, Ho, P101, B01, Q0, T0⟩
  obtain ⟨r27_0, r27_1⟩ := r27
  rw [wp_bind]
  iapply (b_part28 X Wo K c)
  isplitr; · iexact HX
  isplitl [R10]; · iexact R10
  isplitl [Q0]; · iexact Q0
  isplitl [HO]; · iexact HO
  isplitl [Ho]; · iexact Ho
  isplitl [S1]; · iexact S1
  isplitl [R11]; · iexact R11
  iintro %r28 ⟨HO, Ho, W010, W110, T1, W011, W111⟩
  obtain ⟨r28_0, r28_1⟩ := r28
  rw [wp_bind]
  iapply (b_part29 X Wo K c)
  isplitr; · iexact HX
  isplitl [W010]; · iexact W010
  isplitl [HO]; · iexact HO
  isplitl [T0]; · iexact T0
  isplitl [W110]; · iexact W110
  isplitl [Ho]; · iexact Ho
  isplitl [W011]; · iexact W011
  isplitl [T1]; · iexact T1
  iintro %r29 ⟨HO, Ho, P010, S0, P110, B10, P011, S1⟩
  rw [wp_bind]
  iapply (b_part30 X Wo K c)
  isplitr; · iexact HX
  isplitl [W111]; · iexact W111
  isplitl [HO]; · iexact HO
  isplitl [Ho]; · iexact Ho
  isplitl [S0]; · iexact S0
  iintro %r30 ⟨HO, Ho, P111, B11, Q0, T0⟩
  obtain ⟨r30_0, r30_1⟩ := r30
  rw [wp_bind]
  iapply (b_part31 X Wo K c)
  isplitr; · iexact HX
  isplitl [R20]; · iexact R20
  isplitl [Q0]; · iexact Q0
  isplitl [HO]; · iexact HO
  isplitl [Ho]; · iexact Ho
  isplitl [S1]; · iexact S1
  isplitl [R21]; · iexact R21
  iintro %r31 ⟨HO, Ho, W020, W120, T1, W021, W121⟩
  obtain ⟨r31_0, r31_1⟩ := r31
  rw [wp_bind]
  iapply (b_part32 X Wo K c)
  isplitr; · iexact HX
  isplitl [W020]; · iexact W020
  isplitl [HO]; · iexact HO
  isplitl [T0]; · iexact T0
  isplitl [W120]; · iexact W120
  isplitl [Ho]; · iexact Ho
  isplitl [W021]; · iexact W021
  isplitl [T1]; · iexact T1
  iintro %r32 ⟨HO, Ho, P020, S0, P120, B20, P021, S1⟩
  rw [wp_bind]
  iapply (b_part33 X Wo K c)
  isplitr; · iexact HX
  isplitl [W121]; · iexact W121
  isplitl [HO]; · iexact HO
  isplitl [Ho]; · iexact Ho
  isplitl [S0]; · iexact S0
  isplitl [R30]; · iexact R30
  iintro %r33 ⟨HO, Ho, P121, B21, T0, W030, W130⟩
  obtain ⟨r33_0, r33_1⟩ := r33
  rw [wp_bind]
  iapply (b_part34 X Wo K c)
  isplitr; · iexact HX
  isplitl [Ho]; · iexact Ho
  isplitl [S1]; · iexact S1
  isplitl [R31]; · iexact R31
  isplitl [HO]; · iexact HO
  isplitl [W030]; · iexact W030
  isplitl [T0]; · iexact T0
  iintro %r34 ⟨HO, Ho, T1, W031, W131, P030, S0⟩
  obtain ⟨r34_0, r34_1⟩ := r34
  rw [wp_bind]
  iapply (b_part35 X Wo K c)
  isplitr; · iexact HX
  isplitl [W130]; · iexact W130
  isplitl [HO]; · iexact HO
  isplitl [Ho]; · iexact Ho
  isplitl [W031]; · iexact W031
  isplitl [T1]; · iexact T1
  isplitl [W131]; · iexact W131
  iintro %r35 ⟨HO, Ho, P130, B30, P031, S1, P131, Hd131⟩
  rw [wp_bind]
  iapply (b_part36 X Wo K c)
  isplitr; · iexact HX
  isplitl [Ho]; · iexact Ho
  isplitl [Hd131]; · iexact Hd131
  isplitl [A0]; · iexact A0
  isplitl [A1]; · iexact A1
  isplitl [G00]; · iexact G00
  isplitl [HO]; · iexact HO
  iintro %r36 ⟨HO, Ho, A1, B31, W200, W300⟩
  obtain ⟨r36_0, r36_1, r36_2⟩ := r36
  rw [wp_bind]
  iapply (b_part37 X Wo K c)
  isplitr; · iexact HX
  isplitl [G01]; · iexact G01
  isplitl [A1]; · iexact A1
  isplitl [HO]; · iexact HO
  isplitl [W200]; · iexact W200
  isplitl [W300]; · iexact W300
  iintro %r37 ⟨HO, W301, P200, P300, A0, P201, Hd201⟩
  rw [wp_bind]
  iapply (b_part38 X Wo K c)
  isplitr; · iexact HX
  isplitl [W301]; · iexact W301
  isplitl [HO]; · iexact HO
  isplitl [Hd201]; · iexact Hd201
  isplitl [G10]; · iexact G10
  isplitl [A0]; · iexact A0
  isplitl [G11]; · iexact G11
  iintro %r38 ⟨HO, P301, W210, W310, W211, W311⟩
  obtain ⟨r38_0, r38_1, r38_2⟩ := r38
  rw [wp_bind]
  iapply (b_part39 X Wo K c)
  isplitr; · iexact HX
  isplitl [W210]; · iexact W210
  isplitl [HO]; · iexact HO
  isplitl [W310]; · iexact W310
  isplitl [W211]; · iexact W211
  isplitl [W311]; · iexact W311
  iintro %r39 ⟨HO, P210, P310, A0, P211, P311, A1⟩
  obtain ⟨r39_0, r39_1⟩ := r39
  rw [wp_bind]
  iapply (b_part40 X Wo K c)
  isplitr; · iexact HX
  isplitl [G20]; · iexact G20
  isplitl [A0]; · iexact A0
  isplitl [HO]; · iexact HO
  isplitl [G21]; · iexact G21
  isplitl [A1]; · iexact A1
  iintro %r40 ⟨HO, W320, W221, W321, P220, Hd220⟩
  obtain ⟨r40_0, r40_1, r40_2⟩ := r40
  rw [wp_bind]
  iapply (b_part41 X Wo K c)
  isplitr; · iexact HX
  isplitl [W320]; · iexact W320
  isplitl [HO]; · iexact HO
  isplitl [Hd220]; · iexact Hd220
  isplitl [W221]; · iexact W221
  isplitl [W321]; · iexact W321
  iintro %r41 ⟨HO, P320, A0, P221, P321, A1⟩
  obtain ⟨r41_0, r41_1⟩ := r41
  rw [wp_bind]
  iapply (b_part42 X Wo K c)
  isplitr; · iexact HX
  isplitl [G30]; · iexact G30
  isplitl [A0]; · iexact A0
  isplitl [HO]; · iexact HO
  isplitl [G31]; · iexact G31
  isplitl [A1]; · iexact A1
  iintro %r42 ⟨HO, W231, W331, P230, P330, A0⟩
  iapply (wait_for X Wo K c 2 3 1 0 sem231 (by show RefSig.tileCredit ⟨2, ![1024, 512]⟩ .bf16 = _; decide) (by decide)) $$ [W231 HO]
  · isplitr; · iexact HX
    isplitl [W231] <;> iassumption
  iintro ⟨P231, Hd231, HO⟩
  iapply (wp_pure_intro c)
  iapply (wait_for X Wo K c 3 3 1 0 sem331 (by show RefSig.tileCredit ⟨2, ![1024, 512]⟩ .bf16 = _; decide) (by decide)) $$ [W331 HO]
  · isplitr; · iexact HX
    isplitl [W331] <;> iassumption
  iintro ⟨P331, Hd331, HO⟩
  ihave A1 := (ag_back X Wo c 3 1 0 2048 rfl rfl) $$ [Hd231 Hd331]
  · isplitl [Hd231] <;> iassumption
  ihave HA := (show iprop(agAt X Wo (ks 0 0 c) 2048 0 c ∗ agAt X Wo (ks 1 0 c) 2048 1 c) ⊢ (pt c cc0_scratch6 (AG X Wo) : sProp 𝕄) from ag_whole X Wo c) $$ [A0 A1]
  · isplitl [A0] <;> iassumption
  rw [Prog.bind_lift]
  iapply (wp_load 𝒱₀ (c : Thread nD τ) none Set.univ (m := Memref.whole cc0_scratch6) (Finset.subset_univ _)) $$ HA; iintro HA
  rw [Prog.bind_lift]
  iapply (wp_load 𝒱₀ (c : Thread nD τ) none Set.univ (m := Memref.whole cc0_stg5_0) (Finset.subset_univ _)) $$ Ho; iintro Ho
  rw [Prog.bind_lift]
  iapply (wp_store 𝒱₀ (c : Thread nD τ) none Set.univ (m := Memref.whole cc0_stg5_0) (r := Rect.unit (s := S2048x1024) ![0, 0] S2048x1024.size inb_S2048x1024_S2048x1024_0_0) (S := Finset.univ) (Finset.subset_univ _)) $$ Ho; iintro Ho
  rw [final_out X Wo]
  iapply (wp_pure_intro c)
  iapply HK
  isplitl [Hba P000 P001 P010 P011 P020 P021 P030 P031 P100 P101 P110 P111 P120 P121 P130 P131 P200 P201 P210 P211 P220 P221 P230 P231 P300 P301 P310 P311 P320 P321 P330 P331]
  · unfold done
    isplitl [Hba]; · iexact Hba
    isplitl [P000]; · iexact P000
    isplitl [P001]; · iexact P001
    isplitl [P010]; · iexact P010
    isplitl [P011]; · iexact P011
    isplitl [P020]; · iexact P020
    isplitl [P021]; · iexact P021
    isplitl [P030]; · iexact P030
    isplitl [P031]; · iexact P031
    isplitl [P100]; · iexact P100
    isplitl [P101]; · iexact P101
    isplitl [P110]; · iexact P110
    isplitl [P111]; · iexact P111
    isplitl [P120]; · iexact P120
    isplitl [P121]; · iexact P121
    isplitl [P130]; · iexact P130
    isplitl [P131]; · iexact P131
    isplitl [P200]; · iexact P200
    isplitl [P201]; · iexact P201
    isplitl [P210]; · iexact P210
    isplitl [P211]; · iexact P211
    isplitl [P220]; · iexact P220
    isplitl [P221]; · iexact P221
    isplitl [P230]; · iexact P230
    isplitl [P231]; · iexact P231
    isplitl [P300]; · iexact P300
    isplitl [P301]; · iexact P301
    isplitl [P310]; · iexact P310
    isplitl [P311]; · iexact P311
    isplitl [P320]; · iexact P320
    isplitl [P321]; · iexact P321
    isplitl [P330]; · iexact P330
    iexact P331
  isplitl [HO]; · iexact HO
  isplitl [Hx]; · iexact Hx
  isplitl [Hwq]; · iexact Hwq
  isplitl [Hkk]; · iexact Hkk
  isplitl [Hv]; · iexact Hv
  isplitl [Hwo]; · iexact Hwo
  isplitl [Ho]; · iexact Ho
  isplitl [Hc]; · iexists _; iexact Hc
  isplitl [S0 S1]
  · iapply (sb_whole c); isplitl [S0] <;> iassumption
  isplitl [B00 B01]
  · iapply (rsb_whole_0 X Wo c); isplitl [B00] <;> iassumption
  isplitl [B10 B11]
  · iapply (rsb_whole_1 X Wo c); isplitl [B10] <;> iassumption
  isplitl [B20 B21]
  · iapply (rsb_whole_2 X Wo c); isplitl [B20] <;> iassumption
  isplitl [B30 B31]
  · iapply (rsb_whole_3 X Wo c); isplitl [B30] <;> iassumption
  iexists _; iexact HA

end Cert.KernelIdeal.Body
-- ==== Proof.KernelIdeal.Ghost.lean ====
/-
  The launch of the exchange: what is funded for each device, and how the tokens are dealt round the mesh.
-/
module

public import proofs.«01_k».proof.Proof.KernelIdeal.Body
public import Idealize.ShloMosaic.Lib.Pipeline.Launch

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ UU ℕ

variable (X : Dev nD → FVec F S2048x1024 .bf16) (Wo : Dev nD → Vec F S1024x1024 .bf16)
variable (K : GSem nD τ sig → ℕ) (c : Dev nD)

/-- The cells of the exchange, by kind, step and half. -/
abbrev IX : Type := Fin 4 × Fin 4 × Fin 2
abbrev JS : Type := Fin 4 × Fin 2
abbrev icell (x : IX) (c : Dev nD) : GSem nD τ sig := cell x.1 x.2.1 x.2.2 c
/-- The kernel's own semaphores. -/
abbrev osem (x : IX) : SemLoc sig := .dma (dsem x.1 x.2.1 x.2.2)

/-! ## Families, one by one -/

theorem joined {ι : Type} [DecidableEq ι] {S : Finset ι} {Φ Ψ : ι → sProp 𝕄} : iprop(bigSep S Φ ∗ bigSep S Ψ) ⊢ bigSep S fun i => iprop(Φ i ∗ Ψ i) :=
  Entails.of_eq (bigSep_sep' _ _ _).symm
theorem parted {ι : Type} [DecidableEq ι] {S : Finset ι} {Φ Ψ : ι → sProp 𝕄} : (bigSep S fun i => iprop(Φ i ∗ Ψ i)) ⊢ iprop(bigSep S Φ ∗ bigSep S Ψ) :=
  Entails.of_eq (bigSep_sep' _ _ _)
theorem big4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigJS (Φ : JS → sProp 𝕄) : bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
theorem bigIX (Φ : IX → sProp 𝕄) : bigSep Finset.univ Φ = iprop((bigSep Finset.univ fun y : JS => Φ (0, y)) ∗ (bigSep Finset.univ fun y : JS => Φ (1, y))
    ∗ (bigSep Finset.univ fun y : JS => Φ (2, y)) ∗ (bigSep Finset.univ fun y : JS => Φ (3, y))) := by
  rw [bigSep_univ_prod, big4]
theorem bigIX_list (Φ : IX → sProp 𝕄) : bigSep Finset.univ Φ = iprop(Φ (0, 0, 0) ∗ Φ (0, 0, 1) ∗ Φ (0, 1, 0) ∗ Φ (0, 1, 1) ∗ Φ (0, 2, 0) ∗ Φ (0, 2, 1) ∗ Φ (0, 3, 0) ∗ Φ (0, 3, 1) ∗ Φ (1, 0, 0) ∗ Φ (1, 0, 1) ∗ Φ (1, 1, 0) ∗ Φ (1, 1, 1) ∗ Φ (1, 2, 0) ∗ Φ (1, 2, 1) ∗ Φ (1, 3, 0) ∗ Φ (1, 3, 1) ∗ Φ (2, 0, 0) ∗ Φ (2, 0, 1) ∗ Φ (2, 1, 0) ∗ Φ (2, 1, 1) ∗ Φ (2, 2, 0) ∗ Φ (2, 2, 1) ∗ Φ (2, 3, 0) ∗ Φ (2, 3, 1) ∗ Φ (3, 0, 0) ∗ Φ (3, 0, 1) ∗ Φ (3, 1, 0) ∗ Φ (3, 1, 1) ∗ Φ (3, 2, 0) ∗ Φ (3, 2, 1) ∗ Φ (3, 3, 0) ∗ Φ (3, 3, 1)) :=
  bigSep_univ_eq_bigSepL [(0, 0, 0), (0, 0, 1), (0, 1, 0), (0, 1, 1), (0, 2, 0), (0, 2, 1), (0, 3, 0), (0, 3, 1), (1, 0, 0), (1, 0, 1), (1, 1, 0), (1, 1, 1), (1, 2, 0), (1, 2, 1), (1, 3, 0), (1, 3, 1), (2, 0, 0), (2, 0, 1), (2, 1, 0), (2, 1, 1), (2, 2, 0), (2, 2, 1), (2, 3, 0), (2, 3, 1), (3, 0, 0), (3, 0, 1), (3, 1, 0), (3, 1, 1), (3, 2, 0), (3, 2, 1), (3, 3, 0), (3, 3, 1)] (by decide) (by decide) Φ

/-! ## Closing -/

/-- At the end every cell is closed and its counter is back at zero. -/
theorem close_all : iprop(ctx0 X Wo K ∗ done c) ⊢ (|={Set.univ}=> iprop(semVal (barCell c) 0 ∗ Pipeline.ownSems0 osem c) : sProp 𝕄) := by
  have hp : (iprop(past 0 0 0 c ∗ past 0 0 1 c ∗ past 0 1 0 c ∗ past 0 1 1 c ∗ past 0 2 0 c ∗ past 0 2 1 c ∗ past 0 3 0 c ∗ past 0 3 1 c ∗ past 1 0 0 c ∗ past 1 0 1 c ∗ past 1 1 0 c ∗ past 1 1 1 c ∗ past 1 2 0 c ∗ past 1 2 1 c ∗ past 1 3 0 c ∗ past 1 3 1 c ∗ past 2 0 0 c ∗ past 2 0 1 c ∗ past 2 1 0 c ∗ past 2 1 1 c ∗ past 2 2 0 c ∗ past 2 2 1 c ∗ past 2 3 0 c ∗ past 2 3 1 c ∗ past 3 0 0 c ∗ past 3 0 1 c ∗ past 3 1 0 c ∗ past 3 1 1 c ∗ past 3 2 0 c ∗ past 3 2 1 c ∗ past 3 3 0 c ∗ past 3 3 1 c) : sProp 𝕄)
      ⊢ bigSep Finset.univ fun x : IX => past x.1 x.2.1 x.2.2 c := Entails.of_eq (bigIX_list (fun x : IX => past x.1 x.2.1 x.2.2 c)).symm
  have hc : iprop(ctx0 X Wo K ∗ bigSep Finset.univ fun x : IX => (past x.1 x.2.1 x.2.2 c : sProp 𝕄))
      ⊢ bigSep Finset.univ fun x : IX => iprop(|={Set.univ}=> semVal (icell x c) 0) :=
    bigSep_with_persistent fun x _ => by
      unfold past
      iintro ⟨#HX, H⟩
      iapply (close X Wo (K (icell x c)) (icell x c))
      isplitr; · iapply (inv_at X Wo K c (some x)); iexact HX
      iexact H
  unfold done
  iintro ⟨#HX, Hb, Hp⟩
  imod (close X Wo (K (barCell c)) (barCell c)) $$ [Hb] with Hb
  · isplitr; · iapply (inv_at X Wo K c none); iexact HX
    iexact Hb
  ihave Hp := hp $$ Hp
  ihave Hp := hc $$ [Hp]
  · isplitr; · iexact HX
    iexact Hp
  imod (BI.bigSep_fupd Finset.univ _) $$ [Hp] with Hp
  · iexact Hp
  imodintro
  isplitl [Hb]; · iexact Hb
  have hos : (bigSep Finset.univ fun x : IX => (semVal (icell x c) 0 : sProp 𝕄)) ⊢ Pipeline.ownSems0 osem c := .rfl
  iapply hos
  iexact Hp

/-! ## Opening -/

/-- The device whose cell the duty of a copy lies on: the partner for a landing, the device itself for a departure. -/
def far (x : IX) (c : Dev nD) : Dev nD := if x.1 = 1 ∨ x.1 = 3 then peer x.1 x.2.1 x.2.2 c else c
theorem far_far (x : IX) (c : Dev nD) : far x (far x c) = c := by
  unfold far; split
  · exact peer_peer _ _ _ _
  · rfl

/-- What a device holds from the launch, one half of it in its own cells, one in those of its partners. -/
def lin (c : Dev nD) : sProp 𝕄 :=
  iprop(atPos ER (barCell c) 0 ∅ 0 ∗ (bigSep Finset.univ fun x : IX => openTok ER (icell x c))
    ∗ (bigSep Finset.univ fun k : Fin 4 => dutyTok ER (barCell (px k c)) 0 k)
    ∗ (bigSep Finset.univ fun x : IX => dutyTok ER (icell x (far x c)) 0 0))
/-- The credits a device holds: its barrier's four, and one for each landing. -/
def credits (c : Dev nD) : sProp 𝕄 :=
  iprop(cred (tallyAt (barCell c) () 4) ∗ (bigSep Finset.univ fun y : JS => cred (tallyAt (cell 1 y.1 y.2 c) () (amt 1 y.1)))
    ∗ (bigSep Finset.univ fun y : JS => cred (tallyAt (cell 3 y.1 y.2 c) () (amt 3 y.1))))
def barsKnown : sProp 𝕄 := bigSep Finset.univ fun c : Dev nD => reached ER (barCell c) 0
instance barsKnown_persistent : Persistent (barsKnown (F := F)) := by unfold barsKnown; infer_instance
theorem barsKnown_at (c : Dev nD) : (barsKnown : sProp 𝕄) ⊢ reached ER (barCell c) 0 := by
  have h : (bigSep Finset.univ fun c : Dev nD => (reached ER (barCell c) 0 : sProp 𝕄)) ⊢ reached ER (barCell c) 0 := bigSep_elim (Finset.mem_univ c)
  exact h

theorem readies (κ κ' : Fin 4) (h : κ = 0 ∧ κ' = 1 ∨ κ = 2 ∧ κ' = 3) :
    iprop(known c ∗ (bigSep Finset.univ fun y : JS => dutyTok ER (icell (κ, y) (far (κ, y) c)) 0 0) ∗ (bigSep Finset.univ fun y : JS => dutyTok ER (icell (κ', y) (far (κ', y) c)) 0 0)
      ∗ (bigSep Finset.univ fun y : JS => atPos ER (icell (κ, y) c) 0 ∅ 0) ∗ (bigSep Finset.univ fun y : JS => atPos ER (icell (κ', y) c) 0 ∅ 0)
      ∗ (bigSep Finset.univ fun y : JS => cred (tallyAt (cell κ' y.1 y.2 c) () (amt κ' y.1))))
    ⊢ (bigSep Finset.univ fun y : JS => ready κ κ' y.1 y.2 c : sProp 𝕄) := by
  rw [← bigSep_sep', ← bigSep_sep', ← bigSep_sep', ← bigSep_sep']
  refine bigSep_with_persistent fun y _ => ?_
  have hk : (known c : sProp 𝕄) ⊢ reached ER (cell κ y.1 y.2 c) 0 := by
    have h : (bigSep Finset.univ fun x : Fin 4 × Fin 4 × Fin 2 => (reached ER (cell x.1 x.2.1 x.2.2 c) 0 : sProp 𝕄)) ⊢ reached ER (cell κ y.1 y.2 c) 0 :=
      bigSep_elim (Finset.mem_univ (κ, y.1, y.2))
    exact h
  have h1 : far (κ, y) c = c := by
    unfold far; rw [if_neg]; rcases h with ⟨rfl, -⟩ | ⟨rfl, -⟩ <;> exact by simp
  have h2 : far (κ', y) c = peer κ' y.1 y.2 c := by
    unfold far; rw [if_pos]; rcases h with ⟨-, rfl⟩ | ⟨-, rfl⟩ <;> exact by simp
  rw [h1, h2]
  unfold ready
  iintro ⟨#Hk, Ht, Ht', Ha, Ha', Hc⟩
  isplitl [Ht]; · iexact Ht
  isplitl [Ht']; · iexact Ht'
  isplitr; · iapply hk; iexact Hk
  isplitl [Ha]; · iexact Ha
  isplitl [Ha']; · iexact Ha'
  iexact Hc

/-- With its counters at zero a device opens its own cells, and has all that the body starts from. -/
theorem open_all : iprop(ctx0 X Wo K ∗ barsKnown ∗ lin c ∗ credits c ∗ Pipeline.ownSems0 osem c) ⊢ (|={Set.univ}=> start c : sProp 𝕄) := by
  have ho : iprop(ctx0 X Wo K ∗ bigSep Finset.univ fun x : IX => (iprop(openTok ER (icell x c) ∗ semVal (icell x c) 0) : sProp 𝕄))
      ⊢ bigSep Finset.univ fun x : IX => iprop(|={Set.univ}=> (atPos ER (icell x c) 0 ∅ 0 ∗ reached ER (icell x c) 0)) :=
    bigSep_with_persistent fun x _ => by
      iintro ⟨#HX, Ho, Hs⟩
      iapply (Rounds.cell_open ER (talkRd X Wo) (g := icell x c) (Set.mem_univ (K (icell x c))))
      isplitr; · iapply (inv_at X Wo K c (some x)); iexact HX
      isplitl [Ho] <;> iassumption
  have hk : (bigSep Finset.univ fun x : IX => (reached ER (icell x c) 0 : sProp 𝕄)) ⊢ known c := .rfl
  have hos : (Pipeline.ownSems0 osem c : sProp 𝕄) ⊢ bigSep Finset.univ fun x : IX => semVal (icell x c) 0 := .rfl
  have h01 := readies (F := F) c 0 1 (.inl ⟨rfl, rfl⟩)
  have h23 := readies (F := F) c 2 3 (.inr ⟨rfl, rfl⟩)
  rw [bigJS (fun y : JS => ready 0 1 y.1 y.2 c)] at h01
  rw [bigJS (fun y : JS => ready 2 3 y.1 y.2 c)] at h23
  unfold lin credits start
  rw [big4, bigIX (fun x : IX => dutyTok ER (icell x (far x c)) 0 0)]
  iintro ⟨#HX, #HB, ⟨Hb, Ho, ⟨Hk0, Hk1, Hk2, Hk3⟩, ⟨Ht0, Ht1, Ht2, Ht3⟩⟩, ⟨Hcb, Hc1, Hc3⟩, Hs⟩
  ihave Hs := hos $$ Hs
  ihave H := ho $$ [Ho Hs]
  · isplitr; · iexact HX
    iapply joined
    isplitl [Ho] <;> iassumption
  imod (BI.bigSep_fupd Finset.univ _) $$ [H] with H
  · iexact H
  ihave H := parted $$ H
  icases H with ⟨Ha, Hr⟩
  ihave #Hk := hk $$ Hr
  ihave Ha := (Entails.of_eq (bigIX (fun x : IX => (atPos ER (icell x c) 0 ∅ 0 : sProp 𝕄)))) $$ Ha
  icases Ha with ⟨Ha0, Ha1, Ha2, Ha3⟩
  ihave H01 := h01 $$ [Ht0 Ht1 Ha0 Ha1 Hc1]
  · isplitr; · iexact Hk
    isplitl [Ht0]; · iexact Ht0
    isplitl [Ht1]; · iexact Ht1
    isplitl [Ha0]; · iexact Ha0
    isplitl [Ha1] <;> iassumption
  ihave H23 := h23 $$ [Ht2 Ht3 Ha2 Ha3 Hc3]
  · isplitr; · iexact Hk
    isplitl [Ht2]; · iexact Ht2
    isplitl [Ht3]; · iexact Ht3
    isplitl [Ha2]; · iexact Ha2
    isplitl [Ha3] <;> iassumption
  imodintro
  isplitr; · iexact Hk
  isplitl [Hk0 Hk1 Hk2 Hk3]
  · isplitl [Hk0]
    · isplitl [Hk0]; · iexact Hk0
      iapply (barsKnown_at (px 0 c)); iexact HB
    isplitl [Hk1]
    · isplitl [Hk1]; · iexact Hk1
      iapply (barsKnown_at (px 1 c)); iexact HB
    isplitl [Hk2]
    · isplitl [Hk2]; · iexact Hk2
      iapply (barsKnown_at (px 2 c)); iexact HB
    isplitl [Hk3]; · iexact Hk3
    iapply (barsKnown_at (px 3 c)); iexact HB
  isplitl [Hcb]; · iexact Hcb
  isplitl [Hb]; · iexact Hb
  isplitl [H01]; · iexact H01
  iexact H23

/-! ## The credits -/

def credTo (c : Dev nD) : ℕ → sProp 𝕄
  | 0 => iprop(emp)
  | k + 1 => iprop(credTo c k ∗ cred (tallyAt ((c : Thread nD τ), dueSem k) () (dueAmt k)))

/-- What the devices owe one another at launch, each device is credited with. -/
theorem credTo_of : ∀ k, (Pipeline.launchCred (fun d => owe d k) c : sProp 𝕄) ⊢ credTo c k
  | 0 => Entails.of_eq (Pipeline.launchCred_zero c)
  | k + 1 => by
    have h : (Pipeline.launchCred (fun d => owe d (k + 1)) c : sProp 𝕄)
        = iprop(Pipeline.launchCred (fun d => owe d k) c ∗ Pipeline.launchCred (fun d => tallyAt ((duePeer k d : Thread nD τ), dueSem k) () (dueAmt k)) c) :=
      Pipeline.launchCred_add (fun d => owe d k) (fun d => tallyAt ((duePeer k d : Thread nD τ), dueSem k) () (dueAmt k)) c
    rw [h]
    exact BI.sep_mono (credTo_of k) (Pipeline.launchCred_tallyAt (dueSem k) (duePeer k) (duePeer k) (duePeer_duePeer k) (duePeer_duePeer k) () (dueAmt k) c)

theorem credits_of : (Pipeline.launchCred (fun d => owe d 20) c : sProp 𝕄) ⊢ credits c := by
  have h4 : iprop(cred (tallyAt (barCell c) () 1) ∗ cred (tallyAt (barCell c) () 1) ∗ cred (tallyAt (barCell c) () 1) ∗ cred (tallyAt (barCell c) () 1))
      ⊢ (cred (tallyAt (barCell c) () 4) : sProp 𝕄) := by
    have e : (tallyAt (barCell c) () 4 : CellTallies nD τ sig Unit)
        = tallyAt (barCell c) () 1 + (tallyAt (barCell c) () 1 + (tallyAt (barCell c) () 1 + tallyAt (barCell c) () 1)) := by
      rw [tallyAt_add, tallyAt_add, tallyAt_add]
    rw [e]
    exact (sep_mono_right ((sep_mono_right (cred_add _ _).2).trans (cred_add _ _).2)).trans (cred_add _ _).2
  refine (credTo_of c 20).trans ?_
  refine (show (credTo c 20 : sProp 𝕄) ⊢ iprop(((((((((((((((((((((emp ∗ cred (tallyAt (cell 3 3 1 c) () (amt 3 3))) ∗ cred (tallyAt (cell 3 3 0 c) () (amt 3 3))) ∗ cred (tallyAt (cell 3 2 1 c) () (amt 3 2))) ∗ cred (tallyAt (cell 3 2 0 c) () (amt 3 2))) ∗ cred (tallyAt (cell 3 1 1 c) () (amt 3 1))) ∗ cred (tallyAt (cell 3 1 0 c) () (amt 3 1))) ∗ cred (tallyAt (cell 3 0 1 c) () (amt 3 0))) ∗ cred (tallyAt (cell 3 0 0 c) () (amt 3 0))) ∗ cred (tallyAt (cell 1 3 1 c) () (amt 1 3))) ∗ cred (tallyAt (cell 1 3 0 c) () (amt 1 3))) ∗ cred (tallyAt (cell 1 2 1 c) () (amt 1 2))) ∗ cred (tallyAt (cell 1 2 0 c) () (amt 1 2))) ∗ cred (tallyAt (cell 1 1 1 c) () (amt 1 1))) ∗ cred (tallyAt (cell 1 1 0 c) () (amt 1 1))) ∗ cred (tallyAt (cell 1 0 1 c) () (amt 1 0))) ∗ cred (tallyAt (cell 1 0 0 c) () (amt 1 0))) ∗ cred (tallyAt (barCell c) () 1)) ∗ cred (tallyAt (barCell c) () 1)) ∗ cred (tallyAt (barCell c) () 1)) ∗ cred (tallyAt (barCell c) () 1))) from .rfl).trans ?_
  unfold credits
  rw [bigJS, bigJS]
  iintro ⟨⟨⟨⟨⟨⟨⟨⟨⟨⟨⟨⟨⟨⟨⟨⟨⟨⟨⟨⟨-, C331⟩, C330⟩, C321⟩, C320⟩, C311⟩, C310⟩, C301⟩, C300⟩, C131⟩, C130⟩, C121⟩, C120⟩, C111⟩, C110⟩, C101⟩, C100⟩, B0⟩, B1⟩, B2⟩, B3⟩
  isplitl [B0 B1 B2 B3]
  · iapply h4
    isplitl [B0]; · iexact B0
    isplitl [B1]; · iexact B1
    isplitl [B2] <;> iassumption
  isplitl [C100 C101 C110 C111 C120 C121 C130 C131]
  · isplitl [C100]; · iexact C100
    isplitl [C101]; · iexact C101
    isplitl [C110]; · iexact C110
    isplitl [C111]; · iexact C111
    isplitl [C120]; · iexact C120
    isplitl [C121]; · iexact C121
    isplitl [C130]; · iexact C130
    iexact C131
  isplitl [C300]; · iexact C300
  isplitl [C301]; · iexact C301
  isplitl [C310]; · iexact C310
  isplitl [C311]; · iexact C311
  isplitl [C320]; · iexact C320
  isplitl [C321]; · iexact C321
  isplitl [C330]; · iexact C330
  iexact C331

/-! ## Dealing -/

def barEmb : Dev nD ↪ GSem nD τ sig := ⟨fun c => barCell c, fun _ _ h => congrArg (fun g : GSem nD τ sig => g.1.1) h⟩
theorem osem_inj : Function.Injective osem := fun a b h => dsem_inj (by injection h)
def cellEmb : Dev nD × IX ↪ GSem nD τ sig :=
  ⟨fun p => icell p.2 p.1, fun _ _ h => Prod.ext (congrArg (fun g : GSem nD τ sig => g.1.1) h) (osem_inj (congrArg Prod.snd h))⟩
def talkEmb : Dev nD × TalkIx ↪ GSem nD τ sig :=
  ⟨fun p => ((p.1 : Thread nD τ), talkSem p.2), fun _ _ h => Prod.ext (congrArg (fun g : GSem nD τ sig => g.1.1) h) (talkSem_inj (congrArg Prod.snd h))⟩
/-- The barrier cells, funded with their counters; the others, funded without. -/
abbrev barCells : Finset (GSem nD τ sig) := Finset.univ.map barEmb
abbrev ownCells : Finset (GSem nD τ sig) := Finset.univ.map cellEmb
theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  have := congrArg Prod.snd h
  cases this
theorem cells_eq : (barCells ∪ ownCells : Finset (GSem nD τ sig)) = Finset.univ.map talkEmb := by
  ext g
  rw [Finset.mem_union, Finset.mem_map, Finset.mem_map, Finset.mem_map]
  constructor
  · rintro (⟨c, -, rfl⟩ | ⟨p, -, rfl⟩)
    · exact ⟨(c, none), Finset.mem_univ _, rfl⟩
    · exact ⟨(p.1, some p.2), Finset.mem_univ _, rfl⟩
  · rintro ⟨⟨c, x⟩, -, rfl⟩
    match x with
    | none => exact .inl ⟨c, Finset.mem_univ _, rfl⟩
    | some x => exact .inr ⟨(c, x), Finset.mem_univ _, rfl⟩

/-- A duty: one of the barrier's four, or the one of another cell. -/
abbrev DutyIx : Type := Fin 4 ⊕ IX
abbrev dutySem : DutyIx → SemLoc sig × Fin 4
  | .inl k => (.reg barS, k)
  | .inr x => (osem x, 0)
theorem dutySem_inj : Function.Injective dutySem := by
  intro a b h
  match a, b with
  | .inl k, .inl k' => exact congrArg Sum.inl (congrArg Prod.snd h)
  | .inl k, .inr x => cases congrArg Prod.fst h
  | .inr x, .inl k => cases congrArg Prod.fst h
  | .inr x, .inr y => exact congrArg Sum.inr (osem_inj (congrArg Prod.fst h))
def dutyEmb : Dev nD × DutyIx ↪ GSem nD τ sig × ℕ × Fin 4 :=
  ⟨fun p => (((p.1 : Thread nD τ), (dutySem p.2).1), 0, (dutySem p.2).2), fun _ _ h =>
    Prod.ext (congrArg (fun t : GSem nD τ sig × ℕ × Fin 4 => t.1.1.1) h)
      (dutySem_inj (Prod.ext (congrArg (fun t : GSem nD τ sig × ℕ × Fin 4 => t.1.2) h) (congrArg (fun t : GSem nD τ sig × ℕ × Fin 4 => t.2.2) h)))⟩
def talkToks : Finset (GSem nD τ sig × ℕ × Fin 4) := Finset.univ.map dutyEmb

def pxEquiv : Dev nD × Fin 4 ≃ Dev nD × Fin 4 where
  toFun p := (px p.2 p.1, p.2)
  invFun p := (px p.2 p.1, p.2)
  left_inv p := by dsimp only; rw [px_px]
  right_inv p := by dsimp only; rw [px_px]
def farEquiv : Dev nD × IX ≃ Dev nD × IX where
  toFun p := (far p.2 p.1, p.2)
  invFun p := (far p.2 p.1, p.2)
  left_inv p := by dsimp only; rw [far_far]
  right_inv p := by dsimp only; rw [far_far]

/-- Every token, handed to the device that pays the duty. -/
theorem toks_dealt : bigSep talkToks (fun x => (dutyTok ER x.1 x.2.1 x.2.2 : sProp 𝕄))
    = iprop((bigSep Finset.univ fun c : Dev nD => bigSep Finset.univ fun k : Fin 4 => dutyTok ER (barCell (px k c)) 0 k)
      ∗ (bigSep Finset.univ fun c : Dev nD => bigSep Finset.univ fun x : IX => dutyTok ER (icell x (far x c)) 0 0)) := by
  unfold talkToks
  rw [BI.bigSep_map, bigSep_univ_prod]
  have h : ∀ c : Dev nD, (bigSep Finset.univ fun b : DutyIx => (dutyTok ER (dutyEmb (c, b)).1 (dutyEmb (c, b)).2.1 (dutyEmb (c, b)).2.2 : sProp 𝕄))
      = iprop((bigSep Finset.univ fun k : Fin 4 => dutyTok ER (barCell c) 0 k) ∗ (bigSep Finset.univ fun x : IX => dutyTok ER (icell x c) 0 0)) :=
    fun c => bigSep_univ_sum _
  rw [bigSep_congr fun c _ => h c, bigSep_sep',
    ← bigSep_univ_prod (fun p : Dev nD × Fin 4 => (dutyTok ER (barCell p.1) 0 p.2 : sProp 𝕄)),
    ← bigSep_univ_prod (fun p : Dev nD × IX => (dutyTok ER (icell p.2 p.1) 0 0 : sProp 𝕄)),
    bigSep_univ_equiv pxEquiv, bigSep_univ_equiv farEquiv, bigSep_univ_prod, bigSep_univ_prod]
  rfl

theorem opens_dealt : bigSep ownCells (fun g => (openTok ER g : sProp 𝕄)) = bigSep Finset.univ fun c : Dev nD => bigSep Finset.univ fun x : IX => openTok ER (icell x c) := by
  rw [BI.bigSep_map, bigSep_univ_prod]
  rfl

/-- What the protocol is launched with. -/
abbrev u₁ : UT := launchOf barCells ownCells talkToks

/-- The protocol's launch: the barrier counters are put into their cells, and each device gets its part. -/
theorem fund : iprop((bigSep Finset.univ fun c : Dev nD => semVal (barCell c) 0) ∗ levAts L lv ∗ BI.own (ER u₁))
    ⊢ (|={Set.univ}=> iprop(∃ K, ctx0 X Wo K ∗ barsKnown ∗ bigSep Finset.univ fun c : Dev nD => lin c) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hr : bigSep barCells (fun g => (reached ER g 0 : sProp 𝕄)) ⊢ barsKnown :=
    Entails.of_eq (BI.bigSep_map (s := Finset.univ) barEmb (Φ := fun g : GSem nD τ sig => (reached ER g 0 : sProp 𝕄)))
  iintro ⟨Hv, #Hlev, Hu⟩
  ihave Hv := hv $$ Hv
  imod (Rounds.fund_launch ER (talkRd X Wo) disjoint_cells (fun g _ h => h) talkToks) $$ [Hv Hu] with ⟨%κ, -, Hinv, Hr, Hat, Hopen, Htok⟩
  · isplitl [Hv] <;> iassumption
  have hi : (bigSep (barCells ∪ ownCells) fun g => (cellInv ER (talkRd X Wo) (κ g) g : sProp 𝕄))
      ⊢ bigSep Finset.univ fun x : Dev nD × TalkIx => cellInv ER (talkRd X Wo) (κ ((x.1 : Thread nD τ), talkSem x.2)) ((x.1 : Thread nD τ), talkSem x.2) := by
    rw [cells_eq, BI.bigSep_map]; exact .rfl
  ihave Hinv := hi $$ Hinv
  ihave Hr := hr $$ Hr
  ihave Hat := hat $$ Hat
  ihave Hopen := (Entails.of_eq (opens_dealt (F := F))) $$ Hopen
  ihave Htok := (Entails.of_eq (toks_dealt (F := F))) $$ Htok
  icases Htok with ⟨Hk, Hx⟩
  imodintro
  iexists κ
  unfold ctx0
  isplitl [Hinv]
  · isplitl [Hinv]; · iexact Hinv
    iexact Hlev
  isplitl [Hr]; · iexact Hr
  unfold lin
  iapply joined; isplitl [Hat]; · iexact Hat
  iapply joined; isplitl [Hopen]; · iexact Hopen
  iapply joined; isplitl [Hk] <;> iassumption

end Cert.KernelIdeal.Body
-- ==== Proof.KernelIdeal.Region.lean ====
/-
  The kernel's region: what the pipeline's transfers and the body need and leave, and the region's record.
-/
module

public import proofs.«01_k».proof.Proof.KernelIdeal.Ghost
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx (ix2 ix3)

variable {F : FTy → Type} [FloatOps F] [Named F]

local notation "𝕄" => MT nD τ sig Unit (Elt F) ℕ UU ℕ

variable (V : Dev nD → Valuation τ sig (Elt F)) (c : Dev nD)

/-- Each device's context, from its operands. -/
def Xv : Dev nD → FVec F S2048x1024 .bf16 := fun c =>
  ctxOf (k0_pay2 (V c main_v5 : Vec F S2048x1024 .bf16) (V c main_v10 : Vec F S1024x1024 .bf16)) (V c main_v17 : Vec F S8x2048x128 .bf16) (V c main_v19 : Vec F S8x2048x128 .bf16)
/-- Each device's part of the output projection. -/
def Wv : Dev nD → Vec F S1024x1024 .bf16 := fun c => V c main_v15

/-- What the region leaves: the result in its output, every other buffer as it was. -/
def outV : Valuation τ sig (Elt F) := Function.update (V c) main_v20 (result (Xv V) (Wv V))

/-- What a device holds beside the windows, before the body and after it. -/
def phi (c : Dev nD) : ℕ → sProp 𝕄
  | 0 => iprop((∃ K, ctx0 (Xv V) (Wv V) K ∗ start c) ∗ scratch c ∗ ∃ r, prngReg c r)
  | _ + 1 => iprop(semVal (barCell c) 0 ∗ Pipeline.ownSems0 osem c ∗ scratch c ∗ ∃ r, prngReg c r)
/-- What it owes then. -/
def dues (c : Dev nD) : ℕ → CellTallies nD τ sig Unit
  | 0 => owe c 20
  | _ + 1 => 0

attribute [local irreducible] result

/-- The region's proof data. -/
def dat (c : Dev nD) : Dat τ (Elt F) Unit ℕ UU ℕ (cfgs 0) c where
  A := fun w => V c (Proc.devRef .tc (Pipeline.arrRef spec0 w))
  after := fun | 0 => fun _ => V c main_v5 | 1 => fun _ => V c main_v10 | 2 => fun _ => V c main_v17 | 3 => fun _ => V c main_v19 | 4 => fun _ => V c main_v15 | 5 => fun _ => result (Xv V) (Wv V)
               | ⟨_ + 6, h⟩ => absurd h (Nat.not_lt.2 (Nat.le_add_left _ _))
  Φ := fun t => phi V c t.val
  q := fun _ => fullShare
  owed := fun t => dues c t.val

abbrev pdats : (p : Fin 1) → (c : Dev nD) → Dat τ (Elt F) Unit ℕ UU ℕ (cfgs p) c
  | 0 => dat V
  | ⟨_ + 1, h⟩ => absurd h (Nat.not_lt.2 (Nat.le_add_left _ _))

theorem owed_first : (dat V c).owed 0 = owe c 20 := rfl
theorem owed_first' : (dat V c).owed t0_0.castSucc = owe c 20 := rfl
theorem owed_last : (dat V c).owed (Fin.last _) = 0 := by
  show dues c cfg0.N = 0
  rw [show cfg0.N = 1 from N_0]; rfl
theorem owed_last' : (dat V c).owed t0_0.succ = 0 := rfl
theorem Phi_first : (dat V c).Φ 0 = iprop((∃ K, ctx0 (Xv V) (Wv V) K ∗ start c) ∗ scratch c ∗ ∃ r, prngReg c r) := rfl
theorem Phi_first' : (dat V c).Φ t0_0.castSucc = iprop((∃ K, ctx0 (Xv V) (Wv V) K ∗ start c) ∗ scratch c ∗ ∃ r, prngReg c r) := rfl
theorem Phi_last : (dat V c).Φ (Fin.last _) = iprop(semVal (barCell c) 0 ∗ Pipeline.ownSems0 osem c ∗ scratch c ∗ ∃ r, prngReg c r) := by
  show phi V c cfg0.N = _
  rw [show cfg0.N = 1 from N_0]; rfl
theorem Phi_last' : (dat V c).Φ t0_0.succ = iprop(semVal (barCell c) 0 ∗ Pipeline.ownSems0 osem c ∗ scratch c ∗ ∃ r, prngReg c r) := rfl

theorem owes_in (t : Fin (cfg0.N + 1)) (O : CellTallies nD τ sig Unit) (h : (dat V c).owed t = O) :
    iprop(∃ W, owes (c : Thread nD τ) O W) ⊢ ((dat V c).owesAt () t : sProp 𝕄) := by
  unfold Dat.owesAt Pipeline.owesWithin Dat.bound; rw [h, show (dat V c).recorded t = Set.univ from rfl]
  iintro ⟨%W, HO⟩; iexists W; isplitr; · ipureintro; exact fun _ _ => Or.inl trivial
  iexact HO
theorem owes_out (t : Fin (cfg0.N + 1)) (O : CellTallies nD τ sig Unit) (h : (dat V c).owed t = O) :
    ((dat V c).owesAt () t : sProp 𝕄) ⊢ iprop(∃ W, owes (c : Thread nD τ) O W) := by
  unfold Dat.owesAt Pipeline.owesWithin; rw [h]
  iintro ⟨%W, -, HO⟩; iexists W; iexact HO

/-! ## The staged blocks -/

theorem fetched0 (d) : (dat V c).fetched 0 t0_0 d = V c main_v5 := by
  funext y
  show V c main_v5 (((cfg0.win 0).blk t0_0).view.emb y) = V c main_v5 y
  congr 1
  funext a; apply Fin.ext
  exact Pipeline.Window.rect_emb_val_of_index_zero (cfg0.win 0) t0_0 a rfl y
theorem stage0 : iprop(∃ d, owns (c : Thread nD τ) ((cfg0.win 0).stage (cfg0.slots t0_0 0)) fullShare ((dat V c).before 0 t0_0 d)) ⊢ (pt c cc0_stg0_0 (V c main_v5) : sProp 𝕄) := by
  iintro ⟨%d, H⟩
  have h : owns (c : Thread nD τ) ((cfg0.win 0).stage (cfg0.slots t0_0 0)) fullShare ((dat V c).before 0 t0_0 d) ⊢ (pt c cc0_stg0_0 (V c main_v5) : sProp 𝕄) := by
    rw [Dat.before_fetched (dat V c) 0 t0_0 (fetch0_0 t0_0) d, fetched0]
    exact Entails.of_eq (owns_whole (c : Thread nD τ) cc0_stg0_0 fullShare (V c main_v5))
  iapply h; iexact H
theorem back0 : (pt c cc0_stg0_0 (V c main_v5) : sProp 𝕄) ⊢ owns (c : Thread nD τ) ((cfg0.win 0).stage (cfg0.slots t0_0 0)) fullShare ((dat V c).after 0 t0_0) :=
  Entails.of_eq (owns_whole (c : Thread nD τ) cc0_stg0_0 fullShare (V c main_v5)).symm
theorem fetched1 (d) : (dat V c).fetched 1 t0_0 d = V c main_v10 := by
  funext y
  show V c main_v10 (((cfg0.win 1).blk t0_0).view.emb y) = V c main_v10 y
  congr 1
  funext a; apply Fin.ext
  exact Pipeline.Window.rect_emb_val_of_index_zero (cfg0.win 1) t0_0 a rfl y
theorem stage1 : iprop(∃ d, owns (c : Thread nD τ) ((cfg0.win 1).stage (cfg0.slots t0_0 1)) fullShare ((dat V c).before 1 t0_0 d)) ⊢ (pt c cc0_stg1_0 (V c main_v10) : sProp 𝕄) := by
  iintro ⟨%d, H⟩
  have h : owns (c : Thread nD τ) ((cfg0.win 1).stage (cfg0.slots t0_0 1)) fullShare ((dat V c).before 1 t0_0 d) ⊢ (pt c cc0_stg1_0 (V c main_v10) : sProp 𝕄) := by
    rw [Dat.before_fetched (dat V c) 1 t0_0 (fetch0_1 t0_0) d, fetched1]
    exact Entails.of_eq (owns_whole (c : Thread nD τ) cc0_stg1_0 fullShare (V c main_v10))
  iapply h; iexact H
theorem back1 : (pt c cc0_stg1_0 (V c main_v10) : sProp 𝕄) ⊢ owns (c : Thread nD τ) ((cfg0.win 1).stage (cfg0.slots t0_0 1)) fullShare ((dat V c).after 1 t0_0) :=
  Entails.of_eq (owns_whole (c : Thread nD τ) cc0_stg1_0 fullShare (V c main_v10)).symm
theorem fetched2 (d) : (dat V c).fetched 2 t0_0 d = V c main_v17 := by
  funext y
  show V c main_v17 (((cfg0.win 2).blk t0_0).view.emb y) = V c main_v17 y
  congr 1
  funext a; apply Fin.ext
  exact Pipeline.Window.rect_emb_val_of_index_zero (cfg0.win 2) t0_0 a rfl y
theorem stage2 : iprop(∃ d, owns (c : Thread nD τ) ((cfg0.win 2).stage (cfg0.slots t0_0 2)) fullShare ((dat V c).before 2 t0_0 d)) ⊢ (pt c cc0_stg2_0 (V c main_v17) : sProp 𝕄) := by
  iintro ⟨%d, H⟩
  have h : owns (c : Thread nD τ) ((cfg0.win 2).stage (cfg0.slots t0_0 2)) fullShare ((dat V c).before 2 t0_0 d) ⊢ (pt c cc0_stg2_0 (V c main_v17) : sProp 𝕄) := by
    rw [Dat.before_fetched (dat V c) 2 t0_0 (fetch0_2 t0_0) d, fetched2]
    exact Entails.of_eq (owns_whole (c : Thread nD τ) cc0_stg2_0 fullShare (V c main_v17))
  iapply h; iexact H
theorem back2 : (pt c cc0_stg2_0 (V c main_v17) : sProp 𝕄) ⊢ owns (c : Thread nD τ) ((cfg0.win 2).stage (cfg0.slots t0_0 2)) fullShare ((dat V c).after 2 t0_0) :=
  Entails.of_eq (owns_whole (c : Thread nD τ) cc0_stg2_0 fullShare (V c main_v17)).symm
theorem fetched3 (d) : (dat V c).fetched 3 t0_0 d = V c main_v19 := by
  funext y
  show V c main_v19 (((cfg0.win 3).blk t0_0).view.emb y) = V c main_v19 y
  congr 1
  funext a; apply Fin.ext
  exact Pipeline.Window.rect_emb_val_of_index_zero (cfg0.win 3) t0_0 a rfl y
theorem stage3 : iprop(∃ d, owns (c : Thread nD τ) ((cfg0.win 3).stage (cfg0.slots t0_0 3)) fullShare ((dat V c).before 3 t0_0 d)) ⊢ (pt c cc0_stg3_0 (V c main_v19) : sProp 𝕄) := by
  iintro ⟨%d, H⟩
  have h : owns (c : Thread nD τ) ((cfg0.win 3).stage (cfg0.slots t0_0 3)) fullShare ((dat V c).before 3 t0_0 d) ⊢ (pt c cc0_stg3_0 (V c main_v19) : sProp 𝕄) := by
    rw [Dat.before_fetched (dat V c) 3 t0_0 (fetch0_3 t0_0) d, fetched3]
    exact Entails.of_eq (owns_whole (c : Thread nD τ) cc0_stg3_0 fullShare (V c main_v19))
  iapply h; iexact H
theorem back3 : (pt c cc0_stg3_0 (V c main_v19) : sProp 𝕄) ⊢ owns (c : Thread nD τ) ((cfg0.win 3).stage (cfg0.slots t0_0 3)) fullShare ((dat V c).after 3 t0_0) :=
  Entails.of_eq (owns_whole (c : Thread nD τ) cc0_stg3_0 fullShare (V c main_v19)).symm
theorem fetched4 (d) : (dat V c).fetched 4 t0_0 d = V c main_v15 := by
  funext y
  show V c main_v15 (((cfg0.win 4).blk t0_0).view.emb y) = V c main_v15 y
  congr 1
  funext a; apply Fin.ext
  exact Pipeline.Window.rect_emb_val_of_index_zero (cfg0.win 4) t0_0 a rfl y
theorem stage4 : iprop(∃ d, owns (c : Thread nD τ) ((cfg0.win 4).stage (cfg0.slots t0_0 4)) fullShare ((dat V c).before 4 t0_0 d)) ⊢ (pt c cc0_stg4_0 (V c main_v15) : sProp 𝕄) := by
  iintro ⟨%d, H⟩
  have h : owns (c : Thread nD τ) ((cfg0.win 4).stage (cfg0.slots t0_0 4)) fullShare ((dat V c).before 4 t0_0 d) ⊢ (pt c cc0_stg4_0 (V c main_v15) : sProp 𝕄) := by
    rw [Dat.before_fetched (dat V c) 4 t0_0 (fetch0_4 t0_0) d, fetched4]
    exact Entails.of_eq (owns_whole (c : Thread nD τ) cc0_stg4_0 fullShare (V c main_v15))
  iapply h; iexact H
theorem back4 : (pt c cc0_stg4_0 (V c main_v15) : sProp 𝕄) ⊢ owns (c : Thread nD τ) ((cfg0.win 4).stage (cfg0.slots t0_0 4)) fullShare ((dat V c).after 4 t0_0) :=
  Entails.of_eq (owns_whole (c : Thread nD τ) cc0_stg4_0 fullShare (V c main_v15)).symm
theorem stage5 : iprop(∃ d, owns (c : Thread nD τ) ((cfg0.win 5).stage (cfg0.slots t0_0 5)) fullShare ((dat V c).before 5 t0_0 d)) ⊢ iprop(∃ f, (pt c cc0_stg5_0 f : sProp 𝕄)) := by
  iintro ⟨%d, H⟩
  have h : owns (c : Thread nD τ) ((cfg0.win 5).stage (cfg0.slots t0_0 5)) fullShare ((dat V c).before 5 t0_0 d) ⊢ (pt c cc0_stg5_0 ((dat V c).before 5 t0_0 d) : sProp 𝕄) :=
    Entails.of_eq (owns_whole (c : Thread nD τ) cc0_stg5_0 fullShare ((dat V c).before 5 t0_0 d))
  iexists ((dat V c).before 5 t0_0 d)
  iapply h; iexact H
theorem after5 : (dat V c).after 5 t0_0 = result (Xv V) (Wv V) := by dsimp only [dat]
theorem back5 : (pt c cc0_stg5_0 (result (Xv V) (Wv V)) : sProp 𝕄) ⊢ owns (c : Thread nD τ) ((cfg0.win 5).stage (cfg0.slots t0_0 5)) fullShare ((dat V c).after 5 t0_0) := by
  rw [after5]
  have e (f : Vec F S2048x1024 .f32) : (owns (c : Thread nD τ) ((cfg0.win 5).stage (cfg0.slots t0_0 5)) fullShare f : sProp 𝕄) = pt c cc0_stg5_0 f := owns_whole (c : Thread nD τ) cc0_stg5_0 fullShare f
  exact Entails.of_eq (e _).symm

/-! ## The body -/

theorem body : BodyObligation (dat V c) defs₀ 𝒱₀ () Set.univ := fun t => by
  obtain rfl := fin_N0 t
  rw [bigSep_W0, bigSep_W0, Phi_first', Phi_last']
  iintro ⟨⟨⟨%K, #HX, Hst⟩, Hs, Hp⟩, HO, H0, H1, H2, H3, H4, H5⟩
  ihave HO := (owes_out V c _ (owe c 20) (owed_first' V c)) $$ HO
  ihave H0 := (stage0 V c) $$ H0
  ihave H1 := (stage1 V c) $$ H1
  ihave H2 := (stage2 V c) $$ H2
  ihave H3 := (stage3 V c) $$ H3
  ihave H4 := (stage4 V c) $$ H4
  ihave H5 := (stage5 V c) $$ H5
  iapply (wp_fupd (E := Set.univ))
  iapply (b_body (Xv V) (Wv V) K c (V c main_v5) (V c main_v10) (V c main_v17) (V c main_v19) rfl)
  isplitr; · iexact HX
  isplitl [Hst]; · iexact Hst
  isplitl [HO]; · unfold ow; iexact HO
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨Hd, HO, H0, H1, H2, H3, H4, H5, Hs⟩
  imod (close_all (Xv V) (Wv V) K c) $$ [Hd] with ⟨Hb, Hown⟩
  · isplitr; · iexact HX
    iexact Hd
  imodintro
  isplitl [Hb Hown Hs Hp]
  · isplitl [Hb]; · iexact Hb
    isplitl [Hown]; · iexact Hown
    isplitl [Hs] <;> iassumption
  isplitl [HO]
  · iapply (owes_in V c t0_0.succ 0 (owed_last' V c))
    unfold ow; iexact HO
  isplitl [H0]; · iapply (back0 V c); iexact H0
  isplitl [H1]; · iapply (back1 V c); iexact H1
  isplitl [H2]; · iapply (back2 V c); iexact H2
  isplitl [H3]; · iapply (back3 V c); iexact H3
  isplitl [H4]; · iapply (back4 V c); iexact H4
  iapply (back5 V c); iexact H5

/-! ## The region's record -/

/-- What a device brings into the region: its part of the exchange's launch. -/
def Tk (c : Dev nD) : sProp 𝕄 := iprop(∃ K, ctx0 (Xv V) (Wv V) K ∗ barsKnown ∗ lin c ∗ credits c)

theorem hopen : iprop(Tk V c ∗ Pipeline.ownSems0 osem c ∗ levAts L lv) ⊢ (|={Set.univ}=> iprop(∃ K, ctx0 (Xv V) (Wv V) K ∗ start c) : sProp 𝕄) := by
  unfold Tk
  iintro ⟨⟨%K, #HX, #HB, Hl, Hc⟩, Hs, -⟩
  imod (open_all (Xv V) (Wv V) K c) $$ [Hl Hc Hs] with H
  · isplitr; · iexact HX
    isplitr; · iexact HB
    isplitl [Hl]; · iexact Hl
    isplitl [Hc] <;> iassumption
  imodintro
  iexists K
  isplitr; · iexact HX
  iexact H

theorem rest_scratch : (Pipeline.scopedRest (Ix := Unit) (Name := ℕ) (U := UU) (Lvl := ℕ) (Val := Elt F) spec0 c : sProp 𝕄) = scratch c :=
  scopedRest0_eq c

theorem scratch_rest : (scratch c : sProp 𝕄) ⊢ Pipeline.scopedRest (Ix := Unit) (Name := ℕ) (U := UU) (Lvl := ℕ) (Val := Elt F) spec0 c :=
  Entails.of_eq (rest_scratch c).symm

theorem hin : iprop(Pipeline.scopedRest (Pipeline.pin (pcfgs (F := F)) adm 0).spec c ∗ (∃ r, prngReg c r) ∗ StableHlo.held (c.tc : Thread nD τ) ∅ (V c) ∗ ∃ K, ctx0 (Xv V) (Wv V) K ∗ start c)
    ⊢ ((dat V c).Φ 0 : sProp 𝕄) := by
  have h : (Pipeline.scopedRest (Pipeline.pin (pcfgs (F := F)) adm 0).spec c : sProp 𝕄) ⊢ scratch c := Entails.of_eq (rest_scratch c)
  rw [Phi_first]
  iintro ⟨Hs, Hp, -, HX⟩
  isplitl [HX]; · iexact HX
  isplitl [Hs]; · iapply h; iexact Hs
  iexact Hp

theorem held_none (W : Valuation τ sig (Elt F)) : (BI.emp : sProp 𝕄) ⊢ StableHlo.held (c.tc : Thread nD τ) ∅ W := by
  unfold StableHlo.held; exact Entails.of_eq BI.bigSep_empty.symm

theorem leave (W : Valuation τ sig (Elt F)) : iprop(semVal (barCell c) 0 ∗ Pipeline.ownSems0 osem c ∗ scratch c ∗ ∃ r, prngReg c r)
    ⊢ (iprop(Pipeline.scopedRest spec0 c ∗ (∃ r, prngReg c r) ∗ StableHlo.held (c.tc : Thread nD τ) ∅ W ∗ Pipeline.ownSems0 osem c ∗ semVal (barCell c) 0) : sProp 𝕄) := by
  iintro ⟨Hb, Ho, Hs, Hp⟩
  isplitl [Hs]; · iapply (scratch_rest c); iexact Hs
  isplitl [Hp]; · iexact Hp
  isplitr; · iapply (held_none c W); iempintro
  isplitl [Ho] <;> iassumption

theorem hout : ((dat V c).Φ (Fin.last _) : sProp 𝕄)
    ⊢ iprop(Pipeline.scopedRest (Pipeline.pin (pcfgs (F := F)) adm 0).spec c ∗ (∃ r, prngReg c r) ∗ StableHlo.held (c.tc : Thread nD τ) ∅ (outV V c) ∗ Pipeline.ownSems0 osem c ∗ semVal (barCell c) 0) := by
  rw [Phi_last]
  exact leave c (outV V c)

theorem cutD (t : Fin (cfg0.N + 1)) (g : GSem nD τ sig) (i : Unit) (h : 0 < (dat V c).owed t g i) : i ∈ L g ∧ 0 < lv g i := by
  have e : (dat V c).owed t = dues c t.val := rfl
  rw [e] at h
  rcases Nat.eq_zero_or_pos t.val with ht | ht
  · rw [ht] at h
    obtain ⟨k, hk, rfl⟩ := owe_pos h
    refine ⟨by rw [L_tc]; exact Finset.mem_singleton_self _, ?_⟩
    show 0 < semLv (dueSem k)
    rw [semLv_due]; unfold dueLv; split
    · omega
    · split <;> omega
  · obtain ⟨n, hn⟩ := Nat.exists_eq_succ_of_ne_zero (Nat.pos_iff_ne_zero.mp ht)
    rw [hn] at h
    exact absurd h (Nat.lt_irrefl 0)

theorem cut : Pipeline.LevelCutOwed (pcfgs (F := F)) adm (pdats V) () L lv 0 (fun _ => 0) where
  hι c w s := by rw [L_tc]; exact Finset.mem_singleton_self _
  hιb c w s := by
    have : ∀ (w : Fin 6) (s : Fin (win0 w).nbuf), semLv (.dma ((win0 w).sem s)) ≤ 0 := by decide
    exact this w s
  hD c t g i h := cutD V c t g i h

theorem arr_in (w : Fin 6) (hw : w ≠ 5) : (dat V c).arrAt w cfg0.N = V c (Proc.devRef .tc (Pipeline.arrRef spec0 w)) :=
  (dat V c).arrAt_in w (by revert w; decide) _
theorem arr_out : (dat V c).arrAt 5 cfg0.N = (result (Xv V) (Wv V) : Vec F S2048x1024 .f32) :=
  (dat V c).arrAt_eq_of_after_last 5 t0_0 (by decide +kernel) _ (fun j => rfl)
theorem arr_outV (w : Fin 6) : (dat V c).arrAt w cfg0.N = outV V c (Proc.devRef .tc (Pipeline.arrRef spec0 w)) := by
  by_cases hw : w = 5
  · subst hw
    rw [arr_out]
    unfold outV
    exact (Function.update_self (β := fun b : DevRef τ sig => b.ty.Contents (Elt F)) (Proc.devRef .tc main_v20) _ (V c)).symm
  · rw [arr_in V c w hw]
    unfold outV
    rw [Function.update_of_ne]
    exact StableHlo.devRef_ne_of_ne (by revert w; decide)

theorem rest_outV : ∀ b ∈ (Pipeline.ucRefs τ sig \ Pipeline.arrRefs (τ := τ) spec0), outV V c b = V c b := by
  intro b hb
  unfold outV
  rw [Function.update_of_ne]
  rintro rfl
  exact (Finset.mem_sdiff.mp hb).2 (Finset.mem_map.mpr ⟨Pipeline.arrRef spec0 5, Finset.mem_image_of_mem _ (Finset.mem_univ 5), rfl⟩)

set_option backward.isDefEq.respectTransparency.types false in
/-- The region: it is entered with the exchange's launch and everything owed, and left with the barrier's counter at zero and nothing owed. -/
def reg : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ (Pipeline.ucRefs τ sig \ Pipeline.arrRefs (τ := τ) spec0) (Finset.empty_subset _) (launch0.toP) rfl (fun c => (body V c).loose)
    (fun _ => 0) (fun c => owe c 20) (fun c => (owed_first V c).trans (zero_add _).symm) (owed_last V) (fun _ => rfl) (fun _ w => by unfold Dat.share; split <;> rfl)
    V (outV V) (fun c b hb => rest_outV V c b (Finset.sdiff_subset hb))
    (Tk V) (fun c => semVal (barCell c) 0) (fun c => iprop(∃ K, ctx0 (Xv V) (Wv V) K ∗ start c)) (fun c => semVal (barCell c) 0) (hopen V) (hin V) (hout V)
    (fun c => by iintro H; imodintro; iexact H)
    (fun _ => 0) (cut V) (fun _ => iprop(emp))
    (fun _ _ => rfl) (arr_outV V)

end Cert.KernelIdeal.Body
-- ==== Proof.KernelIdeal.Launch.lean ====
/-
  The program's run: from any memory with every counter at zero it ends, on every device, at the memory its items compute, with every counter back at zero.
-/
module

public import proofs.«01_k».proof.Proof.KernelIdeal.Region
public import Idealize.ShloMosaic.Lib.Pipeline.Regions

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

/-- What the region leaves in the buffer it may change. -/
def outs : Outs (F := F) := fun _ r c => outV (V1 m) c r

theorem V2_eq : V2 m (outs m) c = outV (V1 m) c := by
  show Function.update (V1 m c) (Proc.devRef .tc main_v20) (outV (V1 m) c (Proc.devRef .tc main_v20)) = outV (V1 m) c
  unfold outV
  rw [Function.update_self]

/-- What rides along the program's items beside the buffers. -/
def rest : Fin 2 → Dev nD → sProp 𝕄
  | 0 => fun c => iprop(Tk (V1 m) c ∗ (∃ r, prngReg c r) ∗ ow c 20)
  | 1 => fun c => iprop(semVal (barCell c) 0 ∗ ∃ W, owes (c : Thread nD τ) (0 : CellTallies nD τ sig Unit) W)

theorem arr_sub : Pipeline.arrRefs (τ := τ) spec0 ⊆ Pipeline.ucRefs τ sig :=
  Pipeline.arrRefs_sub_ucRefs spec0 (by decide)

theorem enter (V : Dev nD → Valuation τ sig (Elt F)) :
    iprop(StableHlo.held (c : Thread nD τ) (Pipeline.ucRefs τ sig) (V c) ∗ (Tk V c ∗ (∃ r, prngReg c r) ∗ ow c 20)) ⊢ ((reg V).pre c : sProp 𝕄) := by
  show _ ⊢ iprop(StableHlo.held (c.tc : Thread nD τ) (Pipeline.arrRefs (τ := τ) spec0) (V c) ∗ (∃ r, prngReg c r)
    ∗ (StableHlo.held (c.tc : Thread nD τ) (Pipeline.ucRefs τ sig \ Pipeline.arrRefs (τ := τ) spec0) (V c) ∗ emp) ∗ Tk V c ∗ ∃ Wd, owes (c : Thread nD τ) (0 + owe c 20) Wd)
  rw [StableHlo.held_sub_split (c.tc : Thread nD τ) arr_sub (V c), zero_add]
  unfold ow
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem exit (V : Dev nD → Valuation τ sig (Elt F)) :
    ((reg V).post c : sProp 𝕄) ⊢ iprop(StableHlo.held (c : Thread nD τ) (Pipeline.ucRefs τ sig) (outV V c) ∗ (semVal (barCell c) 0 ∗ ∃ W, owes (c : Thread nD τ) (0 : CellTallies nD τ sig Unit) W)) := by
  show iprop(StableHlo.held (c.tc : Thread nD τ) (Pipeline.arrRefs (τ := τ) spec0) (outV V c) ∗ (∃ r, prngReg c r)
    ∗ (StableHlo.held (c.tc : Thread nD τ) (Pipeline.ucRefs τ sig \ Pipeline.arrRefs (τ := τ) spec0) (outV V c) ∗ emp) ∗ semVal (barCell c) 0 ∗ ∃ Wd, owes (c : Thread nD τ) 0 Wd) ⊢ _
  rw [StableHlo.held_sub_split (c.tc : Thread nD τ) arr_sub (outV V c)]
  iintro ⟨Ha, -, ⟨Hr, -⟩, Hb, HO⟩
  isplitl [Ha Hr]; · isplitl [Ha] <;> iassumption
  isplitl [Hb] <;> iassumption

/-! ## The launch -/

theorem unscoped_only : ∀ sm : SemLoc sig, sm.isScoped .tc = false → sm = .reg barS := by decide
theorem sems_eq : (unscopedSems0 c : sProp 𝕄) = semVal (barCell c) 0 := by
  have h : (Finset.univ.filter fun sm : SemLoc sig => ¬ sm.isScoped .tc = true) = {.reg barS} := by decide
  unfold unscopedSems0
  rw [h, bigSep_singleton]

/-- What is held by the first device alone. -/
def onFirst (R : sProp 𝕄) (c : Dev nD) : sProp 𝕄 := if c = 0 then R else iprop(emp)
theorem bigSep_onFirst (R : sProp 𝕄) : bigSep Finset.univ (onFirst R) = R := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def u₀ : UU := (initOf (Pipeline.cells cfgs cellOf_inj) (Pipeline.launchToks cfgs cellOf_inj), u₁)
def G : Dev nD → sProp 𝕄 := onFirst (BI.own (ER u₁))

theorem fund_all (V : Dev nD → Valuation τ sig (Elt F)) :
    iprop((bigSep Finset.univ fun c : Dev nD => iprop(unscopedSems0 c ∗ owes (c : Thread nD τ) (owe c 20) ∅ ∗ Pipeline.launchCred (fun d => owe d 20) c ∗ prngReg c (ρ c) ∗ G c)) ∗ levAts L lv)
      ⊢ (|={Set.univ}=> bigSep Finset.univ fun c : Dev nD => iprop(Tk V c ∗ (∃ r, prngReg c r) ∗ ow c 20) : sProp 𝕄) := by
  have hcore : (bigSep Finset.univ fun c : Dev nD => (iprop(unscopedSems0 c ∗ owes (c : Thread nD τ) (owe c 20) ∅ ∗ Pipeline.launchCred (fun d => owe d 20) c ∗ prngReg c (ρ c) ∗ G c) : sProp 𝕄))
      ⊢ bigSep Finset.univ fun c : Dev nD => iprop((semVal (barCell c) 0 ∗ G c) ∗ (credits c ∗ (∃ r, prngReg c r) ∗ ow c 20)) :=
    bigSep_mono fun c _ => by
      show _ ⊢ iprop((semVal (barCell c) 0 ∗ G c) ∗ (credits c ∗ (∃ r, prngReg c r) ∗ ow c 20))
      rw [sems_eq]
      show iprop(semVal (barCell c) 0 ∗ owes (c : Thread nD τ) (owe c 20) ∅ ∗ Pipeline.launchCred (fun d => owe d 20) c ∗ prngReg c (ρ c) ∗ G c) ⊢ iprop((semVal (barCell c) 0 ∗ G c) ∗ (credits c ∗ (∃ r, prngReg c r) ∗ ow c 20))
      iintro ⟨Hs, HO, Hc, Hp, HG⟩
      isplitl [Hs HG]; · isplitl [Hs] <;> iassumption
      isplitl [Hc]; · iapply (credits_of (F := F) c); iexact Hc
      isplitl [Hp]; · iexists (ρ c); iexact Hp
      unfold ow; iexists ∅; iexact HO
  have hG : bigSep Finset.univ (G (F := F)) ⊢ BI.own (ER u₁) := Entails.of_eq (bigSep_onFirst (BI.own (ER u₁)))
  iintro ⟨H, Hlev⟩
  ihave H := hcore $$ H
  ihave H := parted $$ H
  icases H with ⟨H, HB⟩
  ihave H := parted $$ H
  icases H with ⟨Hs, HG⟩
  ihave HG := hG $$ HG
  imod (fund (Xv V) (Wv V)) $$ [Hs Hlev HG] with ⟨%K, #HX, #HK, Hl⟩
  · isplitl [Hs]; · iexact Hs
    isplitl [Hlev] <;> iassumption
  imodintro
  have hw : iprop(iprop(ctx0 (Xv V) (Wv V) K ∗ barsKnown) ∗ bigSep Finset.univ fun c : Dev nD => (iprop(lin c ∗ (credits c ∗ (∃ r, prngReg c r) ∗ ow c 20)) : sProp 𝕄))
      ⊢ bigSep Finset.univ fun c : Dev nD => iprop(Tk V c ∗ (∃ r, prngReg c r) ∗ ow c 20) :=
    bigSep_with_persistent fun c _ => by
      unfold Tk
      iintro ⟨⟨#HX, #HK⟩, Hl, Hc, Hp, HO⟩
      isplitl [Hl Hc]
      · iexists K
        isplitr; · iexact HX
        isplitr; · iexact HK
        isplitl [Hl] <;> iassumption
      isplitl [Hp] <;> iassumption
  iapply hw
  isplitr
  · isplitr; · iexact HX
    iexact HK
  iapply joined
  isplitl [Hl] <;> iassumption

theorem init : iprop((bigSep Finset.univ fun c : Dev nD => iprop(unscopedBufs c (fun b => m ((c.tc : Thread nD τ).loc b)) ∗ unscopedSems0 c
          ∗ owes (c.tc : Thread nD τ) (owe c 20) ∅ ∗ Pipeline.launchCred (fun d => owe d 20) c ∗ prngReg c (ρ c) ∗ G c)) ∗ levAts L lv)
    ⊢ (|={Set.univ}=> bigSep Finset.univ fun c : Dev nD => iprop(StableHlo.held (c : Thread nD τ) (Pipeline.ucRefs τ sig) (V0 m c) ∗ rest m 0 c) : sProp 𝕄) := by
  have hsplit : (bigSep Finset.univ fun c : Dev nD => iprop(unscopedBufs c (fun b => m ((c.tc : Thread nD τ).loc b)) ∗ unscopedSems0 c
          ∗ owes (c.tc : Thread nD τ) (owe c 20) ∅ ∗ Pipeline.launchCred (fun d => owe d 20) c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owe c 20) ∅ ∗ Pipeline.launchCred (fun d => owe d 20) c ∗ prngReg c (ρ c) ∗ G c)) : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (fund_all ρ (V1 m)) $$ [Hr Hla] with HE
  · isplitl [Hr]; · iexact Hr
    iexact Hla
  imodintro
  iapply joined
  isplitl [Hh]; · iexact Hh
  iexact HE

set_option backward.isDefEq.respectTransparency.types false in
/-- The run of the program, in any arithmetic. -/
theorem run : θ_run defs (onTc (τ := τ) (main (F := F))) ⟨m, fun _ => 0, ρ⟩ (fun r =>
    (∀ c : Dev nD, ∀ b ∈ Pipeline.ucRefs τ sig, r.2.mem (c, b) = V3 m (outs m) c b) ∧ r.2.sem = fun _ => 0) := by
  refine Pipeline.θ_run_regions_kit_dev_sems (pcfgs (F := F)) adm (pdats (V1 m)) () cellOf_inj EP defs₀ 𝒱₀ L lv m ρ main
    (segs m (outs m) 𝒱₀ L lv (rest m) () (pdats (V1 m)) (reg (V1 m)))
    (fun c Q => by
      rewrite [main_chain c, Seg.run_eq_chain,
        show (segs m (outs m) 𝒱₀ L lv (rest m) () (pdats (V1 m)) (reg (V1 m)) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (fun c => owe c 20) L_of_ne G u₀ ?_
    (T₀ := fun c => iprop(StableHlo.held (c : Thread nD τ) (Pipeline.ucRefs τ sig) (V0 m c) ∗ rest m 0 c))
    (Tₙ := fun c => iprop(StableHlo.held (c : Thread nD τ) (Pipeline.ucRefs τ sig) (V3 m (outs m) c) ∗ semVal (barCell c) 0))
    (hch := fun c => ⟨.rfl, enter c (V1 m), ?_, ?_⟩)
    (hinit := init m ρ)
    (QY := fun c s => (∀ b ∈ Pipeline.ucRefs τ sig, s.mem (c, b) = V3 m (outs m) c b) ∧ s.sem (barCell c) = 0)
    (hfin := fun c s' => ?_)
    (hQ := fun s h hs => ⟨fun c => (h c).1, sem_eq_zero hs fun c sm hsm => by
      obtain rfl := unscoped_only sm hsm
      exact (h c).2⟩)
  · unfold u₀ G
    iintro Hu
    ihave H := (ownU_pair _ _) $$ Hu
    icases H with ⟨HP, HX⟩
    imodintro
    isplitl [HP]; · iexact HP
    rw [bigSep_onFirst]; iexact HX
  · refine (exit c (V1 m)).trans ?_
    rw [← V2_eq m c]
    exact .rfl
  · show iprop(StableHlo.held (c : Thread nD τ) (Pipeline.ucRefs τ sig) (V3 m (outs m) c) ∗ (semVal (barCell c) 0 ∗ ∃ W, owes (c : Thread nD τ) (0 : CellTallies nD τ sig Unit) W)) ⊢ _
    iintro ⟨Hh, Hb, HO⟩
    isplitr [HO]
    · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    · iexact HSI

end Cert.KernelIdeal.Body
-- ==== Proof.Frames.lean ====
/-
  The frames of the kernel's two readings, both from the one run proved for any arithmetic.
-/
module

public import proofs.«01_k».proof.Defs
public import proofs.«01_k».proof.Proof.Gen.Kernel
public import proofs.«01_k».proof.Proof.Gen.ReferenceIdeal.Run
public import Idealize.ShloMosaic.Lib.Quiescent
public import proofs.«01_k».proof.Proof.KernelIdeal.Launch

@[expose] public section

set_option maxRecDepth 16384

noncomputable section

namespace Cert.Frames

open Idealize.ShloMosaic Idealize.ShloMosaic.TcCoe Idealize.SL.Sem
open Cert.KernelIdeal Cert.KernelIdeal.Gen Cert.KernelIdeal.Body

/-- The program runs, leaves its arguments as they were and every counter at zero, in the arithmetic `F`. -/
def Quiet (F : FTy → Type) [FloatOps F] [Named F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

variable {F : FTy → Type} [FloatOps F] [Named F]

/-- An argument's buffer, read off the run. -/
theorem arg_kept (m : (ℓ : Loc nD τ sig) → Buf (Elt F) ℓ) (mem : (ℓ : Loc nD τ sig) → Buf (Elt F) ℓ) (c : Dev nD)
    (h : ∀ b ∈ Pipeline.ucRefs τ sig, mem (c, b) = V3 m (outs m) c b) :
    mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_arg4) = m ((c : Thread nD τ).loc main_arg4) :=
  ⟨(h (Proc.devRef .tc main_arg0) (Finset.mem_filter.mpr ⟨StableHlo.devRef_mem_tcRefs main_arg0, by decide⟩)).trans (V3_main_arg0 m (outs m) c),
   (h (Proc.devRef .tc main_arg1) (Finset.mem_filter.mpr ⟨StableHlo.devRef_mem_tcRefs main_arg1, by decide⟩)).trans (V3_main_arg1 m (outs m) c),
   (h (Proc.devRef .tc main_arg2) (Finset.mem_filter.mpr ⟨StableHlo.devRef_mem_tcRefs main_arg2, by decide⟩)).trans (V3_main_arg2 m (outs m) c),
   (h (Proc.devRef .tc main_arg3) (Finset.mem_filter.mpr ⟨StableHlo.devRef_mem_tcRefs main_arg3, by decide⟩)).trans (V3_main_arg3 m (outs m) c),
   (h (Proc.devRef .tc main_arg4) (Finset.mem_filter.mpr ⟨StableHlo.devRef_mem_tcRefs main_arg4, by decide⟩)).trans (V3_main_arg4 m (outs m) c)⟩

/-- The frame, in any arithmetic, from the one run. -/
theorem quiet (F : FTy → Type) [FloatOps F] [Named F] : Quiet F := fun m g _ =>
  (θ_run _ _ _).mono (fun r h => ⟨fun c => arg_kept m r.2.mem c (h.1 c), h.2⟩) (run m g)

/-- At bit patterns a constant's name is not read: it is its pattern. -/
@[instance_reducible] def namedBits : Named Bits := ⟨fun _ _ φ bits => Scalar.ofBits φ bits⟩

/-- The kernel as it was printed is the renamed one with its names not read. -/
theorem same : @Cert.quiescent_Kernel Cert.Kernel.Gen.facts = @Quiet Bits _ namedBits := by
  chain_rfl

/-- The frame of the kernel as printed. -/
theorem kernel : @Cert.quiescent_Kernel Cert.Kernel.Gen.facts := by
  rw [same]; exact @quiet Bits _ namedBits

/-- The frame of the kernel over the extended reals. -/
theorem kernelIdeal : @Cert.quiescent_KernelIdeal Cert.KernelIdeal.Gen.facts := quiet Ideal

/-- The frame of the reference, which has no semaphores at all. -/
theorem referenceIdeal : @Cert.quiescent_ReferenceIdeal Cert.ReferenceIdeal.Gen.facts := fun m g _ =>
  (θ_run _ _ _).mono (fun r h => ⟨fun c => (h c).2, sem_eq_zero_of_no_sems (by decide) r.2⟩)
    (Cert.ReferenceIdeal.Value.run m g)

/-- The one named constant: the mask's minus one thousand million, read as minus infinity. -/
theorem preserves : Cert.preserves_Kernel_KernelIdeal :=
  IdealRules.named_const.statement _ _ _ _ _ rfl

end Cert.Frames
-- ==== Proof.Value.Reference.lean ====
/-
  The reference's result in stages: the scores, the block mask, the softmax weights, the context and the
  output projection, each a definition of its own; and the printed composed term is their composition.
-/
module

public import proofs.«01_k».proof.Proof.Gen.ReferenceIdeal.Run

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe

variable {F : FTy → Type} [FloatOps F]

/-- The block number of every position: the position divided by 64, rounded down. -/
def blocks : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The query's block number, along rows. -/
def rowBlocks : IVec S2048x2048 32 :=
  broadcastInDim S2048x2048 ![0, 1] bcast_S2048x1_S2048x2048_0_1 (broadcastInDim S2048x1 ![0] bcast_S2048_S2048x1_0 blocks)

/-- The key's block number, along columns. -/
def colBlocks : IVec S2048x2048 32 :=
  broadcastInDim S2048x2048 ![0, 1] bcast_S1x2048_S2048x2048_0_1 (broadcastInDim S1x2048 ![1] bcast_S2048_S1x2048_1 blocks)

/-- The divisor three, as the printed remainder guards it against zero. -/
def three : IVec S_ 32 :=
  select (cmpi .eq (id (constantI S_ 32 3#32)) (constantI S_ 32 0#32)) (constantI S_ 32 1#32) (id (constantI S_ 32 3#32))

/-- The remainder by three of the two block numbers' sum, before its sign is mended. -/
def rem0 : IVec S2048x2048 32 :=
  Host.remsi (addi rowBlocks colBlocks) (broadcastInDim S2048x2048 ![] bcast_S_S2048x2048 three)

/-- The remainder by three of the two block numbers' sum. -/
def rem3 : IVec S2048x2048 32 :=
  select (andi (cmpi .ne (cmpi .slt rem0 (broadcastInDim S2048x2048 ![] bcast_S_S2048x2048 (constantI S_ 32 0#32))) (broadcastInDim S2048x2048 ![] bcast_S_S2048x2048 (cmpi .slt three (constantI S_ 32 0#32))))
      (cmpi .ne rem0 (broadcastInDim S2048x2048 ![] bcast_S_S2048x2048 (constantI S_ 32 0#32))))
    (addi rem0 (broadcastInDim S2048x2048 ![] bcast_S_S2048x2048 three)) rem0

/-- Which keys a query attends to. -/
def mask : IVec S2048x2048 1 :=
  ori (ori (cmpi .eq rowBlocks colBlocks)
      (broadcastInDim S2048x2048 ![0, 1] bcast_S1x2048_S2048x2048_0_1 (cmpi .eq (broadcastInDim S1x2048 ![1] bcast_S2048_S1x2048_1 blocks) (broadcastInDim S1x2048 ![] bcast_S_S1x2048 (constantI S_ 32 0#32)))))
    (cmpi .eq rem3 (broadcastInDim S2048x2048 ![] bcast_S_S2048x2048 (constantI S_ 32 0#32)))

/-- Which queries attend to some key. -/
def keep : IVec S2048 1 := Host.reduce IntOp.ori mask (constantI S_ 1 0#1) reducesTo_S2048x2048_S2048_d1 h_S_

/-- The queries, cut into heads. -/
def queries (x : FVec F S1x2048x1024 .bf16) (wq : FVec F S1024x16384 .bf16) : FVec F S1x2048x128x128 .f32 :=
  shapeCast _ (Host.dotGeneral dot_S1x2048x1024_S1024x16384_S1x2048x16384_2_0_01_1_n_n none (extf .f32 x bitsLt_bf16_f32) (extf .f32 wq bitsLt_bf16_f32)) shapeCasts_S1x2048x16384_S1x2048x128x128

/-- The scaled scores. -/
def scores (q : FVec F S1x2048x128x128 .f32) (k : FVec F S1x2048x128x128 .bf16) : FVec F S1x128x2048x2048 .f32 :=
  mulf (Host.dotGeneral dot_S1x2048x128x128_S1x2048x128x128_S1x128x2048x2048_3_3_1_1_02_02 none q (extf .f32 k bitsLt_bf16_f32))
    (broadcastInDim S1x128x2048x2048 ![] bcast_S_S1x128x2048x2048 (constant S_ .f32 0x3DB504F3#32))

/-- The scores with −∞ at the keys a query doesn't attend to. -/
def masked (s : FVec F S1x128x2048x2048 .f32) : FVec F S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 mask)) s
    (broadcastInDim S1x128x2048x2048 ![] bcast_S_S1x128x2048x2048 (id (constant S_ .f32 0xFF800000#32)))

/-- The largest masked score of every query and head. -/
def rowMax (s : FVec F S1x128x2048x2048 .f32) : FVec F S1x128x2048 .f32 :=
  Host.reduce FloatOps.maximumf s (constant S_ .f32 0xFF800000#32) reducesTo_S1x128x2048x2048_S1x128x2048_d3 h_S_

/-- The exponentials of the scores less their row's largest. -/
def expd (s : FVec F S1x128x2048x2048 .f32) (mx : FVec F S1x128x2048 .f32) : FVec F S1x128x2048x2048 .f32 :=
  Host.exp (subf s (broadcastInDim S1x128x2048x2048 ![0, 1, 2, 3] bcast_S1x128x2048x1_S1x128x2048x2048_0_1_2_3 (broadcastInDim S1x128x2048x1 ![0, 1, 2] bcast_S1x128x2048_S1x128x2048x1_0_1_2 mx)))

/-- The sum of a row's exponentials. -/
def rowSum (e : FVec F S1x128x2048x2048 .f32) : FVec F S1x128x2048 .f32 :=
  Host.reduceAdd e (constant S_ .f32 0x00000000#32) reducesTo_S1x128x2048x2048_S1x128x2048_d3 h_S_

/-- What a row is divided by. -/
def divisor (kp : IVec S2048 1) (l : FVec F S1x128x2048 .f32) : FVec F S1x128x2048x1 .f32 :=
  select (broadcastInDim S1x128x2048x1 ![0, 1, 2, 3] bcast_S1x1x2048x1_S1x128x2048x1_0_1_2_3 (broadcastInDim S1x1x2048x1 ![2] bcast_S2048_S1x1x2048x1_2 kp))
    (broadcastInDim S1x128x2048x1 ![0, 1, 2] bcast_S1x128x2048_S1x128x2048x1_0_1_2 l) (broadcastInDim S1x128x2048x1 ![] bcast_S_S1x128x2048x1 (id (constant S_ .f32 0x3F800000#32)))

/-- The weights. -/
def weights (kp : IVec S2048 1) (e : FVec F S1x128x2048x2048 .f32) (d : FVec F S1x128x2048x1 .f32) : FVec F S1x128x2048x2048 .f32 :=
  select (broadcastInDim S1x128x2048x2048 ![0, 1, 2, 3] bcast_S1x1x2048x1_S1x128x2048x2048_0_1_2_3 (broadcastInDim S1x1x2048x1 ![2] bcast_S2048_S1x1x2048x1_2 kp))
    (Host.divf e (broadcastInDim S1x128x2048x2048 ![0, 1, 2, 3] bcast_S1x128x2048x1_S1x128x2048x2048_0_1_2_3 d))
    (broadcastInDim S1x128x2048x2048 ![] bcast_S_S1x128x2048x2048 (id (constant S_ .f32 0x00000000#32)))

/-- The weighted sums of the values, heads side by side. -/
def context (w : FVec F S1x128x2048x2048 .f32) (v : FVec F S1x2048x128x128 .bf16) : FVec F S1x2048x16384 .f32 :=
  shapeCast _ (transpose S1x2048x128x128 [0, 3, 1, 2] (Host.dotGeneral dot_S1x2048x128x128_S1x128x2048x2048_S1x128x128x2048_1_3_3_2_02_01 none (extf .f32 v bitsLt_bf16_f32) w)
    transposes_S1x128x128x2048_S1x2048x128x128_0_3_1_2) shapeCasts_S1x2048x128x128_S1x2048x16384

/-- The output projection. -/
def project (c : FVec F S1x2048x16384 .f32) (wo : FVec F S16384x1024 .bf16) : FVec F S1x2048x1024 .f32 :=
  Host.dotGeneral dot_S1x2048x16384_S16384x1024_S1x2048x1024_2_0_01_1_n_n none c (extf .f32 wo bitsLt_bf16_f32)

/-- The masked scores of a set of arguments. -/
def maskedOf (x : FVec F S1x2048x1024 .bf16) (wq : FVec F S1024x16384 .bf16) (k : FVec F S1x2048x128x128 .bf16) : FVec F S1x128x2048x2048 .f32 :=
  masked (scores (queries x wq) k)

/-- The exponentials of a set of masked scores. -/
def expOf (s : FVec F S1x128x2048x2048 .f32) : FVec F S1x128x2048x2048 .f32 := expd s (rowMax s)

/-- The weights of a set of masked scores. -/
def weightsOf (s : FVec F S1x128x2048x2048 .f32) : FVec F S1x128x2048x2048 .f32 := weights keep (expOf s) (divisor keep (rowSum (expOf s)))

/-- The whole reference. -/
def out (x : FVec F S1x2048x1024 .bf16) (wq : FVec F S1024x16384 .bf16) (k v : FVec F S1x2048x128x128 .bf16) (wo : FVec F S16384x1024 .bf16) : FVec F S1x2048x1024 .f32 :=
  project (context (weightsOf (maskedOf x wq k)) v) wo

set_option maxHeartbeats 1000000 in
theorem res_eq (m : (ℓ : Loc nD τ sig) → Buf (Elt F) ℓ) (c : Dev nD) :
    res_main_v49 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdeal.Stages
-- ==== Proof.Value.Mask.lean ====
/-
  Which keys a query attends to: those of its own block of 64 positions, those of the first block, and those
  whose block number and the query's add up to a multiple of three.
-/
module

public import Idealize.ShloMosaic.PureOps.Ideal.Laws

@[expose] public section

namespace Cert.Softmax

/-- Query `r` attends to key `j`. -/
def attends (r j : ℕ) : Prop := r / 64 = j / 64 ∨ j / 64 = 0 ∨ (r / 64 + j / 64) % 3 = 0

instance (r j : ℕ) : Decidable (attends r j) := by unfold attends; infer_instance

/-- Every query attends to the first key. -/
theorem attends_first (r : ℕ) : attends r 0 := .inr (.inl rfl)

end Cert.Softmax
-- ==== Proof.Value.RefRead.lean ====
/-
  The reference's stages read at an index, over the extended reals.
-/
module

public import proofs.«01_k».proof.Proof.Value.Reference
public import proofs.«01_k».proof.Proof.Value.Mask
public import Idealize.ShloMosaic.Lib.Pointwise
public import Idealize.ShloMosaic.Lib.Routing.OpsOrder

@[expose] public section

set_option maxRecDepth 16384

noncomputable section

namespace Cert.ReferenceIdeal.Stages

open Cert.ReferenceIdeal Cert.ReferenceIdeal.Gen Cert.ReferenceIdeal.Value Cert.Softmax
open Idealize.ShloMosaic Idealize.ShloMosaic.TcCoe

theorem blocks_apply (n : Fin 2048) : blocks (ix1 n) = BitVec.ofNat 32 (n.val / 64) := by
  pointwise [blocks, id]
  revert n; decide +kernel

theorem mask_apply (r j : Fin 2048) : mask (ix2 r j) = BitVec.ofBool (decide (attends r.val j.val)) := by
  pointwise [mask, rem3, rem0, three, rowBlocks, colBlocks, blocks_apply, id]
  unfold attends
  obtain ⟨a, ha⟩ : ∃ a : Fin 32, a.val = r.val / 64 := ⟨⟨r.val / 64, by omega⟩, rfl⟩
  obtain ⟨b, hb⟩ : ∃ b : Fin 32, b.val = j.val / 64 := ⟨⟨j.val / 64, by omega⟩, rfl⟩
  simp only [← ha, ← hb]
  clear ha hb r j
  revert a b; decide +kernel

theorem keep_apply (r : Fin 2048) : keep (ix1 r) = 1#1 := by
  pointwise [keep]
  rw [Routing.fold_ori]
  refine ⟨0, Finset.mem_univ _, ?_⟩
  rw [mask_apply]
  exact congrArg BitVec.ofBool (decide_eq_true (attends_first r.val))

theorem queries_apply (x : FVec Ideal S1x2048x1024 .bf16) (wq : FVec Ideal S1024x16384 .bf16) (r : Fin 2048) (h d : Fin 128) :
    queries x wq (ix4 0 r h d) = (∑ a : Fin 1024, x (ix3 0 r a) * wq (ix2 a ⟨h.val * 128 + d.val, by omega⟩) : EReal) := by
  pointwise [queries]

theorem scores_apply (q : FVec Ideal S1x2048x128x128 .f32) (k : FVec Ideal S1x2048x128x128 .bf16) (h : Fin 128) (r j : Fin 2048) :
    scores q k (ix4 0 h r j) = ((∑ d : Fin 128, q (ix4 0 r h d) * k (ix4 0 j h d)) * Ideal.ofBits .f32 0x3DB504F3#32 : EReal) := by
  pointwise [scores]

theorem neg_inf : Ideal.ofBits .f32 0xFF800000#32 = ⊥ := by simp [Ideal.ofBits, Ideal.ieee]

theorem masked_apply (s : FVec Ideal S1x128x2048x2048 .f32) (h : Fin 128) (r j : Fin 2048) :
    masked s (ix4 0 h r j) = (if attends r.val j.val then s (ix4 0 h r j) else ⊥ : EReal) := by
  pointwise [masked, id]
  rw [mask_apply, neg_inf]
  by_cases h : attends r.val j.val
  · rw [if_pos h, decide_eq_true h]; rfl
  · rw [if_neg h, decide_eq_false h]; rfl

theorem rowMax_apply (s : FVec Ideal S1x128x2048x2048 .f32) (h : Fin 128) (r : Fin 2048) :
    rowMax s (ix3 0 h r) = (Finset.univ.fold max ⊥ (fun j : Fin 2048 => s (ix4 0 h r j)) : EReal) := by
  pointwise [rowMax]
  rw [neg_inf]

theorem rowSum_apply (s : FVec Ideal S1x128x2048x2048 .f32) (h : Fin 128) (r : Fin 2048) :
    rowSum s (ix3 0 h r) = (∑ j : Fin 2048, s (ix4 0 h r j) : EReal) := by
  pointwise [rowSum]

theorem expd_apply (s : FVec Ideal S1x128x2048x2048 .f32) (mx : FVec Ideal S1x128x2048 .f32) (h : Fin 128) (r j : Fin 2048) :
    expd s mx (ix4 0 h r j) = Ideal.exp (s (ix4 0 h r j) - mx (ix3 0 h r)) := by
  pointwise [expd]

theorem divisor_apply (kp : IVec S2048 1) (l : FVec Ideal S1x128x2048 .f32) (h : Fin 128) (r : Fin 2048) (hk : kp (ix1 r) = 1#1) :
    divisor kp l (ix4 0 h r 0) = l (ix3 0 h r) := by
  pointwise [divisor, hk]

theorem weights_apply (kp : IVec S2048 1) (e : FVec Ideal S1x128x2048x2048 .f32) (d : FVec Ideal S1x128x2048x1 .f32) (h : Fin 128) (r j : Fin 2048) (hk : kp (ix1 r) = 1#1) :
    weights kp e d (ix4 0 h r j) = Ideal.div (e (ix4 0 h r j)) (d (ix4 0 h r 0)) := by
  pointwise [weights, hk]

theorem expOf_apply (s : FVec Ideal S1x128x2048x2048 .f32) (h : Fin 128) (r j : Fin 2048) :
    expOf s (ix4 0 h r j) = Ideal.exp (s (ix4 0 h r j) - Finset.univ.fold max ⊥ (fun j : Fin 2048 => (s (ix4 0 h r j) : EReal))) := by
  unfold expOf
  rw [expd_apply, rowMax_apply]

theorem weightsOf_apply (s : FVec Ideal S1x128x2048x2048 .f32) (h : Fin 128) (r j : Fin 2048) :
    weightsOf s (ix4 0 h r j) = Ideal.div (Ideal.exp (s (ix4 0 h r j) - Finset.univ.fold max ⊥ (fun j : Fin 2048 => (s (ix4 0 h r j) : EReal))))
      (∑ k : Fin 2048, Ideal.exp (s (ix4 0 h r k) - Finset.univ.fold max ⊥ (fun j : Fin 2048 => (s (ix4 0 h r j) : EReal)))) := by
  unfold weightsOf
  rw [weights_apply _ _ _ _ _ _ (keep_apply r), divisor_apply _ _ _ _ (keep_apply r), rowSum_apply, expOf_apply]
  exact congrArg (Ideal.div _) (Finset.sum_congr rfl fun k _ => expOf_apply s h r k)

theorem context_apply (w : FVec Ideal S1x128x2048x2048 .f32) (v : FVec Ideal S1x2048x128x128 .bf16) (r : Fin 2048) (n : Fin 16384) :
    context w v (ix3 0 r n) = (∑ j : Fin 2048, v (ix4 0 j ⟨n.val / 128, by omega⟩ ⟨n.val % 128, by omega⟩) * w (ix4 0 ⟨n.val / 128, by omega⟩ r j) : EReal) := by
  pointwise [context]

theorem project_apply (c : FVec Ideal S1x2048x16384 .f32) (wo : FVec Ideal S16384x1024 .bf16) (r : Fin 2048) (o : Fin 1024) :
    project c wo (ix3 0 r o) = (∑ n : Fin 16384, c (ix3 0 r n) * wo (ix2 n o) : EReal) := by
  pointwise [project]

end Cert.ReferenceIdeal.Stages
-- ==== Proof.Value.KernRead.lean ====
/-
  The kernel's values read at an index, over the extended reals.
-/
module

public import proofs.«01_k».proof.Proof.KernelIdeal.Contents
public import proofs.«01_k».proof.Proof.KernelIdeal.Attention
public import proofs.«01_k».proof.Proof.Value.Mask
public import Idealize.ShloMosaic.Lib.Pointwise
public import Idealize.ShloMosaic.PureOps.IdealRules

@[expose] public section

set_option maxRecDepth 16384

noncomputable section

namespace Cert.KernelIdeal.Body

open Cert.KernelIdeal Cert.KernelIdeal.Gen Cert.Softmax
open Idealize.ShloMosaic Idealize.ShloMosaic.TcCoe

/-! ## The additive mask -/

/-- The printed division by 64, rounded down, on the positions of a sequence. -/
theorem block_of (n : ℕ) (hn : n < 2048) :
    Scalar.select (IntOp.andi (IntOp.cmpi .ne
        (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
        (IntOp.cmpi .ne (IntOp.remsi .vector (BitVec.ofNat 32 n) 64#32) 0#32))
      (IntOp.subi (IntOp.divsi .vector (BitVec.ofNat 32 n) 64#32) 1#32) (IntOp.divsi .vector (BitVec.ofNat 32 n) 64#32)
      = BitVec.ofNat 32 (n / 64) := by
  have h : ∀ a : Fin 2048, Scalar.select (IntOp.andi (IntOp.cmpi .ne
        (IntOp.subi (BitVec.setWidth 32 (IntOp.cmpi .sgt (BitVec.ofNat 32 a.val) 0#32)) (BitVec.setWidth 32 (IntOp.cmpi .slt (BitVec.ofNat 32 a.val) 0#32)))
        (Scalar.subi (Scalar.extui (Scalar.cmpi .sgt 64#32 0#32)) (Scalar.extui (Scalar.cmpi .slt 64#32 0#32))))
        (IntOp.cmpi .ne (IntOp.remsi .vector (BitVec.ofNat 32 a.val) 64#32) 0#32))
      (IntOp.subi (IntOp.divsi .vector (BitVec.ofNat 32 a.val) 64#32) 1#32) (IntOp.divsi .vector (BitVec.ofNat 32 a.val) 64#32)
      = BitVec.ofNat 32 (a.val / 64) := by decide +kernel
  exact h ⟨n, hn⟩

theorem named_mask : (Named.named κ "mask" 0xCE6E6B28#32 : Ideal .f32) = (⊥ : EReal) :=
  IdealRules.named_const.ideal_named_scalar _ _ _ _ rfl

theorem select_of (M : BitVec 1) (P : Prop) [Decidable P] (h : M = BitVec.ofBool (decide P)) :
    Scalar.select M (0 : EReal) ⊥ = if P then 0 else ⊥ := by
  subst h
  by_cases hP : P
  · rw [if_pos hP, decide_eq_true hP]; rfl
  · rw [if_neg hP, decide_eq_false hP]; rfl

theorem row_word (r o : ℕ) (h : r + o < 2048) : IntOp.addi (BitVec.ofNat 32 r) (BitVec.ofNat 32 o) = BitVec.ofNat 32 (o + r) := by
  show BitVec.ofNat 32 r + BitVec.ofNat 32 o = _
  rw [← BitVec.ofNat_add, Nat.add_comm]

theorem bias0_apply (r : Fin 512) (j : Fin 2048) :
    biasOf (F := Ideal) 0 (ix2 r j) = (if attends r.val j.val then 0 else ⊥ : EReal) := by
  have hr : r.val < 2048 := by omega
  pointwise [biasOf, k0_pay3, k0_pay4, k0_pay5, k0_pay6, k0_pay7, named_mask]
  refine select_of _ _ ?_
  rw [row_word r.val 0 (by omega), Nat.zero_add]
  simp only [block_of _ hr, block_of _ j.isLt]
  unfold attends
  obtain ⟨a, ha⟩ : ∃ a : Fin 32, a.val = r.val / 64 := ⟨⟨r.val / 64, by omega⟩, rfl⟩
  obtain ⟨b, hb⟩ : ∃ b : Fin 32, b.val = j.val / 64 := ⟨⟨j.val / 64, by omega⟩, rfl⟩
  simp only [← ha, ← hb]
  clear ha hb hr r j
  revert a b; decide +kernel

theorem bias1_apply (r : Fin 512) (j : Fin 2048) :
    biasOf (F := Ideal) 1 (ix2 r j) = (if attends (512 + r.val) j.val then 0 else ⊥ : EReal) := by
  have hr : 512 + r.val < 2048 := by omega
  pointwise [biasOf, k0_pay20, k0_pay21, k0_pay22, k0_pay23, k0_pay24, k0_pay25, k0_pay26, k0_pay27, named_mask]
  refine select_of _ _ ?_
  rw [row_word r.val 512 (by omega)]
  simp only [block_of _ hr, block_of _ j.isLt]
  unfold attends
  obtain ⟨a, ha⟩ : ∃ a : Fin 32, a.val = (512 + r.val) / 64 := ⟨⟨(512 + r.val) / 64, by omega⟩, rfl⟩
  obtain ⟨b, hb⟩ : ∃ b : Fin 32, b.val = j.val / 64 := ⟨⟨j.val / 64, by omega⟩, rfl⟩
  simp only [← ha, ← hb]
  clear ha hb hr r j
  revert a b; decide +kernel

theorem bias2_apply (r : Fin 512) (j : Fin 2048) :
    biasOf (F := Ideal) 2 (ix2 r j) = (if attends (1024 + r.val) j.val then 0 else ⊥ : EReal) := by
  have hr : 1024 + r.val < 2048 := by omega
  pointwise [biasOf, k0_pay44, k0_pay45, k0_pay46, k0_pay47, k0_pay48, named_mask]
  refine select_of _ _ ?_
  rw [row_word r.val 1024 (by omega)]
  simp only [block_of _ hr, block_of _ j.isLt]
  unfold attends
  obtain ⟨a, ha⟩ : ∃ a : Fin 32, a.val = (1024 + r.val) / 64 := ⟨⟨(1024 + r.val) / 64, by omega⟩, rfl⟩
  obtain ⟨b, hb⟩ : ∃ b : Fin 32, b.val = j.val / 64 := ⟨⟨j.val / 64, by omega⟩, rfl⟩
  simp only [← ha, ← hb]
  clear ha hb hr r j
  revert a b; decide +kernel

theorem bias3_apply (r : Fin 512) (j : Fin 2048) :
    biasOf (F := Ideal) 3 (ix2 r j) = (if attends (1536 + r.val) j.val then 0 else ⊥ : EReal) := by
  have hr : 1536 + r.val < 2048 := by omega
  pointwise [biasOf, k0_pay65, k0_pay66, k0_pay67, k0_pay68, named_mask]
  refine select_of _ _ ?_
  rw [row_word r.val 1536 (by omega)]
  simp only [block_of _ hr, block_of _ j.isLt]
  unfold attends
  obtain ⟨a, ha⟩ : ∃ a : Fin 32, a.val = (1536 + r.val) / 64 := ⟨⟨(1536 + r.val) / 64, by omega⟩, rfl⟩
  obtain ⟨b, hb⟩ : ∃ b : Fin 32, b.val = j.val / 64 := ⟨⟨j.val / 64, by omega⟩, rfl⟩
  simp only [← ha, ← hb]
  clear ha hb hr r j
  revert a b; decide +kernel

/-- The additive mask: nothing where the query attends to the key, −∞ elsewhere. -/
theorem bias_apply (qt : Fin 4) (r : Fin 512) (j : Fin 2048) :
    biasOf (F := Ideal) qt (ix2 r j) = (if attends (512 * qt.val + r.val) j.val then 0 else ⊥ : EReal) := by
  match qt with
  | 0 => rw [show 512 * (0 : Fin 4).val + r.val = r.val from Nat.zero_add _]; exact bias0_apply r j
  | 1 => exact bias1_apply r j
  | 2 => exact bias2_apply r j
  | 3 => exact bias3_apply r j

/-! ## The context and the product with the weight block -/

theorem tile_apply (qt : Fin 4) (h : Fin 8) (q : FVec Ideal S2048x1024 .bf16) (B : FVec Ideal S512x2048 .f32)
    (kh vh : Vec Ideal S1x2048x128 .bf16) (r : Fin 512) (d : Fin 128) :
    tileVal qt h q B kh vh (ix2 r d) = (∑ j : Fin 2048,
      Ideal.div (Ideal.exp (∑ e : Fin 128, q (ix2 ⟨512 * qt.val + r.val, by omega⟩ ⟨128 * h.val + e.val, by omega⟩) * kh (ix3 0 j e) + B (ix2 r j)))
        (∑ k : Fin 2048, Ideal.exp (∑ e : Fin 128, q (ix2 ⟨512 * qt.val + r.val, by omega⟩ ⟨128 * h.val + e.val, by omega⟩) * kh (ix3 0 k e) + B (ix2 r k)))
        * vh (ix3 0 j d) : EReal) := by
  pointwise [tileVal]

theorem queries_apply (x : Vec Ideal S2048x1024 .bf16) (w : Vec Ideal S1024x1024 .bf16) (r : Fin 2048) (n : Fin 1024) :
    k0_pay2 x w (ix2 r n) = ((∑ a : Fin 1024, x (ix2 r a) * w (ix2 a n)) * Ideal.ofBits .f32 0x3DB504F3#32 : EReal) := by
  pointwise [k0_pay2]

theorem product_apply (x : Vec Ideal S1024x1024 .bf16) (w : Vec Ideal S1024x512 .bf16) (r : Fin 1024) (n : Fin 512) :
    k0_pay89 x w (ix2 r n) = (∑ a : Fin 1024, x (ix2 r a) * w (ix2 a n) : EReal) := by
  pointwise [k0_pay89]

/-- A device's own product at an index. -/
theorem base_apply (x : FVec Ideal S2048x1024 .bf16) (w : Vec Ideal S1024x1024 .bf16) (r : Fin 2048) (n : Fin 1024) :
    base x w (ix2 r n) = (∑ a : Fin 1024, x (ix2 r a) * w (ix2 a n) : EReal) := by
  refine (product_apply _ _ ⟨r.val % 1024, by omega⟩ ⟨n.val % 512, by omega⟩).trans ?_
  refine Finset.sum_congr rfl fun a _ => ?_
  have e0 : (⟨1024 * (r.val / 1024) + r.val % 1024, by omega⟩ : Fin 2048) = r := Fin.ext (show 1024 * (r.val / 1024) + r.val % 1024 = r.val by omega)
  have e1 : (⟨512 * (n.val / 512) + n.val % 512, by omega⟩ : Fin 1024) = n := Fin.ext (show 512 * (n.val / 512) + n.val % 512 = n.val by omega)
  show (x (ix2 (⟨1024 * (r.val / 1024) + r.val % 1024, _⟩ : Fin 2048) a) * w (ix2 a (⟨512 * (n.val / 512) + n.val % 512, _⟩ : Fin 1024)) : EReal) = _
  rw [e0, e1]

end Cert.KernelIdeal.Body
-- ==== Proof.Value.Weights.lean ====
/-
  The softmax over the extended reals. With real scores, and with at least one score kept, the plain
  normalised exponential of the scores (−∞ added where a score is masked) equals the one that first
  subtracts the largest kept score.
-/
module

public import Idealize.ShloMosaic.PureOps.Ideal.Laws

@[expose] public section

noncomputable section

namespace Cert.Softmax

open Idealize.ShloMosaic

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

variable {ι : Type} [Fintype ι]

/-- A score with −∞ added where it is masked, exponentiated. -/
theorem exp_biased (s : ℝ) (p : Prop) [Decidable p] :
    Ideal.exp ((s : EReal) + if p then 0 else ⊥) = ((if p then Real.exp s else 0 : ℝ) : EReal) := by
  by_cases h : p
  · rw [if_pos h, if_pos h, add_zero, Ideal.exp_coe]
  · rw [if_neg h, if_neg h, EReal.add_bot, Ideal.exp_bot, EReal.coe_zero]

/-- A masked score less a real, exponentiated. -/
theorem exp_shifted (s μ : ℝ) (p : Prop) [Decidable p] :
    Ideal.exp ((if p then (s : EReal) else ⊥) - (μ : EReal)) = (((if p then Real.exp s else 0) * Real.exp (-μ) : ℝ) : EReal) := by
  by_cases h : p
  · rw [if_pos h, if_pos h, ← EReal.coe_sub, Ideal.exp_coe, sub_eq_add_neg, Real.exp_add]
  · rw [if_neg h, if_neg h, sub_eq_add_neg, ← EReal.coe_neg, EReal.bot_add, Ideal.exp_bot, zero_mul, EReal.coe_zero]

/-- The largest masked score is a real. -/
theorem max_real (s : ι → ℝ) (p : ι → Prop) [DecidablePred p] (hp : ∃ j, p j) :
    ∃ μ : ℝ, Finset.univ.fold max (⊥ : EReal) (fun k => if p k then (s k : EReal) else ⊥) = (μ : EReal) := by
  obtain ⟨j, hj⟩ := hp
  have hle : (s j : EReal) ≤ Finset.univ.sup (fun k => if p k then (s k : EReal) else ⊥) := by
    have := Finset.le_sup (f := fun k => if p k then (s k : EReal) else ⊥) (Finset.mem_univ j)
    rwa [show (if p j then (s j : EReal) else ⊥) = (s j : EReal) from if_pos hj] at this
  obtain ⟨i, -, hi⟩ := Finset.exists_mem_eq_sup Finset.univ ⟨j, Finset.mem_univ j⟩ (fun k => if p k then (s k : EReal) else ⊥)
  by_cases h : p i
  · exact ⟨s i, by rw [← if_pos (α := EReal) (c := p i) (t := (s i : EReal)) (e := ⊥) h, ← hi]; rfl⟩
  · rw [hi] at hle
    rw [if_neg h] at hle
    exact absurd (le_bot_iff.mp hle) (EReal.coe_ne_bot _)

/-- The two softmaxes agree. -/
theorem softmax_eq (s : ι → ℝ) (p : ι → Prop) [DecidablePred p] (hp : ∃ j, p j) (j : ι) :
    Ideal.div (Ideal.exp ((s j : EReal) + if p j then 0 else ⊥)) (∑ k, Ideal.exp ((s k : EReal) + if p k then 0 else ⊥))
      = Ideal.div (Ideal.exp ((if p j then (s j : EReal) else ⊥) - Finset.univ.fold max (⊥ : EReal) (fun k => if p k then (s k : EReal) else ⊥)))
          (∑ k, Ideal.exp ((if p k then (s k : EReal) else ⊥) - Finset.univ.fold max (⊥ : EReal) (fun k => if p k then (s k : EReal) else ⊥))) := by
  obtain ⟨μ, hμ⟩ := max_real s p hp
  rw [hμ]
  simp only [exp_biased, exp_shifted]
  rw [coe_sum, coe_sum, ← Finset.sum_mul]
  obtain ⟨j₀, h₀⟩ := hp
  have hS : (0 : ℝ) < ∑ k, if p k then Real.exp (s k) else 0 := by
    refine Finset.sum_pos' (fun k _ => ?_) ⟨j₀, Finset.mem_univ _, ?_⟩
    · split
      · exact (Real.exp_pos _).le
      · exact le_refl _
    · rw [if_pos h₀]; exact Real.exp_pos _
  have hE := Real.exp_pos (-μ)
  rw [Ideal.div_coe hS.ne', Ideal.div_coe (mul_pos hS hE).ne', ← EReal.coe_mul, ← EReal.coe_mul]
  congr 1
  generalize (∑ k, if p k then Real.exp (s k) else 0) = S at *
  generalize (if p j then Real.exp (s j) else 0) = e
  generalize Real.exp (-μ) = t at *
  have := hS.ne'
  have := hE.ne'
  field_simp

/-- Scaling a query before or after its products are summed is the same, over real queries, keys and scale. -/
theorem score_eq {κ δ : Type} [Fintype κ] [Fintype δ] (x : κ → ℝ) (w : κ → δ → ℝ) (k : δ → ℝ) (σ : ℝ) :
    (∑ d, ((∑ a, (x a : EReal) * (w a d : EReal)) * (σ : EReal)) * (k d : EReal)) = (((∑ d, (∑ a, x a * w a d) * k d) * σ : ℝ) : EReal)
      ∧ (∑ d, (∑ a, (x a : EReal) * (w a d : EReal)) * (k d : EReal)) * (σ : EReal) = (((∑ d, (∑ a, x a * w a d) * k d) * σ : ℝ) : EReal) := by
  simp only [← EReal.coe_mul, coe_sum]
  refine ⟨?_, trivial⟩
  congr 1
  rw [Finset.sum_mul]
  exact Finset.sum_congr rfl fun d _ => by ring

end Cert.Softmax
-- ==== Proof.Value.Equal.lean ====
/-
  A device's context is its columns of the reference's context: each tile against the head and rows it holds.
-/
module

public import proofs.«01_k».proof.Proof.Value.RefRead
public import proofs.«01_k».proof.Proof.Value.KernRead
public import proofs.«01_k».proof.Proof.Value.Weights

@[expose] public section

set_option maxRecDepth 16384

noncomputable section

namespace Cert.Equal

open Cert.Softmax Cert.ReferenceIdeal.Stages
open Cert.KernelIdeal (S1x2048x1024 S1024x16384 S2048x1024 S1024x1024 S8x2048x128 S16384x1024)
open Cert.KernelIdeal.Body (tileVal biasOf headOf ctxOf)
open Idealize.ShloMosaic

open Cert.ReferenceIdeal (S1x2048x128x128)

/-- The score's scale is a real number. -/
theorem scale_real : ∃ σ : ℝ, Ideal.ofBits .f32 0x3DB504F3#32 = (σ : EReal) := by
  simp only [Ideal.ofBits, Ideal.ieee]
  rw [if_neg (by decide), if_neg (by decide)]
  exact ⟨_, rfl⟩

/-- The column, among all, of a device's column. -/
def colAt (c : Fin 16) (n : Fin 1024) : Fin 16384 := ⟨1024 * c.val + n.val, by omega⟩
/-- The head, among all, of a device's head. -/
def headAt (c : Fin 16) (h : Fin 8) : Fin 128 := ⟨c.val * 8 + h.val, by omega⟩

variable (x : FVec Ideal S1x2048x1024 .bf16) (wq : FVec Ideal S1024x16384 .bf16) (k v : FVec Ideal S1x2048x128x128 .bf16)

/-- The score of query row `r` against key row `j` in head `H`, as a real number. -/
def realScore (x' : S1x2048x1024.Idx → ℝ) (w' : S1024x16384.Idx → ℝ) (k' : S1x2048x128x128.Idx → ℝ) (σ : ℝ) (H : Fin 128) (r j : Fin 2048) : ℝ :=
  (∑ d : Fin 128, (∑ a : Fin 1024, x' (ix3 0 r a) * w' (ix2 a ⟨H.val * 128 + d.val, by omega⟩)) * k' (ix4 0 j H d)) * σ

variable {x wq k v} {x' : S1x2048x1024.Idx → ℝ} {w' : S1024x16384.Idx → ℝ} {k' : S1x2048x128x128.Idx → ℝ} {σ : ℝ}
  (fx : ∀ i, x i = ((x' i : ℝ) : EReal)) (fw : ∀ i, wq i = ((w' i : ℝ) : EReal)) (fk : ∀ i, k i = ((k' i : ℝ) : EReal))
  (fσ : Ideal.ofBits .f32 0x3DB504F3#32 = (σ : EReal))

include fx fw fk fσ

/-- The reference's masked score. -/
theorem ref_score (H : Fin 128) (r j : Fin 2048) :
    maskedOf x wq k (ix4 0 H r j) = (if attends r.val j.val then ((realScore x' w' k' σ H r j : ℝ) : EReal) else ⊥ : EReal) := by
  unfold maskedOf
  rw [masked_apply, scores_apply, fσ]
  refine congrArg (fun z : EReal => if attends r.val j.val then z else ⊥) ?_
  refine Eq.trans ?_ (score_eq (fun a : Fin 1024 => x' (ix3 0 r a)) (fun (a : Fin 1024) (d : Fin 128) => w' (ix2 a ⟨H.val * 128 + d.val, by omega⟩)) (fun d : Fin 128 => k' (ix4 0 j H d)) σ).2
  refine congrArg (fun z : EReal => z * (σ : EReal)) (Finset.sum_congr rfl fun d _ => ?_)
  rw [Cert.ReferenceIdeal.Stages.queries_apply, fk]
  refine congrArg (fun z : EReal => z * ((k' (ix4 0 j H d) : ℝ) : EReal)) (Finset.sum_congr rfl fun a _ => ?_)
  rw [fx, fw]

variable {c : Fin 16} {X5 : Vec Ideal S2048x1024 .bf16} {W10 : Vec Ideal S1024x1024 .bf16} {K17 V19 : Vec Ideal S8x2048x128 .bf16}
  (hX : ∀ r a, X5 (ix2 r a) = x (ix3 0 r a))
  (hW : ∀ a n : Fin 1024, W10 (ix2 a n) = wq (ix2 a (colAt c n)))
  (hK : ∀ (h : Fin 8) j e, K17 (ix3 h j e) = k (ix4 0 j (headAt c h) e))
  (hV : ∀ (h : Fin 8) j e, V19 (ix3 h j e) = v (ix4 0 j (headAt c h) e))

include hX hW hK

/-- The kernel's score, before the mask is added. -/
theorem kern_score (h : Fin 8) (r j : Fin 2048) :
    (∑ e : Fin 128, Cert.KernelIdeal.Gen.k0_pay2 X5 W10 (ix2 r ⟨128 * h.val + e.val, by omega⟩) * headOf K17 h (ix3 0 j e) : EReal)
      = ((realScore x' w' k' σ ⟨c.val * 8 + h.val, by omega⟩ r j : ℝ) : EReal) := by
  refine Eq.trans ?_ (score_eq (fun a : Fin 1024 => x' (ix3 0 r a)) (fun (a : Fin 1024) (d : Fin 128) => w' (ix2 a ⟨(c.val * 8 + h.val) * 128 + d.val, by omega⟩)) (fun d : Fin 128 => k' (ix4 0 j ⟨c.val * 8 + h.val, by omega⟩ d)) σ).1
  refine Finset.sum_congr rfl fun e _ => ?_
  rw [Cert.KernelIdeal.Body.queries_apply, fσ, show headOf K17 h (ix3 0 j e) = k (ix4 0 j ⟨c.val * 8 + h.val, by omega⟩ e) from hK h j e, fk]
  refine congrArg (fun z : EReal => z * (σ : EReal) * ((k' (ix4 0 j ⟨c.val * 8 + h.val, by omega⟩ e) : ℝ) : EReal)) (Finset.sum_congr rfl fun a _ => ?_)
  rw [hX, hW, fx, fw]
  refine congrArg (fun n : Fin 16384 => ((x' (ix3 0 r a) : ℝ) : EReal) * ((w' (ix2 a n) : ℝ) : EReal)) (Fin.ext ?_)
  show 1024 * c.val + (128 * h.val + e.val) = (c.val * 8 + h.val) * 128 + e.val
  omega

include hV

/-- A tile of the kernel's context. -/
theorem tile_eq (qt : Fin 4) (h : Fin 8) (r : Fin 512) (d : Fin 128) :
    (tileVal qt h (Cert.KernelIdeal.Gen.k0_pay2 X5 W10) (biasOf qt) (headOf K17 h) (headOf V19 h) (ix2 r d) : EReal)
      = ∑ j : Fin 2048, v (ix4 0 j ⟨c.val * 8 + h.val, by omega⟩ d)
          * weightsOf (maskedOf x wq k) (ix4 0 ⟨c.val * 8 + h.val, by omega⟩ ⟨512 * qt.val + r.val, by omega⟩ j) := by
  rw [Cert.KernelIdeal.Body.tile_apply]
  refine Finset.sum_congr rfl fun j _ => ?_
  rw [show headOf V19 h (ix3 0 j d) = v (ix4 0 j ⟨c.val * 8 + h.val, by omega⟩ d) from hV h j d, mul_comm, weightsOf_apply]
  refine congrArg (fun z : EReal => v (ix4 0 j ⟨c.val * 8 + h.val, by omega⟩ d) * z) ?_
  simp only [kern_score fx fw fk fσ hX hW hK, ref_score fx fw fk fσ, Cert.KernelIdeal.Body.bias_apply]
  exact softmax_eq (fun j : Fin 2048 => realScore x' w' k' σ ⟨c.val * 8 + h.val, by omega⟩ ⟨512 * qt.val + r.val, by omega⟩ j)
    (fun j : Fin 2048 => attends (512 * qt.val + r.val) j.val) ⟨0, attends_first _⟩ j

/-- A device's context, column by column of the reference's. -/
theorem context_eq (r : Fin 2048) (a : Fin 1024) :
    (ctxOf (Cert.KernelIdeal.Gen.k0_pay2 X5 W10) K17 V19 (ix2 r a) : EReal)
      = context (weightsOf (maskedOf x wq k)) v (ix3 0 r ⟨1024 * c.val + a.val, by omega⟩) := by
  refine (tile_eq fx fw fk fσ hX hW hK hV ⟨r.val / 512, by omega⟩ ⟨a.val / 128, by omega⟩ ⟨r.val % 512, by omega⟩ ⟨a.val % 128, by omega⟩).trans ?_
  rw [context_apply]
  have eh : (⟨c.val * 8 + a.val / 128, by omega⟩ : Fin 128) = ⟨(1024 * c.val + a.val) / 128, by omega⟩ := Fin.ext (by show c.val * 8 + a.val / 128 = (1024 * c.val + a.val) / 128; omega)
  have ed : (⟨a.val % 128, by omega⟩ : Fin 128) = ⟨(1024 * c.val + a.val) % 128, by omega⟩ := Fin.ext (by show a.val % 128 = (1024 * c.val + a.val) % 128; omega)
  have er : (⟨512 * (r.val / 512) + r.val % 512, by omega⟩ : Fin 2048) = r := Fin.ext (by show 512 * (r.val / 512) + r.val % 512 = r.val; omega)
  exact Finset.sum_congr rfl fun j _ => by
    show v (ix4 0 j ⟨c.val * 8 + a.val / 128, by omega⟩ ⟨a.val % 128, by omega⟩)
      * weightsOf (maskedOf x wq k) (ix4 0 ⟨c.val * 8 + a.val / 128, by omega⟩ ⟨512 * (r.val / 512) + r.val % 512, by omega⟩ j) = _
    rw [eh, ed, er]

end Cert.Equal
-- ==== Proof.Value.Finite.lean ====
/-
  What the precondition says: each entry it speaks of is a real number. And a sum over all the columns is the
  sum over the devices of the sums over each device's columns.
-/
module

public import Idealize.ShloMosaic.PureOps
public import Idealize.ShloMosaic.Lib.Pointwise

@[expose] public section

set_option maxRecDepth 16384

noncomputable section

namespace Cert.Equal

open Idealize.ShloMosaic

theorem inf_top : Ideal.ofBits .bf16 0x7F80#16 = (⊤ : EReal) := by
  simp [Ideal.ofBits, Ideal.ieee]

/-- An extended real whose magnitude is below infinity is real. -/
theorem real_of_lt (a : EReal) (h : Ideal.cmp .olt (max a (-a)) (Ideal.ofBits .bf16 0x7F80#16) = 1#1) : a = ((a.toReal : ℝ) : EReal) := by
  rw [inf_top] at h
  have hlt : max a (-a) < ⊤ := by
    by_contra hn
    have : Ideal.cmp .olt (max a (-a)) ⊤ = BitVec.ofBool false := congrArg BitVec.ofBool (decide_eq_false hn)
    rw [this] at h
    exact absurd h (by decide)
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

/-- The same of an array the precondition's comparison holds of everywhere. -/
theorem real_of_finite {s : Shape} (hb : (⟨0, ![]⟩ : Shape).BroadcastsInDim s (![] : Fin 0 → Fin s.rank)) (a : FVec Ideal s .bf16)
    (h : cmpf .olt (Host.absf a) (broadcastInDim s ![] hb (constant ⟨0, ![]⟩ .bf16 0x7F80#16)) = fun _ => 1#1) (i : s.Idx) :
    a i = (((a i : EReal).toReal : ℝ) : EReal) :=
  real_of_lt (a i) (congrFun h i)

/-- A sum over all columns, device by device. -/
theorem sum_devices (f : Fin 16384 → EReal) :
    ∑ c : Fin 16, ∑ a : Fin 1024, f ⟨1024 * c.val + a.val, by omega⟩ = ∑ n : Fin 16384, f n := by
  rw [← Fintype.sum_prod_type' (fun (c : Fin 16) (a : Fin 1024) => f ⟨1024 * c.val + a.val, by omega⟩)]
  refine Fintype.sum_equiv (finProdFinEquiv (m := 16) (n := 1024)) _ _ fun p => congrArg f (Fin.ext ?_)
  show 1024 * p.1.val + p.2.val = p.2.val + 1024 * p.1.val
  omega

end Cert.Equal
-- ==== Proof.Value.Sum.lean ====
/-
  Over the extended reals the exchange adds up every device's product: after four steps, the device that
  finishes a row holds the sum over all sixteen devices of their own products at that row.
-/
module

public import proofs.«01_k».proof.Proof.KernelIdeal.Body

@[expose] public section

set_option maxRecDepth 16384

noncomputable section

namespace Cert.KernelIdeal.Body

open Cert.KernelIdeal Cert.KernelIdeal.Gen
open Idealize.ShloMosaic Idealize.ShloMosaic.TcCoe
open Idealize.ShloMosaic.ValueIdx (ix2 ix3)

/-- The devices whose products a device's partial sum holds after `n` steps. -/
def gathered (s : Fin 2) : ℕ → Dev nD → List (Dev nD)
  | 0, c => [c]
  | n + 1, c => if h : n < 4 then gathered s n c ++ gathered s n (pr s ⟨n, h⟩ c) else []

theorem gathered_succ (s : Fin 2) (j : Fin 4) (c : Dev nD) :
    gathered s (j.val + 1) c = gathered s j.val c ++ gathered s j.val (pr s j c) := dif_pos j.isLt

/-- After four steps every device is among them, once. -/
theorem gathered_all (s : Fin 2) (c : Dev nD) : (gathered s 4 c).Perm (List.finRange 16) := by
  revert s c; decide +kernel

/-- How many rows a device holds before step `n`. -/
def held : ℕ → ℕ
  | 0 => 2048 | 1 => 1024 | 2 => 512 | 3 => 256 | _ => 128

theorem held_succ (j : Fin 4) : held (j.val + 1) = len j ∧ held j.val = 2 * len j := by revert j; decide

variable (X : Dev nD → FVec Ideal S2048x1024 .bf16) (Wo : Dev nD → Vec Ideal S1024x1024 .bf16)

theorem ostep_apply (j : Fin 4) (f : Dev nD → FVec Ideal S2048x1024 .f32) (c : Dev nD) (i : S2048x1024.Idx)
    (h : ks (half i) (j.val + 1) c ≤ (i 0).val ∧ (i 0).val < ks (half i) (j.val + 1) c + len j) :
    ostep j f c i = (f c i + f (pr (half i) j c) i : EReal) := by
  unfold ostep; rw [if_pos h]; rfl

/-- What a partial sum holds. -/
theorem O_step (j : Fin 4) (ih : ∀ (c : Dev nD) (i : S2048x1024.Idx), ks (half i) j.val c ≤ (i 0).val → (i 0).val < ks (half i) j.val c + held j.val →
      O X Wo j.val c i = ((gathered (half i) j.val c).map fun d => (base (X d) (Wo d) i : EReal)).sum)
    (c : Dev nD) (i : S2048x1024.Idx) (h0 : ks (half i) (j.val + 1) c ≤ (i 0).val) (h1 : (i 0).val < ks (half i) (j.val + 1) c + held (j.val + 1)) :
      O X Wo (j.val + 1) c i = ((gathered (half i) (j.val + 1) c).map fun d => (base (X d) (Wo d) i : EReal)).sum := by
  obtain ⟨e1, e2⟩ := held_succ j
  rw [e1] at h1
  have hs := ks_split (half i) j c
  have hp := ks_pr (half i) j c
  rw [O_succ, ostep_apply j _ c i ⟨h0, h1⟩, gathered_succ, List.map_append, List.sum_append,
    ih c i (by omega) (by omega), ih (pr (half i) j c) i (by omega) (by omega)]

theorem O_zero (c : Dev nD) (i : S2048x1024.Idx) : O X Wo 0 c i = ((gathered (half i) 0 c).map fun d => (base (X d) (Wo d) i : EReal)).sum := by
  exact (add_zero (base (X c) (Wo c) i : EReal)).symm

theorem O_four (c : Dev nD) (i : S2048x1024.Idx) (h0 : ks (half i) 4 c ≤ (i 0).val) (h1 : (i 0).val < ks (half i) 4 c + 128) :
    O X Wo 4 c i = ((gathered (half i) 4 c).map fun d => (base (X d) (Wo d) i : EReal)).sum :=
  O_step X Wo 3 (O_step X Wo 2 (O_step X Wo 1 (O_step X Wo 0 fun c i _ _ => O_zero X Wo c i))) c i h0 h1

/-- The finished result, at an index: the sum over the devices of their own products. -/
theorem result_apply (i : S2048x1024.Idx) : result X Wo i = (∑ d : Fin 16, base (X d) (Wo d) i : EReal) := by
  have hi := ValueIdx.idx2_lt0 i
  have hb := own_blk (half i) ⟨(i 0).val / 128, by omega⟩
  rw [show (⟨(i 0).val / 128, by omega⟩ : Fin 16).val * 128 = (i 0).val / 128 * 128 from rfl, ← own_div] at hb
  show O X Wo 4 (own (half i) (i 0).val) i = _
  rw [O_four X Wo _ i (by omega) (by omega), List.Perm.sum_eq ((gathered_all _ _).map _), ← List.ofFn_eq_map, List.sum_ofFn]

end Cert.KernelIdeal.Body
-- ==== Proof.Value.KernHost.lean ====
/-
  What each device's operands of the kernel call hold: its columns of the query weights, its rows of the
  output weights, and its heads' keys and values with the heads first.
-/
module

public import proofs.«01_k».proof.Proof.KernelIdeal.Launch
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The first column of the query weights that a device takes, as printed. -/
def startWord (c : Dev nD) : IVec S_ 32 :=
  select (cmpi .slt (muli (id (Host.remui (Host.divui (constantI S_ 32 (Dev.word c)) (constantI S_ 32 1#32)) (constantI S_ 32 16#32))) (constantI S_ 32 1024#32)) (constantI S_ 32 0#32))
    (addi (muli (id (Host.remui (Host.divui (constantI S_ 32 (Dev.word c)) (constantI S_ 32 1#32)) (constantI S_ 32 16#32))) (constantI S_ 32 1024#32)) (constantI S_ 32 16384#32))
    (muli (id (Host.remui (Host.divui (constantI S_ 32 (Dev.word c)) (constantI S_ 32 1#32)) (constantI S_ 32 16#32))) (constantI S_ 32 1024#32))

theorem startWord_toInt (c : Dev nD) (j : S_.Idx) : (startWord c j).toInt = (1024 * c.val : ℕ) := by
  rw [show j = ix0 from Subsingleton.elim _ _]
  revert c; decide +kernel

theorem v5_eq : (V1 m c main_v5 : Vec Ideal S2048x1024 .bf16) = shapeCast S2048x1024 (m ((c.tc : Thread nD τ).loc main_arg0) : Vec Ideal S1x2048x1024 .bf16) shapeCasts_S1x2048x1024_S2048x1024 := by
  show StableHlo.after (hostOps0 c) (V0 m c) main_v5 = _
  after_results_simp <;> rfl

theorem v10_eq : (V1 m c main_v10 : Vec Ideal S1024x1024 .bf16) = Host.dynamicSlice S1024x1024 (m ((c.tc : Thread nD τ).loc main_arg1) : Vec Ideal S1024x16384 .bf16)
    (fun k => ((![constantI S_ 32 0#32, startWord c] : Fin 2 → IVec S_ 32) k (Shape.Idx.first h_S_)).toInt) sliceFits_S1024x16384_S1024x1024 := by
  show StableHlo.after (hostOps0 c) (V0 m c) main_v10 = _
  after_results_simp
  refine congrArg (fun g => Host.dynamicSlice S1024x1024 (m ((c.tc : Thread nD τ).loc main_arg1) : Vec Ideal S1024x16384 .bf16) g sliceFits_S1024x16384_S1024x1024) (funext fun k => ?_)
  match k with
  | 0 =>
    dsimp only [Matrix.cons_val_zero]
    after_results_simp <;> rfl
  | 1 =>
    dsimp only [Matrix.cons_val_one, Matrix.cons_val_zero]
    after_results_simp <;> rfl

theorem v17_eq : (V1 m c main_v17 : Vec Ideal S8x2048x128 .bf16) = transpose S8x2048x128 [1, 0, 2]
    (shapeCast S2048x8x128 (m ((c.tc : Thread nD τ).loc main_arg2) : Vec Ideal S1x2048x8x128 .bf16) shapeCasts_S1x2048x8x128_S2048x8x128) transposes_S2048x8x128_S8x2048x128_1_0_2 := by
  show StableHlo.after (hostOps0 c) (V0 m c) main_v17 = _
  after_results_simp <;> rfl

theorem v15_eq : (V1 m c main_v15 : Vec Ideal S1024x1024 .bf16) = Host.dynamicSlice S1024x1024 (m ((c.tc : Thread nD τ).loc main_arg4) : Vec Ideal S16384x1024 .bf16)
    (fun k => ((![startWord c, constantI S_ 32 0#32] : Fin 2 → IVec S_ 32) k (Shape.Idx.first h_S_)).toInt) sliceFits_S16384x1024_S1024x1024 := by
  show StableHlo.after (hostOps0 c) (V0 m c) main_v15 = _
  after_results_simp
  refine congrArg (fun g => Host.dynamicSlice S1024x1024 (m ((c.tc : Thread nD τ).loc main_arg4) : Vec Ideal S16384x1024 .bf16) g sliceFits_S16384x1024_S1024x1024) (funext fun k => ?_)
  match k with
  | 0 =>
    dsimp only [Matrix.cons_val_zero]
    after_results_simp <;> rfl
  | 1 =>
    dsimp only [Matrix.cons_val_one, Matrix.cons_val_zero]
    after_results_simp <;> rfl

theorem v19_eq : (V1 m c main_v19 : Vec Ideal S8x2048x128 .bf16) = transpose S8x2048x128 [1, 0, 2]
    (shapeCast S2048x8x128 (m ((c.tc : Thread nD τ).loc main_arg3) : Vec Ideal S1x2048x8x128 .bf16) shapeCasts_S1x2048x8x128_S2048x8x128) transposes_S2048x8x128_S8x2048x128_1_0_2 := by
  show StableHlo.after (hostOps0 c) (V0 m c) main_v19 = _
  after_results_simp <;> rfl

/-- A device's columns of the query weights. -/
theorem cols_apply (w : Vec Ideal S1024x16384 .bf16) (c : Fin 16) (a n : Fin 1024) :
    Host.dynamicSlice S1024x1024 w (fun k => ((![constantI S_ 32 0#32, startWord c] : Fin 2 → IVec S_ 32) k (Shape.Idx.first h_S_)).toInt) sliceFits_S1024x16384_S1024x1024 (ix2 a n)
      = w (ix2 a ⟨1024 * c.val + n.val, by omega⟩) := by
  pointwise
  refine congrArg₂ (fun p q => w (ix2 p q)) (Fin.ext ?_) (Fin.ext ?_)
  · show (min (max (((0#32 : BitVec 32)).toInt) 0) ((1024 - 1024 : ℕ) : ℤ)).toNat + a.val = a.val
    simp
  · show (min (max ((startWord c (Shape.Idx.first h_S_)).toInt) 0) ((16384 - 1024 : ℕ) : ℤ)).toNat + n.val = 1024 * c.val + n.val
    rw [startWord_toInt]
    omega

/-- A device's rows of the output weights. -/
theorem rows_apply (w : Vec Ideal S16384x1024 .bf16) (c : Fin 16) (a n : Fin 1024) :
    Host.dynamicSlice S1024x1024 w (fun k => ((![startWord c, constantI S_ 32 0#32] : Fin 2 → IVec S_ 32) k (Shape.Idx.first h_S_)).toInt) sliceFits_S16384x1024_S1024x1024 (ix2 a n)
      = w (ix2 ⟨1024 * c.val + a.val, by omega⟩ n) := by
  pointwise
  refine congrArg₂ (fun p q => w (ix2 p q)) (Fin.ext ?_) (Fin.ext ?_)
  · show (min (max ((startWord c (Shape.Idx.first h_S_)).toInt) 0) ((16384 - 1024 : ℕ) : ℤ)).toNat + a.val = 1024 * c.val + a.val
    rw [startWord_toInt]
    omega
  · show (min (max (((0#32 : BitVec 32)).toInt) 0) ((1024 - 1024 : ℕ) : ℤ)).toNat + n.val = n.val
    simp

theorem heads_apply (k : Vec Ideal S1x2048x8x128 .bf16) (h : Fin 8) (j : Fin 2048) (e : Fin 128) :
   transpose S8x2048x128 [1, 0, 2] (shapeCast S2048x8x128 k shapeCasts_S1x2048x8x128_S2048x8x128) transposes_S2048x8x128_S8x2048x128_1_0_2 (ix3 h j e) = k (ix4 0 j h e) := by
  pointwise

theorem flat_apply (x : Vec Ideal S1x2048x1024 .bf16) (r : Fin 2048) (a : Fin 1024) :
   shapeCast S2048x1024 x shapeCasts_S1x2048x1024_S2048x1024 (ix2 r a) = x (ix3 0 r a) := by
  pointwise

end Cert.KernelIdeal.Body
-- ==== Proof.Value.Algebraic.lean ====
/-
  The kernel computes the reference: from memories that agree on the arguments, with the inputs of the scores
  finite, every device ends at the reference's result.
-/
module

public import proofs.«01_k».proof.Proof.Value.Equal
public import proofs.«01_k».proof.Proof.Value.Finite
public import proofs.«01_k».proof.Proof.Value.Sum
public import proofs.«01_k».proof.Proof.Value.KernHost
public import proofs.«01_k».proof.Proof.Frames

@[expose] public section

set_option maxRecDepth 16384

noncomputable section

namespace Cert.Equal

open Idealize.ShloMosaic Idealize.ShloMosaic.TcCoe Idealize.SL.Sem
open Cert.KernelIdeal Cert.KernelIdeal.Gen Cert.KernelIdeal.Body
open Cert.ReferenceIdeal (S1x2048x128x128)

/-- The side conditions of the precondition as it reads the kernel's arguments. -/
theorem preKernel : Cert.Pre_finite_KernelIdeal.Facts := ⟨by decide, by decide, by decide⟩
/-- The side conditions of the precondition as it reads the reference's arguments. -/
theorem preReference : Cert.Pre_finite_ReferenceIdeal.Facts := ⟨by decide, by decide, by decide⟩

/-- The block of the heads a device holds. -/
theorem block_apply (k : FVec Ideal S1x2048x128x128 .bf16) (c : Fin 16) (j : Fin 2048) (h : Fin 8) (e : Fin 128) :
    Layout.block ⟨4, ![1, 2048, 8, 128]⟩ ⟨4, ![1, 2048, 128, 128]⟩ 2 16 c k (by decide) (ix4 0 j h e) = k (ix4 0 j ⟨c.val * 8 + h.val, by omega⟩ e) := by
  rw [Layout.block_apply]
  refine congrArg k (funext fun b => Fin.ext ?_)
  rw [Layout.Tiles.idx_val]
  match b with
  | 0 => rfl
  | 1 => rfl
  | 2 => rfl
  | 3 => rfl

/-- Entries of every device's block are entries of the whole, and every entry lies in one. -/
theorem whole_real (k : FVec Ideal S1x2048x128x128 .bf16)
    (hk : ∀ (c : Fin 16) (j : Fin 2048) (h : Fin 8) (e : Fin 128), k (ix4 0 j ⟨c.val * 8 + h.val, by omega⟩ e) = (((k (ix4 0 j ⟨c.val * 8 + h.val, by omega⟩ e) : EReal).toReal : ℝ) : EReal))
    (i : S1x2048x128x128.Idx) : k i = (((k i : EReal).toReal : ℝ) : EReal) := by
  obtain ⟨z, j, H, e, rfl⟩ : ∃ (z : Fin 1) (j : Fin 2048) (H : Fin 128) (e : Fin 128), i = ix4 z j H e :=
    ⟨i 0, i 1, i 2, i 3, by funext b; match b with | 0 => rfl | 1 => rfl | 2 => rfl | 3 => rfl⟩
  have hz : z = 0 := Subsingleton.elim _ _
  have hH : (⟨(H.val / 8) * 8 + H.val % 8, by omega⟩ : Fin 128) = H := Fin.ext (by show H.val / 8 * 8 + H.val % 8 = H.val; omega)
  have := hk ⟨H.val / 8, by omega⟩ j ⟨H.val % 8, by omega⟩ e
  rw [hz, ← hH]
  exact this

variable (m : (ℓ : Loc nD τ sig) → Buf (Elt Ideal) ℓ)
variable {x : FVec Ideal S1x2048x1024 .bf16} {wq : FVec Ideal S1024x16384 .bf16} {k v : FVec Ideal S1x2048x128x128 .bf16} {wo : FVec Ideal S16384x1024 .bf16}
  (h0 : ∀ c : Dev nD, m ((c.tc : Thread nD τ).loc main_arg0) = x)
  (h1 : ∀ c : Dev nD, m ((c.tc : Thread nD τ).loc main_arg1) = wq)
  (h2 : ∀ c : Dev nD, m ((c.tc : Thread nD τ).loc main_arg2) = Layout.block ⟨4, ![1, 2048, 8, 128]⟩ ⟨4, ![1, 2048, 128, 128]⟩ 2 16 c k)
  (h3 : ∀ c : Dev nD, m ((c.tc : Thread nD τ).loc main_arg3) = Layout.block ⟨4, ![1, 2048, 8, 128]⟩ ⟨4, ![1, 2048, 128, 128]⟩ 2 16 c v)
  (h4 : ∀ c : Dev nD, m ((c.tc : Thread nD τ).loc main_arg4) = wo)
  (fx : ∀ i, x i = (((x i : EReal).toReal : ℝ) : EReal)) (fw : ∀ i, wq i = (((wq i : EReal).toReal : ℝ) : EReal)) (fk : ∀ i, k i = (((k i : EReal).toReal : ℝ) : EReal))

include h0 in
theorem x_entry (c : Fin 16) (r : Fin 2048) (a : Fin 1024) : (V1 m c main_v5 : Vec Ideal S2048x1024 .bf16) (ix2 r a) = x (ix3 0 r a) := by
  rw [v5_eq, flat_apply, h0]

include h1 in
theorem wq_entry (c : Fin 16) (a n : Fin 1024) : (V1 m c main_v10 : Vec Ideal S1024x1024 .bf16) (ix2 a n) = wq (ix2 a ⟨1024 * c.val + n.val, by omega⟩) := by
  refine (congrFun (v10_eq m c) (ix2 a n)).trans ?_
  rw [h1]
  exact cols_apply wq c a n

include h2 in
theorem k_entry (c : Fin 16) (h : Fin 8) (j : Fin 2048) (e : Fin 128) : (V1 m c main_v17 : Vec Ideal S8x2048x128 .bf16) (ix3 h j e) = k (ix4 0 j ⟨c.val * 8 + h.val, by omega⟩ e) := by
  rw [v17_eq, heads_apply, h2]
  exact block_apply k c j h e

include h3 in
theorem v_entry (c : Fin 16) (h : Fin 8) (j : Fin 2048) (e : Fin 128) : (V1 m c main_v19 : Vec Ideal S8x2048x128 .bf16) (ix3 h j e) = v (ix4 0 j ⟨c.val * 8 + h.val, by omega⟩ e) := by
  rw [v19_eq, heads_apply, h3]
  exact block_apply v c j h e

include h4 in
theorem wo_entry (c : Fin 16) (a n : Fin 1024) : (V1 m c main_v15 : Vec Ideal S1024x1024 .bf16) (ix2 a n) = wo (ix2 ⟨1024 * c.val + a.val, by omega⟩ n) := by
  refine (congrFun (v15_eq m c) (ix2 a n)).trans ?_
  rw [h4]
  exact rows_apply wo c a n

include h0 h1 h2 h3 h4 fx fw fk

/-- The region's result, entry by entry, is the reference's. -/
theorem result_entry (r : Fin 2048) (o : Fin 1024) :
    (result (Xv (V1 m)) (Wv (V1 m)) (ix2 r o) : EReal) = Cert.ReferenceIdeal.Stages.out x wq k v wo (ix3 0 r o) := by
  obtain ⟨σ, fσ⟩ := scale_real
  unfold Cert.ReferenceIdeal.Stages.out
  rw [result_apply, Cert.ReferenceIdeal.Stages.project_apply,
    ← sum_devices (fun n => Cert.ReferenceIdeal.Stages.context (Cert.ReferenceIdeal.Stages.weightsOf (Cert.ReferenceIdeal.Stages.maskedOf x wq k)) v (ix3 0 r n) * wo (ix2 n o))]
  refine Finset.sum_congr rfl fun c _ => (base_apply _ _ r o).trans (Finset.sum_congr rfl fun a _ => ?_)
  have hw : (Wv (V1 m) c (ix2 a o) : EReal) = wo (ix2 ⟨1024 * c.val + a.val, by omega⟩ o) := wo_entry m h4 c a o
  have hx : (Xv (V1 m) c (ix2 r a) : EReal) = Cert.ReferenceIdeal.Stages.context (Cert.ReferenceIdeal.Stages.weightsOf (Cert.ReferenceIdeal.Stages.maskedOf x wq k)) v (ix3 0 r ⟨1024 * c.val + a.val, by omega⟩) :=
    context_eq fx fw fk fσ (x_entry m h0 c) (wq_entry m h1 c) (k_entry m h2 c) (v_entry m h3 c) r a
  rw [hw, hx]

/-- The kernel's result buffer. -/
theorem v21_eq (c : Dev nD) : (V3 m (outs m) c main_v21 : Vec Ideal S1x2048x1024 .f32) = Cert.ReferenceIdeal.Stages.out x wq k v wo := by
  have e : (V3 m (outs m) c main_v21 : Vec Ideal S1x2048x1024 .f32)
      = broadcastInDim S1x2048x1024 ![1, 2] bcast_S2048x1024_S1x2048x1024_1_2 (V2 m (outs m) c main_v20 : Vec Ideal S2048x1024 .f32) := by
    show StableHlo.after hostOps1 (V2 m (outs m) c) main_v21 = _
    after_results_simp <;> rfl
  have e2 : (V2 m (outs m) c main_v20 : Vec Ideal S2048x1024 .f32) = result (Xv (V1 m)) (Wv (V1 m)) := by
    rw [V2_eq]
    exact Function.update_self _ _ _
  rw [e, e2]
  funext i
  obtain ⟨z, r, o, rfl⟩ : ∃ (z : Fin 1) (r : Fin 2048) (o : Fin 1024), i = ix3 z r o :=
    ⟨i 0, i 1, i 2, by funext b; match b with | 0 => rfl | 1 => rfl | 2 => rfl⟩
  have hz : z = 0 := Subsingleton.elim _ _
  subst hz
  refine Eq.trans ?_ (result_entry m h0 h1 h2 h3 h4 fx fw fk r o)
  pointwise

omit h0 h1 h2 h3 h4 fx fw fk

/-- The kernel's result is the reference's, where the inputs of the scores are finite. -/
theorem algebraic : @Cert.algebraic_KernelIdeal_ReferenceIdeal_pre_finite_KernelIdeal Cert.KernelIdeal.Gen.facts Cert.ReferenceIdeal.Gen.facts preKernel := by
  intro m g m' g' hpre hag
  have fx := real_of_finite preKernel.bcast_S_S1x2048x1024 _ (hpre 0).1
  have fw := real_of_finite preKernel.bcast_S_S1024x16384 _ (hpre 0).2.1
  have fb := fun c : Dev nD => real_of_finite preKernel.bcast_S_S1x2048x8x128 _ (hpre c).2.2
  rw [(hag 0).1] at fx
  rw [(hag 0).2.1] at fw
  have fk := whole_real (m' (((0 : Dev Cert.ReferenceIdeal.nD).tc : Thread Cert.ReferenceIdeal.nD Cert.ReferenceIdeal.τ).loc Cert.ReferenceIdeal.main_arg2)) fun c j h e => by
    have hf := fb c (ix4 0 j h e)
    rw [(hag c).2.2.1] at hf
    have hb := block_apply (m' (((0 : Dev Cert.ReferenceIdeal.nD).tc : Thread Cert.ReferenceIdeal.nD Cert.ReferenceIdeal.τ).loc Cert.ReferenceIdeal.main_arg2)) c j h e
    exact hb.symm.trans (hf.trans (congrArg (fun z : EReal => ((z.toReal : ℝ) : EReal)) hb))
  refine ⟨Cert.ReferenceIdeal.Value.res_main_v49 m' 0, ?_, ?_⟩
  · refine (θ_run _ _ _).mono (fun r h c => ⟨?_, Cert.Frames.arg_kept m r.2.mem c (h.1 c)⟩) (run m g)
    refine (h.1 c (Proc.devRef .tc main_v21) (Finset.mem_filter.mpr ⟨StableHlo.devRef_mem_tcRefs main_v21, by decide⟩)).trans ?_
    rw [Cert.ReferenceIdeal.Stages.res_eq]
    exact v21_eq m (fun c => (hag c).1) (fun c => (hag c).2.1) (fun c => (hag c).2.2.1) (fun c => (hag c).2.2.2.1) (fun c => (hag c).2.2.2.2) fx fw fk c
  · exact (θ_run _ _ _).mono (fun r h => h 0) (Cert.ReferenceIdeal.Value.run m' g')

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Equal.preKernel, Cert.Equal.preReference,
  Cert.Frames.kernel, Cert.Frames.kernelIdeal, fun m g _ => Cert.Frames.kernelIdeal m g trivial,
  Cert.Frames.referenceIdeal, fun m g _ => Cert.Frames.referenceIdeal m g trivial,
  Cert.Frames.preserves, Cert.Equal.algebraic⟩

end Cert.Proof

end
